-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![256, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S256x2048 : Shape := ⟨2, ![256, 2048]⟩
abbrev S2048x128 : Shape := ⟨2, ![2048, 128]⟩
abbrev S128x2048 : Shape := ⟨2, ![128, 2048]⟩
abbrev S3x64x2048 : Shape := ⟨3, ![3, 64, 2048]⟩
abbrev S3x3x64x2048 : Shape := ⟨4, ![3, 3, 64, 2048]⟩
abbrev S3 : Shape := ⟨1, ![3]⟩
abbrev S3x3 : Shape := ⟨2, ![3, 3]⟩
abbrev S_ : Shape := ⟨0, ![]⟩
abbrev S1 : Shape := ⟨1, ![1]⟩
abbrev S1x64x2048 : Shape := ⟨3, ![1, 64, 2048]⟩
abbrev S1x1 : Shape := ⟨2, ![1, 1]⟩
abbrev S1x1x64x2048 : Shape := ⟨4, ![1, 1, 64, 2048]⟩
abbrev S256x128 : Shape := ⟨2, ![256, 128]⟩

abbrev nBuf : Space → Nat
  | .hbm => 8
  | .vmem => 25
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S256x2048, .f32⟩
  | .local _ .vmem, ⟨0, _⟩ => ⟨S64x2048, .f32⟩
  | .local _ .vmem, ⟨1, _⟩ => ⟨S2048x128, .f32⟩
  | .local _ .vmem, ⟨2, _⟩ => ⟨S2048x128, .f32⟩
  | .local _ .vmem, ⟨3, _⟩ => ⟨S128x2048, .f32⟩
  | .local _ .vmem, ⟨4, _⟩ => ⟨S128x2048, .f32⟩
  | .local _ .vmem, ⟨5, _⟩ => ⟨S2048x128, .f32⟩
  | .local _ .vmem, ⟨6, _⟩ => ⟨S2048x128, .f32⟩
  | .local _ .vmem, ⟨7, _⟩ => ⟨S128x2048, .f32⟩
  | .local _ .vmem, ⟨8, _⟩ => ⟨S128x2048, .f32⟩
  | .local _ .vmem, ⟨9, _⟩ => ⟨S2048x128, .f32⟩
  | .local _ .vmem, ⟨10, _⟩ => ⟨S2048x128, .f32⟩
  | .local _ .vmem, ⟨11, _⟩ => ⟨S128x2048, .f32⟩
  | .local _ .vmem, ⟨12, _⟩ => ⟨S128x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S64x2048, .bf16⟩
  | .local _ .vmem, ⟨18, _⟩ => ⟨S3x64x2048, .bf16⟩
  | .local _ .vmem, ⟨19, _⟩ => ⟨S3x3x64x2048, .bf16⟩
  | .local _ .vmem, ⟨20, _⟩ => ⟨S3x3x64x2048, .bf16⟩
  | .local _ .vmem, ⟨21, _⟩ => ⟨S3x64x2048, .bf16⟩
  | .local _ .vmem, ⟨22, _⟩ => ⟨S3x3x64x2048, .bf16⟩
  | .local _ .vmem, ⟨23, _⟩ => ⟨S3x3x64x2048, .bf16⟩
  | .local _ .vmem, ⟨24, _⟩ => ⟨S3x3x64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 2 → Bool
  | ⟨0, _⟩ => false
  | ⟨1, _⟩ => true
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 2 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev barrier0 : Sem sig := 0

abbrev nD : Nat := 4
abbrev τ : Topo := Topo.v7x

variable {F : FTy → Type} [FloatOps F]

abbrev grid0 : Pipeline.Grid := ⟨2, ![3, 32], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v30 : BitVec 32 := Scalar.addi v2 c1_i32_13
  let c4_i32_14 : BitVec 32 := 4#32
  let v31 : BitVec 32 := Scalar.remsi v30 c4_i32_14
  let c1_i32_16 : BitVec 32 := 1#32
  let v32 : BitVec 32 := Scalar.muli v31 c1_i32_16
  let v33 : BitVec 32 := Scalar.addi c0_i32_17 v32
  v33.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_18 : BitVec 32 := 2#32
  let v34 : BitVec 32 := Scalar.addi v2 c2_i32_18
  let c4_i32_19 : BitVec 32 := 4#32
  let v35 : BitVec 32 := Scalar.remsi v34 c4_i32_19
  let c1_i32_21 : BitVec 32 := 1#32
  let v36 : BitVec 32 := Scalar.muli v35 c1_i32_21
  let v37 : BitVec 32 := Scalar.addi c0_i32_22 v36
  v37.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_23 : BitVec 32 := 4#32
  let v39 : BitVec 32 := Scalar.remsi v38 c4_i32_23
  let c1_i32_25 : BitVec 32 := 1#32
  let v40 : BitVec 32 := Scalar.muli v39 c1_i32_25
  let v41 : BitVec 32 := Scalar.addi c0_i32_26 v40
  v41.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v44 : BitVec 32 := Scalar.muli v2 c64_i32
  let v45 : Index := Scalar.indexCast v44
  let c0_30 : Index := 0#32
  ![v45.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v55 : BitVec 32 := Scalar.addi v2 c1_i32_35
  let c4_i32_36 : BitVec 32 := 4#32
  let v56 : BitVec 32 := Scalar.remsi v55 c4_i32_36
  let c1_i32_40 : BitVec 32 := 1#32
  let v57 : BitVec 32 := Scalar.muli v56 c1_i32_40
  let v58 : BitVec 32 := Scalar.addi c0_i32_41 v57
  v58.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let v65 : BitVec 32 := Scalar.addi v2 c2_i32_44
  let c4_i32_45 : BitVec 32 := 4#32
  let v66 : BitVec 32 := Scalar.remsi v65 c4_i32_45
  let c1_i32_49 : BitVec 32 := 1#32
  let v67 : BitVec 32 := Scalar.muli v66 c1_i32_49
  let v68 : BitVec 32 := Scalar.addi c0_i32_50 v67
  v68.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v75 : BitVec 32 := Scalar.addi v2 c3_i32_53
  let c4_i32_54 : BitVec 32 := 4#32
  let v76 : BitVec 32 := Scalar.remsi v75 c4_i32_54
  let c1_i32_58 : BitVec 32 := 1#32
  let v77 : BitVec 32 := Scalar.muli v76 c1_i32_58
  let v78 : BitVec 32 := Scalar.addi c0_i32_59 v77
  v78.toNat
def k0_off2 (d0 : Dev nD) (c0_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v93 : BitVec 32 := Scalar.addi v2 c0_i32_72
  let c1_i32_73 : BitVec 32 := 1#32
  let v94 : BitVec 32 := Scalar.addi v93 c1_i32_73
  let c4_i32_74 : BitVec 32 := 4#32
  let v95 : BitVec 32 := Scalar.remsi v94 c4_i32_74
  let c64_i32_78 : BitVec 32 := 64#32
  let v99 : BitVec 32 := Scalar.muli v95 c64_i32_78
  let v100 : Index := Scalar.indexCast v99
  let c0_79 : Index := 0#32
  ![v100.toNat, 0]
def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let arg0 : BitVec 32 := BitVec.ofNat 32 (i 0).val
  let c1_i32_3 : BitVec 32 := 1#32
  let v9 : BitVec 1 := Scalar.cmpi .sge arg0 c1_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_off3 (i : grid0.Coords) : Fin 2 → Nat :=
  let arg0 : BitVec 32 := BitVec.ofNat 32 (i 0).val
  let c1_i32_13 : BitVec 32 := 1#32
  let v29 : BitVec 32 := Scalar.subi arg0 c1_i32_13
  let c0_i32_16 : BitVec 32 := 0#32
  ![v29.toNat, 0]
def k0_off4 (i : grid0.Coords) : Fin 4 → Nat :=
  let arg0 : BitVec 32 := BitVec.ofNat 32 (i 0).val
  let c1_i32_13 : BitVec 32 := 1#32
  let v29 : BitVec 32 := Scalar.subi arg0 c1_i32_13
  let c0_i32_15 : BitVec 32 := 0#32
  let c0_i32_20 : BitVec 32 := 0#32
  let c0_i32_21 : BitVec 32 := 0#32
  ![v29.toNat, 0, 0, 0]
def k0_off5 (i : grid0.Coords) : Fin 4 → Nat :=
  let arg0 : BitVec 32 := BitVec.ofNat 32 (i 0).val
  let c1_i32_13 : BitVec 32 := 1#32
  let v29 : BitVec 32 := Scalar.subi arg0 c1_i32_13
  let v41 : Index := Scalar.indexCast v29
  let c0_27 : Index := 0#32
  let c0_28 : Index := 0#32
  let c0_29 : Index := 0#32
  ![v41.toNat, 0, 0, 0]
def k0_off6 (d0 : Dev nD) (c0_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : BitVec 32 := Scalar.addi v2 c0_i32_24
  let c1_i32_25 : BitVec 32 := 1#32
  let v39 : BitVec 32 := Scalar.addi v38 c1_i32_25
  let c4_i32_26 : BitVec 32 := 4#32
  let v40 : BitVec 32 := Scalar.remsi v39 c4_i32_26
  let c64_i32 : BitVec 32 := 64#32
  let v45 : BitVec 32 := Scalar.muli v40 c64_i32
  let v46 : Index := Scalar.indexCast v45
  let c0_30 : Index := 0#32
  ![v46.toNat, 0]
def k0_off7 (i : grid0.Coords) : Fin 2 → Nat :=
  let arg0 : BitVec 32 := BitVec.ofNat 32 (i 0).val
  let c1_i32_13 : BitVec 32 := 1#32
  let v29 : BitVec 32 := Scalar.subi arg0 c1_i32_13
  let c1_i32_33 : BitVec 32 := 1#32
  ![v29.toNat, 1]
def k0_off8 (i : grid0.Coords) : Fin 4 → Nat :=
  let arg0 : BitVec 32 := BitVec.ofNat 32 (i 0).val
  let c1_i32_13 : BitVec 32 := 1#32
  let v29 : BitVec 32 := Scalar.subi arg0 c1_i32_13
  let c1_i32_32 : BitVec 32 := 1#32
  let c0_i32_37 : BitVec 32 := 0#32
  let c0_i32_38 : BitVec 32 := 0#32
  ![v29.toNat, 1, 0, 0]
def k0_off9 (i : grid0.Coords) : Fin 4 → Nat :=
  let arg0 : BitVec 32 := BitVec.ofNat 32 (i 0).val
  let c1_i32_13 : BitVec 32 := 1#32
  let v29 : BitVec 32 := Scalar.subi arg0 c1_i32_13
  let v61 : Index := Scalar.indexCast v29
  let c1 : Index := 1#32
  let c0_44 : Index := 0#32
  let c0_45 : Index := 0#32
  ![v61.toNat, 1, 0, 0]
def k0_off10 (i : grid0.Coords) : Fin 2 → Nat :=
  let arg0 : BitVec 32 := BitVec.ofNat 32 (i 0).val
  let c1_i32_13 : BitVec 32 := 1#32
  let v29 : BitVec 32 := Scalar.subi arg0 c1_i32_13
  let c2_i32_50 : BitVec 32 := 2#32
  ![v29.toNat, 2]
def k0_off11 (i : grid0.Coords) : Fin 4 → Nat :=
  let arg0 : BitVec 32 := BitVec.ofNat 32 (i 0).val
  let c1_i32_13 : BitVec 32 := 1#32
  let v29 : BitVec 32 := Scalar.subi arg0 c1_i32_13
  let c2_i32_49 : BitVec 32 := 2#32
  let c0_i32_54 : BitVec 32 := 0#32
  let c0_i32_55 : BitVec 32 := 0#32
  ![v29.toNat, 2, 0, 0]
def k0_off12 (i : grid0.Coords) : Fin 4 → Nat :=
  let arg0 : BitVec 32 := BitVec.ofNat 32 (i 0).val
  let c1_i32_13 : BitVec 32 := 1#32
  let v29 : BitVec 32 := Scalar.subi arg0 c1_i32_13
  let v81 : Index := Scalar.indexCast v29
  let c2 : Index := 2#32
  let c0_61 : Index := 0#32
  let c0_62 : Index := 0#32
  ![v81.toNat, 2, 0, 0]
def k0_cond18 (i : grid0.Coords) : BitVec 1 :=
  let arg1 : BitVec 32 := BitVec.ofNat 32 (i 1).val
  let c16_i32 : BitVec 32 := 16#32
  let v23 : BitVec 1 := Scalar.cmpi .eq arg1 c16_i32
  let v24 : BitVec 32 := Scalar.extui v23
  let c0_i32_11 : BitVec 32 := 0#32
  let v25 : BitVec 1 := Scalar.cmpi .ne v24 c0_i32_11
  v25

def k0_off13 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.addi v2 c1_i32_13
  let c4_i32_14 : BitVec 32 := 4#32
  let v30 : BitVec 32 := Scalar.remsi v29 c4_i32_14
  let c64_i32 : BitVec 32 := 64#32
  let v31 : BitVec 32 := Scalar.muli v30 c64_i32
  let v32 : Index := Scalar.indexCast v31
  let c0_15 : Index := 0#32
  ![v32.toNat, 0]
def k0_off14 (i : grid0.Coords) : Fin 4 → Nat :=
  let arg0 : BitVec 32 := BitVec.ofNat 32 (i 0).val
  let v35 : Index := Scalar.indexCast arg0
  let c0_16 : Index := 0#32
  let c0_17 : Index := 0#32
  let c0_18 : Index := 0#32
  ![v35.toNat, 0, 0, 0]
def k0_off15 (i : grid0.Coords) : Fin 2 → Nat :=
  let arg0 : BitVec 32 := BitVec.ofNat 32 (i 0).val
  let c0_i32_24 : BitVec 32 := 0#32
  ![arg0.toNat, 0]
def k0_off16 (i : grid0.Coords) : Fin 2 → Nat :=
  let arg0 : BitVec 32 := BitVec.ofNat 32 (i 0).val
  let c2_i32_23 : BitVec 32 := 2#32
  ![arg0.toNat, 2]
def k0_off17 (i : grid0.Coords) : Fin 4 → Nat :=
  let arg0 : BitVec 32 := BitVec.ofNat 32 (i 0).val
  let c2_i32_22 : BitVec 32 := 2#32
  let c0_i32_27 : BitVec 32 := 0#32
  let c0_i32_28 : BitVec 32 := 0#32
  ![arg0.toNat, 2, 0, 0]
def k0_off18 (i : grid0.Coords) : Fin 4 → Nat :=
  let arg0 : BitVec 32 := BitVec.ofNat 32 (i 0).val
  let c0_i32_21 : BitVec 32 := 0#32
  let c0_i32_29 : BitVec 32 := 0#32
  let c0_i32_30 : BitVec 32 := 0#32
  ![arg0.toNat, 0, 0, 0]
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v39 : BitVec 32 := Scalar.addi v2 c1_i32_19
  let c4_i32_20 : BitVec 32 := 4#32
  let v40 : BitVec 32 := Scalar.remsi v39 c4_i32_20
  let c1_i32_25 : BitVec 32 := 1#32
  let v41 : BitVec 32 := Scalar.muli v40 c1_i32_25
  let v42 : BitVec 32 := Scalar.addi c0_i32_26 v41
  v42.toNat
def k0_off19 (i : grid0.Coords) : Fin 4 → Nat :=
  let arg0 : BitVec 32 := BitVec.ofNat 32 (i 0).val
  let v57 : Index := Scalar.indexCast arg0
  let c1 : Index := 1#32
  let c0_35 : Index := 0#32
  let c0_36 : Index := 0#32
  ![v57.toNat, 1, 0, 0]
def k0_off20 (i : grid0.Coords) : Fin 2 → Nat :=
  let arg0 : BitVec 32 := BitVec.ofNat 32 (i 0).val
  let c1_i32_42 : BitVec 32 := 1#32
  ![arg0.toNat, 1]
def k0_off21 (i : grid0.Coords) : Fin 4 → Nat :=
  let arg0 : BitVec 32 := BitVec.ofNat 32 (i 0).val
  let c1_i32_40 : BitVec 32 := 1#32
  let c0_i32_45 : BitVec 32 := 0#32
  let c0_i32_46 : BitVec 32 := 0#32
  ![arg0.toNat, 1, 0, 0]
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v61 : BitVec 32 := Scalar.addi v2 c2_i32_37
  let c4_i32_38 : BitVec 32 := 4#32
  let v62 : BitVec 32 := Scalar.remsi v61 c4_i32_38
  let c1_i32_43 : BitVec 32 := 1#32
  let v63 : BitVec 32 := Scalar.muli v62 c1_i32_43
  let v64 : BitVec 32 := Scalar.addi c0_i32_44 v63
  v64.toNat
def k0_off22 (i : grid0.Coords) : Fin 4 → Nat :=
  let arg0 : BitVec 32 := BitVec.ofNat 32 (i 0).val
  let v79 : Index := Scalar.indexCast arg0
  let c2 : Index := 2#32
  let c0_52 : Index := 0#32
  let c0_53 : Index := 0#32
  ![v79.toNat, 2, 0, 0]
def k0_dev9 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v83 : BitVec 32 := Scalar.addi v2 c3_i32_54
  let c4_i32_55 : BitVec 32 := 4#32
  let v84 : BitVec 32 := Scalar.remsi v83 c4_i32_55
  let c1_i32_60 : BitVec 32 := 1#32
  let v85 : BitVec 32 := Scalar.muli v84 c1_i32_60
  let v86 : BitVec 32 := Scalar.addi c0_i32_61 v85
  v86.toNat
def k0_cond19 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_12 : BitVec 32 := 0#32
  let v28 : BitVec 1 := Scalar.cmpi .ne v27 c0_i32_12
  v28

def k0_off23 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.addi v2 c1_i32_13
  let c4_i32_14 : BitVec 32 := 4#32
  let v30 : BitVec 32 := Scalar.remsi v29 c4_i32_14
  let c64_i32 : BitVec 32 := 64#32
  let v31 : BitVec 32 := Scalar.muli v30 c64_i32
  let v32 : Index := Scalar.indexCast v31
  let c0_15 : Index := 0#32
  ![v32.toNat, 0]
def k0_off24 (i : grid0.Coords) : Fin 4 → Nat :=
  let arg0 : BitVec 32 := BitVec.ofNat 32 (i 0).val
  let v35 : Index := Scalar.indexCast arg0
  let c0_16 : Index := 0#32
  let c0_17 : Index := 0#32
  let c0_18 : Index := 0#32
  ![v35.toNat, 0, 0, 0]
def k0_off25 (i : grid0.Coords) : Fin 2 → Nat :=
  let arg0 : BitVec 32 := BitVec.ofNat 32 (i 0).val
  let c0_i32_24 : BitVec 32 := 0#32
  ![arg0.toNat, 0]
def k0_off26 (i : grid0.Coords) : Fin 2 → Nat :=
  let arg0 : BitVec 32 := BitVec.ofNat 32 (i 0).val
  let c2_i32_23 : BitVec 32 := 2#32
  ![arg0.toNat, 2]
def k0_off27 (i : grid0.Coords) : Fin 4 → Nat :=
  let arg0 : BitVec 32 := BitVec.ofNat 32 (i 0).val
  let c2_i32_22 : BitVec 32 := 2#32
  let c0_i32_27 : BitVec 32 := 0#32
  let c0_i32_28 : BitVec 32 := 0#32
  ![arg0.toNat, 2, 0, 0]
def k0_off28 (i : grid0.Coords) : Fin 4 → Nat :=
  let arg0 : BitVec 32 := BitVec.ofNat 32 (i 0).val
  let c0_i32_21 : BitVec 32 := 0#32
  let c0_i32_29 : BitVec 32 := 0#32
  let c0_i32_30 : BitVec 32 := 0#32
  ![arg0.toNat, 0, 0, 0]
def k0_dev10 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v39 : BitVec 32 := Scalar.addi v2 c1_i32_19
  let c4_i32_20 : BitVec 32 := 4#32
  let v40 : BitVec 32 := Scalar.remsi v39 c4_i32_20
  let c1_i32_25 : BitVec 32 := 1#32
  let v41 : BitVec 32 := Scalar.muli v40 c1_i32_25
  let v42 : BitVec 32 := Scalar.addi c0_i32_26 v41
  v42.toNat
def k0_off29 (i : grid0.Coords) : Fin 4 → Nat :=
  let arg0 : BitVec 32 := BitVec.ofNat 32 (i 0).val
  let v57 : Index := Scalar.indexCast arg0
  let c1 : Index := 1#32
  let c0_35 : Index := 0#32
  let c0_36 : Index := 0#32
  ![v57.toNat, 1, 0, 0]
def k0_off30 (i : grid0.Coords) : Fin 2 → Nat :=
  let arg0 : BitVec 32 := BitVec.ofNat 32 (i 0).val
  let c1_i32_42 : BitVec 32 := 1#32
  ![arg0.toNat, 1]
def k0_off31 (i : grid0.Coords) : Fin 4 → Nat :=
  let arg0 : BitVec 32 := BitVec.ofNat 32 (i 0).val
  let c1_i32_40 : BitVec 32 := 1#32
  let c0_i32_45 : BitVec 32 := 0#32
  let c0_i32_46 : BitVec 32 := 0#32
  ![arg0.toNat, 1, 0, 0]
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v61 : BitVec 32 := Scalar.addi v2 c2_i32_37
  let c4_i32_38 : BitVec 32 := 4#32
  let v62 : BitVec 32 := Scalar.remsi v61 c4_i32_38
  let c1_i32_43 : BitVec 32 := 1#32
  let v63 : BitVec 32 := Scalar.muli v62 c1_i32_43
  let v64 : BitVec 32 := Scalar.addi c0_i32_44 v63
  v64.toNat
def k0_off32 (i : grid0.Coords) : Fin 4 → Nat :=
  let arg0 : BitVec 32 := BitVec.ofNat 32 (i 0).val
  let v79 : Index := Scalar.indexCast arg0
  let c2 : Index := 2#32
  let c0_52 : Index := 0#32
  let c0_53 : Index := 0#32
  ![v79.toNat, 2, 0, 0]
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v83 : BitVec 32 := Scalar.addi v2 c3_i32_54
  let c4_i32_55 : BitVec 32 := 4#32
  let v84 : BitVec 32 := Scalar.remsi v83 c4_i32_55
  let c1_i32_60 : BitVec 32 := 1#32
  let v85 : BitVec 32 := Scalar.muli v84 c1_i32_60
  let v86 : BitVec 32 := Scalar.addi c0_i32_61 v85
  v86.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_126 : BitVec 32 := 64#32
  let v143 : BitVec 32 := Scalar.muli v2 c64_i32_126
  let v144 : Index := Scalar.indexCast v143
  let c0_127 : Index := 0#32
  ![v144.toNat, 0]
def k0_cond20 (i : grid0.Coords) : BitVec 1 :=
  let arg0 : BitVec 32 := BitVec.ofNat 32 (i 0).val
  let c2_i32_148 : BitVec 32 := 2#32
  let v180 : BitVec 1 := Scalar.cmpi .slt arg0 c2_i32_148
  let v181 : BitVec 32 := Scalar.extui v180
  let c0_i32_149 : BitVec 32 := 0#32
  let v182 : BitVec 1 := Scalar.cmpi .ne v181 c0_i32_149
  v182

def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_189 : BitVec 32 := 64#32
  let v230 : BitVec 32 := Scalar.muli v2 c64_i32_189
  let v231 : Index := Scalar.indexCast v230
  let c0_190 : Index := 0#32
  ![v231.toNat, 0]
def k0_cond21 (i : grid0.Coords) : BitVec 1 :=
  let arg0 : BitVec 32 := BitVec.ofNat 32 (i 0).val
  let c2_i32_150 : BitVec 32 := 2#32
  let v183 : BitVec 1 := Scalar.cmpi .eq arg0 c2_i32_150
  let v184 : BitVec 32 := Scalar.extui v183
  let c0_i32_151 : BitVec 32 := 0#32
  let v185 : BitVec 1 := Scalar.cmpi .ne v184 c0_i32_151
  v185

def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_189 : BitVec 32 := 64#32
  let v230 : BitVec 32 := Scalar.muli v2 c64_i32_189
  let v231 : Index := Scalar.indexCast v230
  let c0_190 : Index := 0#32
  ![v231.toNat, 0]
def k0_off36 (i : grid0.Coords) : Fin 3 → Nat :=
  let arg0 : BitVec 32 := BitVec.ofNat 32 (i 0).val
  let v187 : Index := Scalar.indexCast arg0
  let c0_152 : Index := 0#32
  let c0_153 : Index := 0#32
  ![v187.toNat, 0, 0]
def k0_off37 (i : grid0.Coords) : Fin 3 → Nat :=
  let arg0 : BitVec 32 := BitVec.ofNat 32 (i 0).val
  let c0_i32_163 : BitVec 32 := 0#32
  let c0_i32_164 : BitVec 32 := 0#32
  ![arg0.toNat, 0, 0]
def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_154 : BitVec 32 := 1#32
  let v191 : BitVec 32 := Scalar.addi v2 c1_i32_154
  let c4_i32_155 : BitVec 32 := 4#32
  let v192 : BitVec 32 := Scalar.remsi v191 c4_i32_155
  let c1_i32_159 : BitVec 32 := 1#32
  let v193 : BitVec 32 := Scalar.muli v192 c1_i32_159
  let v194 : BitVec 32 := Scalar.addi c0_i32_160 v193
  v194.toNat
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_165 : BitVec 32 := 2#32
  let v203 : BitVec 32 := Scalar.addi v2 c2_i32_165
  let c4_i32_166 : BitVec 32 := 4#32
  let v204 : BitVec 32 := Scalar.remsi v203 c4_i32_166
  let c1_i32_170 : BitVec 32 := 1#32
  let v205 : BitVec 32 := Scalar.muli v204 c1_i32_170
  let v206 : BitVec 32 := Scalar.addi c0_i32_171 v205
  v206.toNat
def k0_dev15 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_176 : BitVec 32 := 3#32
  let v215 : BitVec 32 := Scalar.addi v2 c3_i32_176
  let c4_i32_177 : BitVec 32 := 4#32
  let v216 : BitVec 32 := Scalar.remsi v215 c4_i32_177
  let c1_i32_181 : BitVec 32 := 1#32
  let v217 : BitVec 32 := Scalar.muli v216 c1_i32_181
  let v218 : BitVec 32 := Scalar.addi c0_i32_182 v217
  v218.toNat
def k0_cond22 (i : grid0.Coords) : BitVec 1 :=
  let arg0 : BitVec 32 := BitVec.ofNat 32 (i 0).val
  let c2_i32_187 : BitVec 32 := 2#32
  let v227 : BitVec 1 := Scalar.cmpi .eq arg0 c2_i32_187
  let v228 : BitVec 32 := Scalar.extui v227
  let c0_i32_188 : BitVec 32 := 0#32
  let v229 : BitVec 1 := Scalar.cmpi .ne v228 c0_i32_188
  v229

def k0_off38 (d0 : Dev nD) (c0_i32_203 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c0_i32_203
  let c1_i32_204 : BitVec 32 := 1#32
  let v239 : BitVec 32 := Scalar.addi v238 c1_i32_204
  let c4_i32_205 : BitVec 32 := 4#32
  let v240 : BitVec 32 := Scalar.remsi v239 c4_i32_205
  let c64_i32_210 : BitVec 32 := 64#32
  let v244 : BitVec 32 := Scalar.muli v240 c64_i32_210
  let v245 : Index := Scalar.indexCast v244
  let c0_211 : Index := 0#32
  ![v245.toNat, 0]
def k0_dev16 (d0 : Dev nD) : Nat :=
  let c0_i32_682_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_678_r0 : BitVec 32 := 1#32
  let v516_r0 : BitVec 32 := Scalar.addi v2 c1_i32_678_r0
  let c4_i32_679_r0 : BitVec 32 := 4#32
  let v517_r0 : BitVec 32 := Scalar.remsi v516_r0 c4_i32_679_r0
  let c1_i32_681_r0 : BitVec 32 := 1#32
  let v518_r0 : BitVec 32 := Scalar.muli v517_r0 c1_i32_681_r0
  let v519_r0 : BitVec 32 := Scalar.addi c0_i32_682_r0 v518_r0
  v519_r0.toNat
def k0_dev17 (d0 : Dev nD) : Nat :=
  let c0_i32_687_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_683_r0 : BitVec 32 := 2#32
  let v520_r0 : BitVec 32 := Scalar.addi v2 c2_i32_683_r0
  let c4_i32_684_r0 : BitVec 32 := 4#32
  let v521_r0 : BitVec 32 := Scalar.remsi v520_r0 c4_i32_684_r0
  let c1_i32_686_r0 : BitVec 32 := 1#32
  let v522_r0 : BitVec 32 := Scalar.muli v521_r0 c1_i32_686_r0
  let v523_r0 : BitVec 32 := Scalar.addi c0_i32_687_r0 v522_r0
  v523_r0.toNat
def k0_dev18 (d0 : Dev nD) : Nat :=
  let c0_i32_692_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_688_r0 : BitVec 32 := 3#32
  let v524_r0 : BitVec 32 := Scalar.addi v2 c3_i32_688_r0
  let c4_i32_689_r0 : BitVec 32 := 4#32
  let v525_r0 : BitVec 32 := Scalar.remsi v524_r0 c4_i32_689_r0
  let c1_i32_691_r0 : BitVec 32 := 1#32
  let v526_r0 : BitVec 32 := Scalar.muli v525_r0 c1_i32_691_r0
  let v527_r0 : BitVec 32 := Scalar.addi c0_i32_692_r0 v526_r0
  v527_r0.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c31_i32 : BitVec 32 := 31#32
  let v2 : BitVec 32 := Scalar.select v1 arg1 c31_i32
  let c0_i32 : BitVec 32 := 0#32
  let v3 : BitVec 32 := Scalar.select v0 c0_i32 v2
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c31_i32 : BitVec 32 := 31#32
  let v2 : BitVec 32 := Scalar.select v1 arg1 c31_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S256x2048 : Shape := ⟨2, ![256, 2048]⟩
abbrev S2048x16384 : Shape := ⟨2, ![2048, 16384]⟩
abbrev S16384x2048 : Shape := ⟨2, ![16384, 2048]⟩
abbrev S256x16384 : Shape := ⟨2, ![256, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x2048, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x2048, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Contents.lean ====
/-
What the buffers hold while the kernel runs.

A device is one of four, arranged in a ring by number.  `peer c k` is the device `k + 1` places after `c`; counted from
there, `c` is `rev k` places after it.  A 256 × 2048 array is four blocks of 64 rows, block `d` belonging to device `d`.

The definitions below follow the kernel layer by layer: `acc` is what the two accumulators hold after each tile, `red` the sum of
the own rows with the six blocks the peers sent, and `XL l c` the array that enters layer `l` on device `c`.
Blocks received from a peer went through the narrow format, the own block did not.
-/
module

public import proofs.«01_k».proof.Proof.Gen.KernelIdeal
public import proofs.«01_k».proof.Proof.Gen.KernelIdeal.Skeleton
public import Idealize.ShloMosaic.Lib.Memref
public import Idealize.ShloMosaic.Lib.Tactic
public import Idealize.ShloMosaic.Lib.Pointwise.Reshape

@[expose] public section

noncomputable section

namespace Cert.RingMlp

open Cert.KernelIdeal Cert.KernelIdeal.Gen
open Idealize.ShloMosaic Idealize.ShloMosaic.TcCoe

variable {F : FTy → Type} [FloatOps F]

/-! ## The ring -/

/-- The device `k + 1` places after `c`. -/
def peer (c : Dev nD) (k : Fin 3) : Dev nD := ⟨(c.val + k.val + 1) % 4, Nat.mod_lt _ (by decide)⟩

/-- The number of the way back: `c` is `rev k + 1` places after `peer c k`. -/
def rev (k : Fin 3) : Fin 3 := ⟨2 - k.val, by omega⟩

theorem peer_rev : ∀ (c : Dev nD) (k : Fin 3), peer (peer c k) (rev k) = c := by decide
theorem rev_rev : ∀ k : Fin 3, rev (rev k) = k := by decide
theorem peer_ne : ∀ (c : Dev nD) (k : Fin 3), peer c k ≠ c := by decide
theorem peer_peer_rev (c : Dev nD) (k : Fin 3) : peer (peer c (rev k)) k = c := by
  have := peer_rev c (rev k); rwa [rev_rev] at this
theorem peer_inj : ∀ (k : Fin 3) (c d : Dev nD), peer c k = peer d k → c = d := by decide
theorem peer_cover : ∀ (c d : Dev nD), d = c ∨ d = peer c 0 ∨ d = peer c 1 ∨ d = peer c 2 := by decide

/-! ## Blocks of rows -/

theorem rows_inb (d : Dev nD) : ∀ a, (![64 * d.val, 0] : Fin 2 → Nat) a + S64x2048.size a ≤ S256x2048.size a := by
  have h : d.val < 4 := d.isLt
  intro a; fin_cases a
  · show 64 * d.val + 64 ≤ 256; omega
  · show 0 + 2048 ≤ 2048; omega

/-- The 64 rows of device `d`. -/
abbrev rowR (d : Dev nD) : Rect S256x2048 := Rect.unit (s := S256x2048) ![64 * d.val, 0] S64x2048.size (rows_inb d)

/-- Device `d`'s rows of a 256 × 2048 array. -/
def rows {α : Type} (d : Dev nD) (X : S256x2048.Idx → α) : S64x2048.Idx → α := fun j => X ((rowR d).emb j)

theorem rowR_emb0 (d : Dev nD) (j : S64x2048.Idx) : (((rowR d).emb j) 0).val = 64 * d.val + (j 0).val := by
  show 64 * d.val + 1 * (j 0).val = _; omega
theorem rowR_emb1 (d : Dev nD) (j : S64x2048.Idx) : (((rowR d).emb j) 1).val = (j 1).val := by
  show 0 + 1 * (j 1).val = _; omega

/-- The device whose rows an index lies in. -/
def devOf (i : S256x2048.Idx) : Dev nD := ⟨(i 0).val / 64, by have : (i 0).val < 256 := (i 0).isLt; show _ < 4; omega⟩
/-- Its place among them. -/
def inBlk (i : S256x2048.Idx) : S64x2048.Idx :=
  fun a => match a with
    | ⟨0, _⟩ => ⟨(i 0).val % 64, by show _ < 64; omega⟩
    | ⟨1, _⟩ => ⟨(i 1).val, (i 1).isLt⟩

theorem emb_devOf (i : S256x2048.Idx) : (rowR (devOf i)).emb (inBlk i) = i := by
  funext a
  apply Fin.ext
  match a with
  | ⟨0, _⟩ => exact (rowR_emb0 _ _).trans (by show 64 * ((i 0).val / 64) + (i 0).val % 64 = (i 0).val; omega)
  | ⟨1, _⟩ => exact (rowR_emb1 _ _).trans rfl

theorem devOf_emb (d : Dev nD) (j : S64x2048.Idx) : devOf ((rowR d).emb j) = d := by
  apply Fin.ext
  show (((rowR d).emb j) 0).val / 64 = d.val
  rw [rowR_emb0]
  have : (j 0).val < 64 := (j 0).isLt
  omega

theorem inBlk_emb (d : Dev nD) (j : S64x2048.Idx) : inBlk ((rowR d).emb j) = j := by
  have h := emb_devOf ((rowR d).emb j)
  rw [devOf_emb] at h
  exact (rowR d).emb.injective h

/-- The 256 × 2048 array put together from one block per device. -/
def asm {α : Type} (f : Dev nD → S64x2048.Idx → α) : S256x2048.Idx → α := fun i => f (devOf i) (inBlk i)

theorem rows_asm {α : Type} (f : Dev nD → S64x2048.Idx → α) (d : Dev nD) : rows d (asm f) = f d := by
  funext j; unfold rows asm; rw [devOf_emb, inBlk_emb]

theorem eq_asm {α : Type} {X : S256x2048.Idx → α} {f : Dev nD → S64x2048.Idx → α} (h : ∀ d, rows d X = f d) : X = asm f := by
  funext i
  have := congrFun (h (devOf i)) (inBlk i)
  unfold rows at this; rw [emb_devOf] at this; exact this

/-- The array with device `d`'s rows replaced by a block. -/
def put {α : Type} (d : Dev nD) (X : S256x2048.Idx → α) (Y : S64x2048.Idx → α) : S256x2048.Idx → α :=
  fun i => if devOf i = d then Y (inBlk i) else X i

theorem rows_put {α : Type} (d : Dev nD) (X : S256x2048.Idx → α) (Y : S64x2048.Idx → α) : rows d (put d X Y) = Y := by
  funext j; unfold rows put; rw [devOf_emb, inBlk_emb, if_pos rfl]

theorem rows_put_ne {α : Type} {d d' : Dev nD} (h : d' ≠ d) (X : S256x2048.Idx → α) (Y : S64x2048.Idx → α) :
    rows d' (put d X Y) = rows d' X := by
  funext j; unfold rows put; rw [devOf_emb, if_neg h]

/-- Storing a block over a device's rows is `put`. -/
theorem overlay_rows {α : Type} (d : Dev nD) (X : S256x2048.Idx → α) (Y : (rowR d).shape.Idx → α) :
    (rowR d).overlay X Y = put d X Y := by
  funext i
  by_cases h : devOf i = d
  · subst h
    have h1 := Rect.overlay_emb (rowR (devOf i)) X Y (inBlk i)
    rw [emb_devOf] at h1
    rw [h1]; unfold put; rw [if_pos rfl]
  · unfold put
    rw [if_neg h]
    refine Rect.overlay_of_not_mem (rowR d) X Y fun hm => h ?_
    rw [← Rect.map_emb_univ] at hm
    obtain ⟨j, -, hj⟩ := Finset.mem_map.mp hm
    rw [← hj]; exact devOf_emb d j

/-! ## One layer -/

/-- A block in the narrow format, as it travels. -/
def tr (Y : FVec F S64x2048 .f32) : FVec F S64x2048 .bf16 := truncf .bf16 Y bitsLt_bf16_f32
/-- And back in the wide one. -/
def ex (Y : FVec F S64x2048 .bf16) : FVec F S64x2048 .f32 := extf .f32 Y bitsLt_bf16_f32
/-- A block with one leading axis of length one. -/
def up3 (X : FVec F S64x2048 .bf16) : FVec F S1x64x2048 .bf16 := shapeCast S1x64x2048 X shapeCasts_S64x2048_S1x64x2048
/-- A block with two leading axes of length one. -/
def up4 (X : FVec F S64x2048 .bf16) : FVec F S1x1x64x2048 .bf16 := shapeCast S1x1x64x2048 X shapeCasts_S64x2048_S1x1x64x2048

/-- What the accumulators hold after tile `r`: tiles 0–15 add up in the first, tiles 16–31 in the second. -/
def acc (X : FVec F S256x2048 .f32) (W : ℕ → FVec F S2048x128 .f32) (V : ℕ → FVec F S128x2048 .f32) : ℕ → FVec F S256x2048 .f32
  | 0 => k0_pay5 X (W 0) (V 0)
  | r + 1 => if r + 1 = 16 then k0_pay5 X (W (r + 1)) (V (r + 1)) else k0_pay6 X (W (r + 1)) (V (r + 1)) (acc X W V r)

/-- The own rows of the finished sum: the two own partial sums, and the three blocks of each half the peers sent. -/
def sumUp (a b : FVec F S64x2048 .f32) (s t : Fin 3 → FVec F S64x2048 .bf16) : FVec F S64x2048 .f32 :=
  k0_pay37 (k0_pay34 a b (up4 (s 0)) (up4 (s 1)) (up4 (s 2))) (k0_pay35 (up4 (t 0)) (up4 (t 1))) (k0_pay36 (up4 (t 2)))

/-- The data the launch gives the kernel: the device's rows of `x`, and tile `n` of its share of layer `l`'s two weights. -/
structure Inp (F : FTy → Type) where
  x : Dev nD → FVec F S64x2048 .f32
  wi : Fin 3 → Dev nD → ℕ → FVec F S2048x128 .f32
  wo : Fin 3 → Dev nD → ℕ → FVec F S128x2048 .f32

variable (D : Inp F)

/-- Partial sums of the layer whose input on device `c` is `X c`. -/
def accOf (X : Dev nD → FVec F S256x2048 .f32) (l : Fin 3) (c : Dev nD) (r : ℕ) : FVec F S256x2048 .f32 :=
  acc (X c) (D.wi l c) (D.wo l c) r

def redOf (X : Dev nD → FVec F S256x2048 .f32) (l : Fin 3) (c : Dev nD) : FVec F S64x2048 .f32 :=
  sumUp (rows c (accOf D X l c 15)) (rows c (accOf D X l c 31))
    (fun j => tr (rows c (accOf D X l (peer c j) 15))) (fun j => tr (rows c (accOf D X l (peer c j) 31)))

/-- An array on device `c`: its own block as it is, the others' as they arrive. -/
def gather (f : Dev nD → FVec F S64x2048 .f32) (c : Dev nD) : FVec F S256x2048 .f32 :=
  asm fun p => if p = c then f p else ex (tr (f p))

/-- The number as a layer's (0 beyond). -/
def lay (l : ℕ) : Fin 3 := ⟨l % 3, Nat.mod_lt _ (by decide)⟩
theorem lay_val (l : Fin 3) : lay l.val = l := Fin.ext (Nat.mod_eq_of_lt l.isLt)

/-- The array entering layer `l` on device `c`. -/
def XL : ℕ → Dev nD → FVec F S256x2048 .f32
  | 0 => gather D.x
  | l + 1 => gather (redOf D (XL l) (lay l))

/-- The partial sums of layer `l`. -/
def accL (l : Fin 3) (c : Dev nD) (r : ℕ) : FVec F S256x2048 .f32 := accOf D (XL D l.val) l c r
/-- The finished own rows of layer `l`. -/
def redL (l : Fin 3) (c : Dev nD) : FVec F S64x2048 .f32 := redOf D (XL D l.val) l c

theorem XL_succ (l : Fin 3) (c : Dev nD) : XL D (l.val + 1) c = gather (redL D l) c := by
  show gather (redOf D (XL D l.val) (lay l.val)) c = _
  rw [lay_val]; rfl

theorem redL_eq (l : Fin 3) (c : Dev nD) : redL D l c
    = sumUp (rows c (accL D l c 15)) (rows c (accL D l c 31))
      (fun j => tr (rows c (accL D l (peer c j) 15))) (fun j => tr (rows c (accL D l (peer c j) 31))) := rfl

/-- The own block stored over, then the three received ones: the gathered array, whatever stood there before. -/
theorem gather_of_rows (f : Dev nD → FVec F S64x2048 .f32) (c : Dev nD) (X : FVec F S256x2048 .f32)
    (h : rows c X = f c) (h' : ∀ k, rows (peer c k) X = ex (tr (f (peer c k)))) : X = gather f c :=
  eq_asm fun d => by
    rcases peer_cover c d with rfl | rfl | rfl | rfl
    · rw [if_pos rfl, h]
    · rw [if_neg (peer_ne _ _), h']
    · rw [if_neg (peer_ne _ _), h']
    · rw [if_neg (peer_ne _ _), h']

theorem gather_of_stores (f : Dev nD → FVec F S64x2048 .f32) (c : Dev nD) (X : FVec F S256x2048 .f32) (h : rows c X = f c) :
    put (peer c 2) (put (peer c 1) (put (peer c 0) X (ex (tr (f (peer c 0))))) (ex (tr (f (peer c 1))))) (ex (tr (f (peer c 2))))
      = gather f c := by
  have n1 : ∀ c, peer c 0 ≠ peer c 1 := by decide
  have n2 : ∀ c, peer c 0 ≠ peer c 2 := by decide
  have n3 : ∀ c, peer c 1 ≠ peer c 2 := by decide
  refine gather_of_rows f c _ ?_ ?_
  · rw [rows_put_ne (peer_ne c 2).symm, rows_put_ne (peer_ne c 1).symm, rows_put_ne (peer_ne c 0).symm, h]
  · intro k
    match k with
    | ⟨0, _⟩ => exact (rows_put_ne (n2 c) _ _).trans ((rows_put_ne (n1 c) _ _).trans (rows_put _ _ _))
    | ⟨1, _⟩ => exact (rows_put_ne (n3 c) _ _).trans (rows_put _ _ _)
    | ⟨2, _⟩ => exact rows_put _ _ _

/-! ## The payloads in these words -/

theorem cast_self {s : Shape} {α : Type} (X : s.Idx → α) (h : s.ShapeCasts s) : shapeCast s X h = X := shapeCast_id X h
theorem cast_up3 (X : FVec F S64x2048 .bf16) : shapeCast S64x2048 (up3 X) shapeCasts_S1x64x2048_S64x2048 = X := by
  unfold up3; rw [shapeCast_comp]; exact shapeCast_id _ _
theorem cast_up4 (X : FVec F S64x2048 .bf16) : shapeCast S64x2048 (up4 X) shapeCasts_S1x1x64x2048_S64x2048 = X := by
  unfold up4; rw [shapeCast_comp]; exact shapeCast_id _ _

theorem pay19_eq (X : FVec F S64x2048 .f32) : k0_pay19 X = X := (cast_self _ _).trans (cast_self _ _)
theorem pay20_eq (X : FVec F S64x2048 .f32) : k0_pay20 X = tr X :=
  (cast_self _ _).trans (congrArg tr (cast_self X shapeCasts_S64x2048_S64x2048))
theorem pay21_eq (X : FVec F S64x2048 .bf16) : k0_pay21 (up3 X) = ex X := (cast_self _ _).trans (congrArg ex (cast_up3 X))
theorem pay1_eq (X : FVec F S64x2048 .bf16) : k0_pay1 (up3 X) = ex X := pay21_eq X
theorem pay2_eq (X : FVec F S64x2048 .bf16) : k0_pay2 (up3 X) = ex X := pay21_eq X
theorem pay22_eq (X : FVec F S64x2048 .bf16) : k0_pay22 (up4 X) = ex X := (cast_self _ _).trans (congrArg ex (cast_up4 X))
theorem pay23_eq (X : FVec F S64x2048 .bf16) : k0_pay23 (up4 X) = ex X := pay22_eq X
theorem pay24_eq (X : FVec F S64x2048 .bf16) : k0_pay24 (up4 X) = ex X := congrArg ex (cast_up4 X)
theorem pay3_eq (X : FVec F S64x2048 .f32) : k0_pay3 X = X := cast_self _ _
theorem pay28_eq (X : FVec F S64x2048 .bf16) : k0_pay28 (up4 X) = ex X := pay24_eq X
theorem pay29_eq (X : FVec F S64x2048 .bf16) : k0_pay29 (up4 X) = ex X := pay24_eq X
theorem pay30_eq (X : FVec F S64x2048 .bf16) : k0_pay30 (up4 X) = ex X := pay24_eq X
theorem pay25_eq (X : FVec F S64x2048 .f32) : k0_pay25 X = up4 (tr X) := rfl
theorem pay26_eq (X : FVec F S64x2048 .f32) : k0_pay26 X = up4 (tr X) := rfl
theorem pay27_eq (X : FVec F S64x2048 .f32) : k0_pay27 X = up4 (tr X) := rfl
theorem pay31_eq (X : FVec F S64x2048 .f32) : k0_pay31 X = up4 (tr X) := rfl
theorem pay32_eq (X : FVec F S64x2048 .f32) : k0_pay32 X = up4 (tr X) := rfl
theorem pay33_eq (X : FVec F S64x2048 .f32) : k0_pay33 X = up4 (tr X) := rfl
theorem pay38_eq (a b c : FVec F S64x2048 .f32) : k0_pay38 a b c = k0_pay37 a b c := cast_self _ _
theorem pay39_eq (a b c : FVec F S64x2048 .f32) : k0_pay39 a b c = up3 (tr (k0_pay37 a b c)) := rfl

end Cert.RingMlp
end
-- ==== Proof.Protocol.lean ====
/-
The talk between the devices: which semaphore stands for what, what is handed over with it, and what each device owes.

There are ten exchanges (`Fam`): the opening one, and in each of the three layers three — the first half's partial sums, the second
half's, and the finished rows.  In each, device `c` sends one block to `peer c k` (`k = 0, 1, 2`), into the slot `rev k` there;
its send semaphore `k` tells it that the source may be used again, the peer's receive semaphore `rev k` that the block has arrived.

* Barrier semaphore: each peer adds one unit, and hands over its landing slots meant for this device.  After the wait for three
  units a device may write into all its peers' slots, once each.
* Receive semaphore `j` of an exchange: paid by the copy of `peer c j`; hands over slot `j`, holding `sent` of that device.
* Send semaphore `k`: paid by the own copy; hands the source back.
* Exit semaphore: each peer adds one unit and hands over nothing.

A device waits only for what stands below everything it still owes: the levels are in the order of the kernel's waits.
-/
module

public import proofs.«01_k».proof.Proof.Contents
public import proofs.«01_k».proof.Proof.Gen.KernelIdeal.Launch
public import Idealize.ShloMosaic.Lib.Pipeline.Launch
public import Idealize.ShloMosaic.Lib.Pipeline.Kit

@[expose] public section

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Exchanges, and the buffers they use -/

/-- The exchanges: `x` the opening one, and per layer `a`, `b` (the halves' partial sums) and `g` (the finished rows). -/
inductive Fam where
  | x
  | a (l : Fin 3)
  | b (l : Fin 3)
  | g (l : Fin 3)
deriving DecidableEq

instance : Fintype Fam where
  elems := {.x, .a 0, .a 1, .a 2, .b 0, .b 1, .b 2, .g 0, .g 1, .g 2}
  complete φ := by
    rcases φ with _ | l | l | l
    · decide
    all_goals (revert l; decide)

theorem slot3_inb (j : Fin 3) : ∀ a, (![j.val, 0, 0] : Fin 3 → Nat) a + S1x64x2048.size a ≤ S3x64x2048.size a := by
  have := j.isLt
  intro a; fin_cases a
  · show j.val + 1 ≤ 3; omega
  · show 0 + 64 ≤ 64; omega
  · show 0 + 2048 ≤ 2048; omega
theorem slot4_inb (l j : Fin 3) : ∀ a, (![l.val, j.val, 0, 0] : Fin 4 → Nat) a + S1x1x64x2048.size a ≤ S3x3x64x2048.size a := by
  have := j.isLt; have := l.isLt
  intro a; fin_cases a
  · show l.val + 1 ≤ 3; omega
  · show j.val + 1 ≤ 3; omega
  · show 0 + 64 ≤ 64; omega
  · show 0 + 2048 ≤ 2048; omega

abbrev rect3 (j : Fin 3) : Rect S3x64x2048 := Rect.unit (s := S3x64x2048) ![j.val, 0, 0] S1x64x2048.size (slot3_inb j)
abbrev rect4 (l j : Fin 3) : Rect S3x3x64x2048 := Rect.unit (s := S3x3x64x2048) ![l.val, j.val, 0, 0] S1x1x64x2048.size (slot4_inb l j)

/-- Block `j` of a stack of three. -/
abbrev slot3 (M : Memref sig .tc .vmem S3x64x2048 .bf16) (j : Fin 3) : Memref sig .tc .vmem S64x2048 .bf16 :=
  (M.slice (rect3 j) (fun _ => rfl)).squeeze S64x2048 squeezes_S1x64x2048_S64x2048
/-- Block `(l, j)` of a stack of three by three. -/
abbrev slot4 (M : Memref sig .tc .vmem S3x3x64x2048 .bf16) (l j : Fin 3) : Memref sig .tc .vmem S64x2048 .bf16 :=
  (M.slice (rect4 l j) (fun _ => rfl)).squeeze S64x2048 squeezes_S1x1x64x2048_S64x2048

/-- The source of the copy to `peer c k`. -/
def srcM : Fam → Fin 3 → Memref sig .tc .vmem S64x2048 .bf16
  | .x, _ => Memref.whole cc0_scratch3
  | .a l, k => slot4 (Memref.whole cc0_scratch5) l k
  | .b l, k => slot4 (Memref.whole cc0_scratch6) l k
  | .g l, _ => slot3 (Memref.whole cc0_scratch7) l

/-- The slot the copy of `peer c j` lands in. -/
def dstM : Fam → Fin 3 → Memref sig .tc .vmem S64x2048 .bf16
  | .x, j => slot3 (Memref.whole cc0_scratch4) j
  | .a l, j => slot4 (Memref.whole cc0_scratch8) l j
  | .b l, j => slot4 (Memref.whole cc0_scratch9) l j
  | .g l, j => slot4 (Memref.whole cc0_scratch10) l j

/-- What a copy credits. -/
abbrev N : ℕ := (dstM .x 0).view.dmaCredit
theorem N_pos : 0 < N := View.dmaCredit_pos _ (by decide)
theorem dst_credit (φ : Fam) (j : Fin 3) : (dstM φ j).view.dmaCredit = N := by cases φ <;> rfl
theorem src_credit (φ : Fam) (j : Fin 3) : (srcM φ j).view.dmaCredit = N := by cases φ <;> rfl

/-- The share of its source a copy takes: three copies read the same block in `x` and `g`. -/
def shr : Fam → Fin 3 → PosShare TreeShare
  | .a _, _ | .b _, _ => fullShare
  | .x, 0 | .g _, 0 => fullShare.left
  | .x, 1 | .g _, 1 => fullShare.right.left
  | .x, 2 | .g _, 2 => fullShare.right.right

/-! ## Semaphores -/

/-- The kernel's own semaphores. -/
inductive OCell where
  | exit
  | snd (φ : Fam) (k : Fin 3)
  | rcv (φ : Fam) (j : Fin 3)
deriving DecidableEq

instance : Fintype OCell where
  elems := {.exit} ∪ (Finset.univ.image fun p : Fam × Fin 3 => .snd p.1 p.2) ∪ (Finset.univ.image fun p : Fam × Fin 3 => .rcv p.1 p.2)
  complete o := by
    rcases o with _ | ⟨φ, k⟩ | ⟨φ, k⟩
    · exact Finset.mem_union_left _ (Finset.mem_union_left _ (Finset.mem_singleton_self _))
    · exact Finset.mem_union_left _ (Finset.mem_union_right _ (Finset.mem_image.mpr ⟨(φ, k), Finset.mem_univ _, rfl⟩))
    · exact Finset.mem_union_right _ (Finset.mem_image.mpr ⟨(φ, k), Finset.mem_univ _, rfl⟩)

abbrev barS : Sem sig := (SemArray.scalar (sig.barrier 0 rfl) : Sems sig S_).sem

/-- The number of an exchange's first send semaphore, and the number of its first receive semaphore. -/
def sndBase : Fam → ℕ
  | .x => 14 | .a l => 20 + 3 * l.val | .b l => 38 + 3 * l.val | .g l => 56 + 3 * l.val
def rcvBase : Fam → ℕ
  | .x => 17 | .a l => 29 + 3 * l.val | .b l => 47 + 3 * l.val | .g l => 65 + 3 * l.val

theorem sndBase_lt (φ : Fam) (k : Fin 3) : sndBase φ + k.val < sig.nDmaSem := by
  show _ < 74
  cases φ <;> simp only [sndBase] <;> omega
theorem rcvBase_lt (φ : Fam) (k : Fin 3) : rcvBase φ + k.val < sig.nDmaSem := by
  show _ < 74
  cases φ <;> simp only [rcvBase] <;> omega

def sndS (φ : Fam) (k : Fin 3) : DmaSem sig := ⟨sndBase φ + k.val, sndBase_lt φ k⟩
def rcvS (φ : Fam) (j : Fin 3) : DmaSem sig := ⟨rcvBase φ + j.val, rcvBase_lt φ j⟩
abbrev exitS : Sem sig := cc0_scoped0.sem

def osem : OCell → SemLoc sig
  | .exit => .reg exitS
  | .snd φ k => .dma (sndS φ k)
  | .rcv φ j => .dma (rcvS φ j)

/-- All the semaphores the devices talk through; `none` is the barrier's. -/
abbrev Cell := Option OCell
def csem : Cell → SemLoc sig
  | none => .reg barS
  | some o => osem o

theorem csem_inj : Function.Injective csem := by
  intro p q h
  match p, q with
  | none, none => rfl
  | none, some .exit => exact absurd h (by decide)
  | some .exit, none => exact absurd h (by decide)
  | some .exit, some .exit => rfl
  | none, some (.snd _ _) => cases h
  | none, some (.rcv _ _) => cases h
  | some .exit, some (.snd _ _) => cases h
  | some .exit, some (.rcv _ _) => cases h
  | some (.snd _ _), none => cases h
  | some (.rcv _ _), none => cases h
  | some (.snd _ _), some .exit => cases h
  | some (.rcv _ _), some .exit => cases h
  | some (.snd φ k), some (.snd ψ j) =>
    have h' : sndBase φ + k.val = sndBase ψ + j.val := congrArg Fin.val (SemLoc.dma.inj h)
    have hk := k.isLt; have hj := j.isLt
    cases φ <;> cases ψ <;> simp only [sndBase] at h' <;> first
      | (have e : k = j := Fin.ext (by omega)
         subst e
         rename_i l l'
         have e : l = l' := Fin.ext (by omega)
         subst e; rfl)
      | (have e : k = j := Fin.ext (by omega)
         subst e; rfl)
      | omega
  | some (.rcv φ k), some (.rcv ψ j) =>
    have h' : rcvBase φ + k.val = rcvBase ψ + j.val := congrArg Fin.val (SemLoc.dma.inj h)
    have hk := k.isLt; have hj := j.isLt
    cases φ <;> cases ψ <;> simp only [rcvBase] at h' <;> first
      | (have e : k = j := Fin.ext (by omega)
         subst e
         rename_i l l'
         have e : l = l' := Fin.ext (by omega)
         subst e; rfl)
      | (have e : k = j := Fin.ext (by omega)
         subst e; rfl)
      | omega
  | some (.snd φ k), some (.rcv ψ j) =>
    have h' : sndBase φ + k.val = rcvBase ψ + j.val := congrArg Fin.val (SemLoc.dma.inj h)
    have hk := k.isLt; have hj := j.isLt
    cases φ <;> cases ψ <;> simp only [sndBase, rcvBase] at h' <;> omega
  | some (.rcv φ k), some (.snd ψ j) =>
    have h' : rcvBase φ + k.val = sndBase ψ + j.val := congrArg Fin.val (SemLoc.dma.inj h)
    have hk := k.isLt; have hj := j.isLt
    cases φ <;> cases ψ <;> simp only [sndBase, rcvBase] at h' <;> omega

/-- The cell of device `c`. -/
abbrev cell (c : Dev nD) (k : Cell) : GSem nD τ sig := ((c : Thread nD τ), csem k)
abbrev barC (c : Dev nD) : GSem nD τ sig := cell c none
abbrev exitC (c : Dev nD) : GSem nD τ sig := cell c (some .exit)
abbrev sndC (c : Dev nD) (φ : Fam) (k : Fin 3) : GSem nD τ sig := cell c (some (.snd φ k))
abbrev rcvC (c : Dev nD) (φ : Fam) (j : Fin 3) : GSem nD τ sig := cell c (some (.rcv φ j))

open Classical in
/-- Which of the cells a semaphore is. -/
def decode (s : SemLoc sig) : Option Cell := if h : ∃ k, csem k = s then some h.choose else none

theorem decode_csem (k : Cell) : decode (csem k) = some k := by
  unfold decode
  have h : ∃ k', csem k' = csem k := ⟨k, rfl⟩
  rw [dif_pos h, csem_inj h.choose_spec]

/-! ## The schedule -/

variable (D : Inp F)

/-- What device `p` sends to device `d` in an exchange. -/
def sent : Fam → Dev nD → Dev nD → FVec F S64x2048 .bf16
  | .x, p, _ => tr (D.x p)
  | .a l, p, d => tr (rows d (accL D l p 15))
  | .b l, p, d => tr (rows d (accL D l p 31))
  | .g l, p, _ => tr (redL D l p)

/-- Owning a block with contents. -/
abbrev own (c : Dev nD) {s : Shape} {e : EltTy} (M : Memref sig .tc .vmem s e) (q : PosShare TreeShare) (X : s.Idx → Elt F e) : sProp 𝕄 :=
  owns (c : Thread nD τ) M q X
/-- Owning a block whatever it holds. -/
def any (c : Dev nD) {s : Shape} {e : EltTy} (M : Memref sig .tc .vmem s e) (q : PosShare TreeShare) : sProp 𝕄 :=
  iprop(∃ X : s.Idx → Elt F e, own c M q X)

omit [FloatOps F] in
instance any_storable (c : Dev nD) {s : Shape} {e : EltTy} (M : Memref sig .tc .vmem s e) (q : PosShare TreeShare) :
    BI.Storable (upEmb : UEmb _ 𝕄) (any (F := F) c M q) := by unfold any; infer_instance

/-- The landing slots of `peer c k` meant for `c`. -/
def lands (c : Dev nD) (k : Fin 3) : sProp 𝕄 := bigSep Finset.univ fun φ : Fam => any (F := F) (peer c k) (dstM φ (rev k)) fullShare

/-- What paying duty `d` of a cell of device `c` hands over. -/
def pay (c : Dev nD) : Cell → Fin 3 → sProp 𝕄
  | none, d => lands (F := F) c d
  | some .exit, _ => iprop(emp)
  | some (.snd φ k), _ => own c (srcM φ k) (shr φ k) (sent D φ c (peer c k))
  | some (.rcv φ j), _ => own c (dstM φ j) fullShare (sent D φ (peer c j) c)

instance pay_storable (c : Dev nD) (k : Cell) (d : Fin 3) : BI.Storable (upEmb : UEmb _ 𝕄) (pay D c k d) := by
  cases k with
  | none => unfold pay lands; infer_instance
  | some o => cases o <;> unfold pay <;> infer_instance

def dutiesOf : Cell → Finset (Fin 3)
  | none | some .exit => Finset.univ
  | _ => {0}

def amtOf : SemLoc sig → ℕ
  | .reg _ => 1
  | .dma _ => N

/-- One round: three duties of one unit at the barrier and at the exit, one duty of a copy's credit elsewhere. -/
def Rd : Rounds.Schedule (GSem nD τ sig) (Fin 3) 𝕄 where
  duties g r := if r = 0 ∧ g.1.2 = .tc then (match decode g.2 with | some k => dutiesOf k | none => ∅) else ∅
  unitless _ := False
  amount g _ _ := amtOf g.2
  payload g _ d := match decode g.2 with | some k => pay D g.1.1 k d | none => iprop(emp)
  amount_pos g _ _ _ := by
    cases h : g.2 with
    | reg _ => exact Nat.one_pos
    | dma _ => exact N_pos

instance Rd_payload_storable (g : GSem nD τ sig) (r : ℕ) (d : Fin 3) : BI.Storable (upEmb : UEmb _ 𝕄) ((Rd D).payload g r d) := by
  show BI.Storable upEmb (match decode g.2 with | some k => pay D g.1.1 k d | none => iprop(emp))
  cases decode g.2 <;> infer_instance

theorem duties_cell (c : Dev nD) (k : Cell) : (Rd D).duties (cell c k) 0 = dutiesOf k := by
  show (if 0 = 0 ∧ ((c : Thread nD τ)).2 = .tc then (match decode (csem k) with | some k => dutiesOf k | none => ∅) else ∅) = _
  rw [if_pos ⟨rfl, rfl⟩, decode_csem]
theorem duties_later (g : GSem nD τ sig) : ∀ r, 1 ≤ r → (Rd D).duties g r = ∅ := fun r hr => by
  dsimp only [Rd]; rw [if_neg fun h => by omega]
theorem payload_cell (c : Dev nD) (k : Cell) (d : Fin 3) : (Rd D).payload (cell c k) 0 d = pay D c k d := by
  show (match decode (csem k) with | some k => pay D c k d | none => iprop(emp)) = _
  rw [decode_csem]

theorem expect_bar (c : Dev nD) : (Rd D).expect (barC c) 0 = 3 := by
  unfold Schedule.expect Schedule.amountOf
  rw [duties_cell]; rfl
theorem expect_exit (c : Dev nD) : (Rd D).expect (exitC c) 0 = 3 := by
  unfold Schedule.expect Schedule.amountOf
  rw [duties_cell]; rfl
theorem expect_snd (c : Dev nD) (φ : Fam) (k : Fin 3) : (Rd D).expect (sndC c φ k) 0 = N := by
  unfold Schedule.expect Schedule.amountOf
  rw [duties_cell]; show ∑ d ∈ {0}, _ = _; rw [Finset.sum_singleton]; rfl
theorem expect_rcv (c : Dev nD) (φ : Fam) (j : Fin 3) : (Rd D).expect (rcvC c φ j) 0 = N := by
  unfold Schedule.expect Schedule.amountOf
  rw [duties_cell]; show ∑ d ∈ {0}, _ = _; rw [Finset.sum_singleton]; rfl

/-! ## What a device owes, and the levels -/

/-- What a device has to add to its peers' semaphores. -/
inductive Due where
  | bar (k : Fin 3)
  | exit (k : Fin 3)
  | msg (φ : Fam) (k : Fin 3)
deriving DecidableEq

instance : Fintype Due where
  elems := (Finset.univ.image Due.bar) ∪ (Finset.univ.image Due.exit) ∪ (Finset.univ.image fun p : Fam × Fin 3 => .msg p.1 p.2)
  complete o := by
    rcases o with k | k | ⟨φ, k⟩
    · exact Finset.mem_union_left _ (Finset.mem_union_left _ (Finset.mem_image.mpr ⟨k, Finset.mem_univ _, rfl⟩))
    · exact Finset.mem_union_left _ (Finset.mem_union_right _ (Finset.mem_image.mpr ⟨k, Finset.mem_univ _, rfl⟩))
    · exact Finset.mem_union_right _ (Finset.mem_image.mpr ⟨(φ, k), Finset.mem_univ _, rfl⟩)

/-- The grid point at which an exchange is sent, and the one at which it is received. -/
def sendAt : Fam → ℕ
  | .x => 0 | .a l => 32 * l.val + 16 | .b l => 32 * l.val + 31 | .g l => 32 * l.val + 31
def recvAt : Fam → ℕ
  | .x => 0 | .a l => 32 * l.val + 31 | .b l => 32 * l.val + 31 | .g l => if l.val = 2 then 95 else 32 * l.val + 32

def dueTime : Due → ℕ
  | .bar _ => 0 | .exit _ => 95 | .msg φ _ => sendAt φ
def dueCell (c : Dev nD) : Due → GSem nD τ sig
  | .bar k => barC (peer c k) | .exit k => exitC (peer c k) | .msg φ k => rcvC (peer c k) φ (rev k)
def dueAmt : Due → ℕ
  | .bar _ => 1 | .exit _ => 1 | .msg _ _ => N

/-- The sum of a set of dues. -/
def owing (c : Dev nD) (S : Finset Due) : CellTallies nD τ sig Unit := ∑ x ∈ S, tallyAt (dueCell c x) () (dueAmt x)
/-- What is still due before point `t`. -/
def pending (t : ℕ) : Finset Due := Finset.univ.filter fun x => t ≤ dueTime x

theorem owing_erase (c : Dev nD) {S : Finset Due} {x : Due} (h : x ∈ S) :
    owing c S = owing c (S.erase x) + tallyAt (dueCell c x) () (dueAmt x) := by
  unfold owing; rw [Finset.sum_erase_add _ _ h]

def lvFam : Fam → ℕ
  | .x => 2 | .a l => 3 * l.val + 3 | .b l => 3 * l.val + 4 | .g l => 3 * l.val + 5
def lvCell : Cell → ℕ
  | none => 1 | some .exit => 12 | some (.snd _ _) => 0 | some (.rcv φ _) => lvFam φ
def lvDue : Due → ℕ
  | .bar _ => 1 | .exit _ => 12 | .msg φ _ => lvFam φ

def L (g : GSem nD τ sig) : Finset Unit := if g.1.2 = .tc then {()} else ∅
def lv (g : GSem nD τ sig) (_ : Unit) : ℕ := match decode g.2 with | some k => lvCell k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (cell c k) u = lvCell k := by
  show (match decode (csem k) with | some k => lvCell k | none => 0) = _
  rw [decode_csem]
theorem lv_due (c : Dev nD) (x : Due) (u : Unit) : lv (dueCell c x) u = lvDue x := by
  cases x <;> exact lv_cell _ _ _
theorem L_due (c : Dev nD) (x : Due) : () ∈ L (dueCell c x) := by
  cases x <;> (show () ∈ L (_, _); rw [L_tc]; exact Finset.mem_singleton_self _)

theorem owing_pos {c : Dev nD} {S : Finset Due} {g : GSem nD τ sig} {u : Unit} (h : 0 < owing c S g u) :
    ∃ x ∈ S, g = dueCell c x := by
  by_contra hn
  have hz : owing c S g u = 0 := by
    unfold owing
    rw [Finset.sum_apply, Finsupp.finset_sum_apply]
    refine Finset.sum_eq_zero fun x hx => ?_
    rw [tallyAt_apply]
    exact if_neg fun h' => hn ⟨x, hx, h'.1⟩
  omega

/-- A wait is allowed on a semaphore that stands below everything still due. -/
theorem mayWait (c : Dev nD) (sm : SemLoc sig) (n : ℕ) (hn : lv ((c : Thread nD τ), sm) () = n) (S : Finset Due) (h : ∀ x ∈ S, n < lvDue x) :
    (levAts L lv : sProp 𝕄) ⊢ MayWait (c : Thread nD τ) sm () (owing c S) :=
  MayOwe.of_cut (L := L) (lev := lv) n (fun p hp => by rw [Finset.mem_singleton.mp hp, L_tc]; exact Finset.mem_singleton_self _)
    (fun g u hg => by obtain ⟨x, hx, rfl⟩ := owing_pos hg; exact L_due c x)
    (fun p hp => by rw [Finset.mem_singleton.mp hp, hn])
    (fun g u hg => by obtain ⟨x, hx, rfl⟩ := owing_pos hg; rw [lv_due]; exact h x hx)

end Cert.RingMlp
end
-- ==== Proof.Steps.lean ====
/-
One step of a device at a time: loads and stores on owned blocks, the signals and waits, and the copies to a peer.
-/
module

public import proofs.«01_k».proof.Proof.Protocol
public import proofs.«01_k».proof.Proof.Gen.KernelIdeal.Skeleton
public import Idealize.ShloMosaic.Lib.Tactic

@[expose] public section

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {Q : α → sProp (MT nD τ sig Unit (Elt F) ℕ UU ℕ)}

/-! ## Loads and stores -/

section Mem

variable {s s' : Shape} {e : EltTy} (M : Memref sig .tc .vmem s e) (r : Rect s)

/-- A load through a rectangle reads that part of the owned contents. -/
theorem ld {q : PosShare TreeShare} (X : s.Idx → Elt F e) {hl : M.view.LoadsAt r.toLoadRect}
    {k : (r.toLoadRect.shape.Idx → Elt F e) → Prog (TpuEff nD τ sig (Elt F) Λ₀ .tc) α} :
    own c M q X ⊢ iprop((own c M q X -∗ WP c (k (fun j => X (r.emb j))) Q) -∗ WP c (.op (.load M r.toLoadRect hl) k) Q) := by
  iintro H Hk
  unfold own owns
  icases H with ⟨%f, %hf, H⟩
  subst hf
  iapply (wp_load_rect 𝒱₀ (c : Thread nD τ) none Set.univ (m := M) (r := r) (S := M.view.set) (M.view.set_slice_subset r)) $$ H
  iintro H
  iapply Hk
  iexists f; isplitr; · ipureintro; rfl
  iexact H

theorem read_store (f : M.view.ty.Contents (Elt F)) (w : r.shape.Idx → Elt F e) :
    M.view.read (Elt F) ((M.access r).write (Elt F) f w Finset.univ) = r.overlay (M.view.read (Elt F) f) w := by
  funext j
  by_cases hj : j ∈ r.set
  · obtain ⟨i, rfl⟩ := r.exists_idx_of_mem hj
    change _ = r.overlay _ _ (r.emb i)
    rw [Rect.overlay_emb]
    exact View.read_slice_write_emb r f w (Finset.mem_univ i)
  · rw [Rect.overlay_of_not_mem _ _ _ hj]
    refine View.read_slice_write_of_not_mem r f w _ ?_
    rw [Rect.map_emb_univ]; exact hj

/-- A store through a rectangle replaces that part. -/
theorem st (X : s.Idx → Elt F e) {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} :
    own c M fullShare X ⊢ iprop((own c M fullShare (r.overlay X w) -∗ WP c (k ⟨⟩) Q) -∗ WP c (.op (.store M r w Finset.univ hx hm) k) Q) := by
  iintro H Hk
  unfold own owns
  icases H with ⟨%f, %hf, H⟩
  subst hf
  iapply (wp_store 𝒱₀ (c : Thread nD τ) none Set.univ (m := M) (r := r) (Mk := Finset.univ) (S := M.view.set) (M.view.set_slice_subset r)) $$ H
  iintro H
  iapply Hk
  iexists _; isplitr; · ipureintro; exact read_store M r f w
  iexact H

theorem emb_zero {off : Fin s.rank → ℕ} (h0 : off = fun _ => 0) (h : ∀ a, off a + s.size a ≤ s.size a) (j : s.Idx) :
    (Rect.unit (s := s) off s.size h).emb j = j := by
  subst h0
  funext a
  exact Fin.ext (by simp)

theorem overlay_zero {off : Fin s.rank → ℕ} (h0 : off = fun _ => 0) (h : ∀ a, off a + s.size a ≤ s.size a) {γ : Type} (X Y : s.Idx → γ) :
    (Rect.unit (s := s) off s.size h).overlay X Y = Y := by
  funext j
  conv_lhs => rw [← emb_zero h0 h j]
  exact Rect.overlay_emb _ _ _ _

/-- A load of the whole. -/
theorem ldAll {off : Fin s.rank → ℕ} {h : ∀ a, off a + s.size a ≤ s.size a} (h0 : off = fun _ => 0) {q : PosShare TreeShare} (X : s.Idx → Elt F e)
    {hl : M.view.LoadsAt (Rect.unit (s := s) off s.size h).toLoadRect}
    {k : (s.Idx → Elt F e) → Prog (TpuEff nD τ sig (Elt F) Λ₀ .tc) α} :
    own c M q X ⊢ iprop((own c M q X -∗ WP c (k X) Q) -∗ WP c (.op (.load M (Rect.unit (s := s) off s.size h).toLoadRect hl) k) Q) := by
  have e : (fun j : s.Idx => X ((Rect.unit (s := s) off s.size h).emb j)) = X := funext fun j => congrArg X (emb_zero h0 h j)
  have := ld c M (Rect.unit (s := s) off s.size h) (q := q) X (hl := hl) (k := k) (Q := Q)
  rwa [show (fun j : (Rect.unit (s := s) off s.size h).toLoadRect.shape.Idx => X ((Rect.unit (s := s) off s.size h).emb j)) = X from e] at this

/-- A store of the whole. -/
theorem stAll {off : Fin s.rank → ℕ} {h : ∀ a, off a + s.size a ≤ s.size a} (h0 : off = fun _ => 0) (X : s.Idx → Elt F e) {w : s.Idx → Elt F e}
    {hx : (M.access (Rect.unit (s := s) off s.size h)).Stores Finset.univ}
    {hm : (Finset.univ : Finset (Rect.unit (s := s) off s.size h).shape.Idx) = Finset.univ ∨ ∀ a, (Rect.unit (s := s) off s.size h).stride a = 1}
    {k : PUnit → Prog (TpuEff nD τ sig (Elt F) Λ₀ .tc) α} :
    own c M fullShare X ⊢ iprop((own c M fullShare w -∗ WP c (k ⟨⟩) Q)
      -∗ WP c (.op (.store M (Rect.unit (s := s) off s.size h) w Finset.univ hx hm) k) Q) := by
  have := st c M (Rect.unit (s := s) off s.size h) X (w := w) (hx := hx) (hm := hm) (k := k) (Q := Q)
  rwa [overlay_zero h0 h X w] at this

variable (hr : ∀ a, r.stride a = 1) (hq : r.shape.Squeezes s')

/-- A load of a block of a stack, the block owned. -/
theorem ldSq {q : PosShare TreeShare} (X : s'.Idx → Elt F e) {hl : M.view.LoadsAt r.toLoadRect}
    {k : (r.toLoadRect.shape.Idx → Elt F e) → Prog (TpuEff nD τ sig (Elt F) Λ₀ .tc) α} :
    own c ((M.slice r hr).squeeze s' hq) q X
      ⊢ iprop((own c ((M.slice r hr).squeeze s' hq) q X -∗ WP c (k (fun j => X ((Shape.reshapeEquiv hq.numel_eq).symm j))) Q)
        -∗ WP c (.op (.load M r.toLoadRect hl) k) Q) := by
  iintro H Hk
  unfold own owns
  icases H with ⟨%f, %hf, H⟩
  subst hf
  iapply (wp_load_rect 𝒱₀ (c : Thread nD τ) none Set.univ (m := M) (r := r) (S := ((M.slice r hr).squeeze s' hq).view.set)
    (by rw [Memref.set_view_squeeze])) $$ H
  iintro H
  ihave Hk := Hk $$ [H]
  · iexists f; isplitr; · ipureintro; rfl
    iexact H
  rw [show (fun j => ((M.slice r hr).squeeze s' hq).view.read (Elt F) f ((Shape.reshapeEquiv hq.numel_eq).symm j))
      = (M.access r).read (Elt F) f from funext fun j => by
    show (M.access r).read (Elt F) f (Shape.reshapeEquiv hq.numel_eq ((Shape.reshapeEquiv hq.numel_eq).symm j)) = _
    rw [Equiv.apply_symm_apply]]
  iexact Hk

/-- A store of a block of a stack, the block owned. -/
theorem stSq (X Y : s'.Idx → Elt F e) {w : r.shape.Idx → Elt F e} (hw : w = fun j => Y ((Shape.reshapeEquiv hq.numel_eq).symm j))
    {hx : (M.access r).Stores Finset.univ} {hm : (Finset.univ : Finset r.shape.Idx) = Finset.univ ∨ ∀ a, r.stride a = 1}
    {k : PUnit → Prog (TpuEff nD τ sig (Elt F) Λ₀ .tc) α} :
    own c ((M.slice r hr).squeeze s' hq) fullShare X
      ⊢ iprop((own c ((M.slice r hr).squeeze s' hq) fullShare Y -∗ WP c (k ⟨⟩) Q)
        -∗ WP c (.op (.store M r w Finset.univ hx hm) k) Q) := by
  iintro H Hk
  unfold own owns
  icases H with ⟨%f, %hf, H⟩
  iapply (wp_store 𝒱₀ (c : Thread nD τ) none Set.univ (m := M) (r := r) (Mk := Finset.univ) (S := ((M.slice r hr).squeeze s' hq).view.set)
    (by rw [Memref.set_view_squeeze]; exact Finset.Subset.refl _)) $$ H
  iintro H
  iapply Hk
  iexists _; isplitr; swap; · iexact H
  ipureintro
  funext i
  show (M.access r).read (Elt F) ((M.access r).write (Elt F) f w Finset.univ) (Shape.reshapeEquiv hq.numel_eq i) = _
  rw [View.read_write_univ, hw]
  show Y _ = _
  rw [Equiv.symm_apply_apply]

end Mem

/-! ## The talk -/

variable (D : Inp F) (K : Dev nD × Cell → ℕ)

/-- Every cell's invariant, and that its round is reached. -/
def recs : sProp 𝕄 :=
  iprop((bigSep Finset.univ fun p : Dev nD × Cell => cellInv ER (Rd D) (K p) (cell p.1 p.2)) ∗ (bigSep Finset.univ fun p : Dev nD × Cell => reached ER (cell p.1 p.2) 0))

instance recs_persistent : BI.Persistent (recs D K) := by unfold recs; infer_instance

theorem inv_at (p : Dev nD × Cell) :
    (bigSep Finset.univ fun p : Dev nD × Cell => (cellInv ER (Rd D) (K p) (cell p.1 p.2) : sProp 𝕄)) ⊢ cellInv ER (Rd D) (K p) (cell p.1 p.2) :=
  bigSep_elim (Finset.mem_univ p)
omit [FloatOps F] in
theorem reached_at (p : Dev nD × Cell) :
    (bigSep Finset.univ fun p : Dev nD × Cell => (reached ER (cell p.1 p.2) 0 : sProp 𝕄)) ⊢ reached ER (cell p.1 p.2) 0 :=
  bigSep_elim (Finset.mem_univ p)

theorem recs_inv (d : Dev nD) (k : Cell) : recs D K ⊢ cellInv ER (Rd D) (K (d, k)) (cell d k) := by
  unfold recs
  iintro ⟨H, -⟩
  iapply (inv_at D K (d, k)); iexact H
theorem recs_reached (d : Dev nD) (k : Cell) : recs D K ⊢ reached ER (cell d k) 0 := by
  unfold recs
  iintro ⟨-, H⟩
  iapply (reached_at (d, k)); iexact H

/-- What a device still owes, its waits so far not counted. -/
def owe (S : Finset Due) : sProp 𝕄 := iprop(∃ W, owes (c : Thread nD τ) (owing c S) W)

/-- The right to copy to `peer c k`: the two tokens, the own position, and the landing slot. -/
def TX0 (φ : Fam) (k : Fin 3) : sProp 𝕄 :=
  iprop(atPos ER (sndC c φ k) 0 ∅ 0 ∗ dutyTok ER (sndC c φ k) 0 0 ∗ dutyTok ER (rcvC (peer c k) φ (rev k)) 0 0)
def TX (φ : Fam) (k : Fin 3) : sProp 𝕄 :=
  iprop(TX0 c φ k ∗ any (F := F) (peer c k) (dstM φ (rev k)) fullShare)
/-- The right to wait for the own copy. -/
def SX (φ : Fam) (k : Fin 3) : sProp 𝕄 := iprop(atPos ER (sndC c φ k) 0 ∅ 0 ∗ cred (tallyAt (sndC c φ k) () N))
/-- The right to wait for a peer's copy. -/
def RX (φ : Fam) (j : Fin 3) : sProp 𝕄 := iprop(atPos ER (rcvC c φ j) 0 ∅ 0 ∗ cred (tallyAt (rcvC c φ j) () N))

theorem lands_self (k : Fin 3) :
    (bigSep Finset.univ fun φ : Fam => any (F := F) c (dstM φ k) fullShare) = lands (F := F) (peer c k) (rev k) := by
  unfold lands; rw [peer_rev, rev_rev]

theorem mem_bar (d : Dev nD) (j : Fin 3) : j ∈ (Rd D).duties (barC d) 0 := by rw [duties_cell]; exact Finset.mem_univ _
theorem mem_exit (d : Dev nD) (j : Fin 3) : j ∈ (Rd D).duties (exitC d) 0 := by rw [duties_cell]; exact Finset.mem_univ _
theorem mem_snd (d : Dev nD) (φ : Fam) (j : Fin 3) : 0 ∈ (Rd D).duties (sndC d φ j) 0 := by rw [duties_cell]; exact Finset.mem_singleton_self _
theorem mem_rcv (d : Dev nD) (φ : Fam) (j : Fin 3) : 0 ∈ (Rd D).duties (rcvC d φ j) 0 := by rw [duties_cell]; exact Finset.mem_singleton_self _

theorem bar_in (k : Fin 3) : (bigSep Finset.univ fun φ : Fam => any (F := F) c (dstM φ k) fullShare) ⊢ (Rd D).payload ((peer c k : Thread nD τ), .reg barS) 0 (rev k) := by
  show _ ⊢ (Rd D).payload (barC (peer c k)) 0 (rev k)
  rw [payload_cell, lands_self]; exact .rfl
theorem exit_in (d : Dev nD) (j : Fin 3) : (iprop(emp) : sProp 𝕄) ⊢ (Rd D).payload ((d : Thread nD τ), .reg exitS) 0 j := by
  show _ ⊢ (Rd D).payload (exitC d) 0 j
  rw [payload_cell]; exact .rfl
theorem snd_in (φ : Fam) (k : Fin 3) (fs : Buf (Elt F) ((srcM φ k).view.loc (c : Thread nD τ)))
    (hfs : View.read (Elt F) (srcM φ k).view fs = sent D φ c (peer c k)) :
    ((srcM φ k).view.loc (c : Thread nD τ) ↦[(srcM φ k).view.set]{shr φ k} fs) ⊢ (Rd D).payload (sndC c φ k) 0 0 := by
  rw [payload_cell]
  show _ ⊢ own c (srcM φ k) (shr φ k) (sent D φ c (peer c k))
  rw [← hfs]; exact owns_intro (c : Thread nD τ) (srcM φ k) (shr φ k) fs
theorem rcv_in (φ : Fam) (k : Fin 3) (fs : Buf (Elt F) ((srcM φ k).view.loc (c : Thread nD τ)))
    (hfs : View.read (Elt F) (srcM φ k).view fs = sent D φ c (peer c k)) (fd : Buf (Elt F) ((dstM φ (rev k)).view.loc (peer c k : Thread nD τ))) :
    ((dstM φ (rev k)).view.loc (peer c k : Thread nD τ) ↦[(dstM φ (rev k)).view.set]{fullShare}
        ((dstM φ (rev k)).view.write (Elt F) fd ((srcM φ k).view.read (Elt F) fs) Finset.univ))
      ⊢ (Rd D).payload (rcvC (peer c k) φ (rev k)) 0 0 := by
  rw [payload_cell]
  show _ ⊢ own (peer c k) (dstM φ (rev k)) fullShare (sent D φ (peer (peer c k) (rev k)) (peer c k))
  rw [peer_rev, ← hfs]
  iintro H
  unfold own owns
  iexists _; isplitr; swap; · iexact H
  ipureintro
  exact View.read_write_univ _ _

/-- A unit to a peer's barrier semaphore, with the landing slots meant for it. -/
theorem sigBar (k : Fin 3) {n : Dev nD} (hn : n = peer c k) {a : ℕ} (ha : a = 1) {S : Finset Due} (hS : Due.bar k ∈ S) {kk : PUnit → Prog (TpuEff nD τ sig (Elt F) Λ₀ .tc) α} :
    iprop(recs D K ∗ owe (F := F) c S ∗ dutyTok ER (barC (peer c k)) 0 (rev k) ∗ (bigSep Finset.univ fun φ : Fam => any (F := F) c (dstM φ k) fullShare))
      ⊢ iprop((owe c (S.erase (.bar k)) -∗ WP c (kk ⟨⟩) Q) -∗ WP c (.op (.semSignal (n : Thread nD τ) barS a) kk) Q) := by
  subst hn ha
  iintro ⟨#HR, HO, Ht, Hl⟩ Hk
  unfold owe
  icases HO with ⟨%W, HO⟩
  iapply (Rounds.wp_signal 𝒱₀ ER (Rd D) (c : Thread nD τ) none (dst := (peer c k : Thread nD τ)) (κ := K (peer c k, none)) (r := 0)
      (d := rev k) (mem_bar D (peer c k) (rev k)) rfl () (owing c (S.erase (.bar k))) (owing_erase c hS))
    $$ [HO Ht Hl]
  · isplitr; · iapply (recs_inv D K (peer c k) none); iexact HR
    isplitl [HO]; · iexact HO
    isplitl [Ht]; · iexact Ht
    isplitl [Hl]
    · iapply (bar_in c D k); iexact Hl
    iapply (recs_reached D K (peer c k) none); iexact HR
  iintro HO
  iapply Hk
  iexists W; iexact HO

/-- A unit to a peer's exit semaphore. -/
theorem sigExit (k : Fin 3) {n : Dev nD} (hn : n = peer c k) {a : ℕ} (ha : a = 1) {S : Finset Due} (hS : Due.exit k ∈ S) {kk : PUnit → Prog (TpuEff nD τ sig (Elt F) Λ₀ .tc) α} :
    iprop(recs D K ∗ owe (F := F) c S ∗ dutyTok ER (exitC (peer c k)) 0 (rev k))
      ⊢ iprop((owe c (S.erase (.exit k)) -∗ WP c (kk ⟨⟩) Q) -∗ WP c (.op (.semSignal (n : Thread nD τ) exitS a) kk) Q) := by
  subst hn ha
  iintro ⟨#HR, HO, Ht⟩ Hk
  unfold owe
  icases HO with ⟨%W, HO⟩
  iapply (Rounds.wp_signal 𝒱₀ ER (Rd D) (c : Thread nD τ) none (dst := (peer c k : Thread nD τ)) (κ := K (peer c k, some .exit)) (r := 0)
      (d := rev k) (mem_exit D (peer c k) (rev k)) rfl () (owing c (S.erase (.exit k))) (owing_erase c hS))
    $$ [HO Ht]
  · isplitr; · iapply (recs_inv D K (peer c k) (some .exit)); iexact HR
    isplitl [HO]; · iexact HO
    isplitl [Ht]; · iexact Ht
    isplitr
    · iapply (exit_in D (peer c k) (rev k)); iempintro
    iapply (recs_reached D K (peer c k) (some .exit)); iexact HR
  iintro HO
  iapply Hk
  iexists W; iexact HO

/-- A wait for everything a cell is to get: the payloads, and the semaphore at zero. -/
theorem waitCell (k : Cell) {sm : SemLoc sig} (hsm : sm = csem k) {w : TpuEff nD τ sig (Elt F) Λ₀ .tc PUnit} {a : ℕ}
    (hw : ∀ K : PUnit → sProp 𝕄, wpE (defs₀ (F := F)) 𝒱₀ (c : Thread nD τ) none Set.univ w K = waitSpec (c : Thread nD τ) Set.univ sm a K)
    (ha : a = (Rd D).expect (cell c k) 0) {S : Finset Due} (hS : ∀ x ∈ S, lvCell k < lvDue x)
    {kk : PUnit → Prog (TpuEff nD τ sig (Elt F) Λ₀ .tc) α} :
    iprop(recs D K ∗ levAts L lv ∗ owe (F := F) c S ∗ atPos ER (cell c k) 0 ∅ 0 ∗ cred (tallyAt (cell c k) () a))
      ⊢ iprop(((owe c S ∗ semVal (cell c k) 0 ∗ bigSep (dutiesOf k) fun d => pay D c k d) -∗ WP c (kk ⟨⟩) Q) -∗ WP c (.op w kk) Q) := by
  subst hsm
  iintro ⟨#HR, #Hlev, HO, Hat, Hc⟩ Hk
  unfold owe
  icases HO with ⟨%W, HO⟩
  iapply (Rounds.wp_wait_rest_token 𝒱₀ ER (Rd D) (c : Thread nD τ) none (κ := K (c, k)) hw (Set.mem_univ _) () (O := owing c S) (W := W)
      (R := 0) (m := 0) (T := ∅) (by rw [Nat.zero_add]; exact ha)) $$ [Hc HO Hat]
  · isplitr; · iapply (recs_inv D K c k); iexact HR
    isplitl [Hc]; · iexact Hc
    isplitl [HO]; · iexact HO
    isplitr; · iapply (mayWait c (csem k) (lvCell k) (lv_cell c k ()) S hS); iexact Hlev
    iexact Hat
  iintro ⟨HO, Hat, -, Hpay⟩
  ihave HI := (recs_inv D K c k) $$ HR
  imod (Rounds.cell_close ER (Rd D) (Set.mem_univ (K (c, k))) (fun h => h) (R := 0 + 1) (duties_later D (cell c k))) $$ [HI Hat] with Hz
  · isplitl [HI] <;> iassumption
  iapply Hk
  isplitl [HO]; · iexists _; iexact HO
  isplitl [Hz]; · iexact Hz
  rw [Finset.sdiff_empty, duties_cell]
  simp only [payload_cell]
  iexact Hpay

theorem rest_rcv (φ : Fam) (j : Fin 3) :
    (bigSep (dutiesOf (some (.rcv φ j))) fun d => pay D c (some (.rcv φ j)) d) = own c (dstM φ j) fullShare (sent D φ (peer c j) c) :=
  bigSep_singleton
theorem rest_snd (φ : Fam) (k : Fin 3) :
    (bigSep (dutiesOf (some (.snd φ k))) fun d => pay D c (some (.snd φ k)) d) = own c (srcM φ k) (shr φ k) (sent D φ c (peer c k)) :=
  bigSep_singleton

/-- The wait for a peer's copy: its block is in the slot. -/
theorem recvWait (φ : Fam) (j : Fin 3) {sm : DmaSem sig} (hsm : sm = rcvS φ j) {S : Finset Due} (hS : ∀ x ∈ S, lvFam φ < lvDue x)
    {sp : Space} {s' : Shape} {e' : EltTy} {src : Memref sig .tc sp s' e'} {dst : Memref sig .tc .vmem S64x2048 .bf16} (hd : dst = dstM φ j)
    {h₁ : src.view.WordExact} {h₂ : dst.view.WordExact}
    {kk : PUnit → Prog (TpuEff nD τ sig (Elt F) Λ₀ .tc) α} :
    iprop(recs D K ∗ levAts L lv ∗ owe (F := F) c S ∗ RX (F := F) c φ j)
      ⊢ iprop(((owe c S ∗ semVal (rcvC c φ j) 0 ∗ own c (dstM φ j) fullShare (sent D φ (peer c j) c)) -∗ WP c (kk ⟨⟩) Q)
        -∗ WP c (.op (.waitDma2 sm src dst h₁ h₂) kk) Q) := by
  subst hsm hd
  iintro ⟨#HR, #Hlev, HO, HX⟩ Hk
  unfold RX
  icases HX with ⟨Hat, Hc⟩
  iapply (waitCell c D K (some (.rcv φ j)) (sm := .dma (rcvS φ j)) rfl (wpE_waitDma2_eq 𝒱₀ (c : Thread nD τ) none Set.univ)
    ((dst_credit φ j).trans (expect_rcv D c φ j).symm) hS) $$ [HO Hat Hc]
  · isplitr; · iexact HR
    isplitr; · iexact Hlev
    isplitl [HO]; · iexact HO
    isplitl [Hat]; · iexact Hat
    rw [dst_credit]; iexact Hc
  iintro ⟨HO, Hz, Hp⟩
  iapply Hk
  isplitl [HO]; · iexact HO
  isplitl [Hz]; · iexact Hz
  ihave Hp := (Entails.of_eq (rest_rcv c D φ j)) $$ Hp
  iexact Hp

/-- The wait for the own copy: the source may be used again. -/
theorem sendWait (φ : Fam) (k : Fin 3) {sm : DmaSem sig} (hsm : sm = sndS φ k) {S : Finset Due} (hS : ∀ x ∈ S, 0 < lvDue x)
    {sp : Space} {s' : Shape} {e' : EltTy} {src : Memref sig .tc sp s' e'} {dst : Memref sig .tc .vmem S64x2048 .bf16} (hd : dst = srcM φ k)
    {h₁ : src.view.WordExact} {h₂ : dst.view.WordExact}
    {kk : PUnit → Prog (TpuEff nD τ sig (Elt F) Λ₀ .tc) α} :
    iprop(recs D K ∗ levAts L lv ∗ owe (F := F) c S ∗ SX (F := F) c φ k)
      ⊢ iprop(((owe c S ∗ semVal (sndC c φ k) 0 ∗ own c (srcM φ k) (shr φ k) (sent D φ c (peer c k))) -∗ WP c (kk ⟨⟩) Q)
        -∗ WP c (.op (.waitDma2 sm src dst h₁ h₂) kk) Q) := by
  subst hsm hd
  iintro ⟨#HR, #Hlev, HO, HX⟩ Hk
  unfold SX
  icases HX with ⟨Hat, Hc⟩
  iapply (waitCell c D K (some (.snd φ k)) (sm := .dma (sndS φ k)) rfl (wpE_waitDma2_eq 𝒱₀ (c : Thread nD τ) none Set.univ)
    ((src_credit φ k).trans (expect_snd D c φ k).symm) hS) $$ [HO Hat Hc]
  · isplitr; · iexact HR
    isplitr; · iexact Hlev
    isplitl [HO]; · iexact HO
    isplitl [Hat]; · iexact Hat
    rw [src_credit]; iexact Hc
  iintro ⟨HO, Hz, Hp⟩
  iapply Hk
  isplitl [HO]; · iexact HO
  isplitl [Hz]; · iexact Hz
  ihave Hp := (Entails.of_eq (rest_snd c D φ k)) $$ Hp
  iexact Hp

/-- The copy to `peer c k`. -/
theorem send (φ : Fam) (k : Fin 3) {n : Dev nD} (hn : n = peer c k) {src : Memref sig .tc .vmem S64x2048 .bf16}
    {dst : Memref sig (Dev.tc n : Thread nD τ).2.kind .vmem S64x2048 .bf16} (hs : src = srcM φ k) (hd : dst = dstM φ (rev k))
    {sS sR : DmaSem sig} (hsS : sS = sndS φ k) (hsR : sR = rcvS φ (rev k))
    {hsc : dst.view.ref.isScScratch = false} {hsrc : src.view.WordExact} {hdst : dst.view.WordExact}
    {hsem : DmaTarget.Typed .vmem (.dma sR) (.remote (Dev.tc n : Thread nD τ) dst (.dma sS) hsc)}
    {S : Finset Due} (hS : Due.msg φ k ∈ S) {kk : PUnit → Prog (TpuEff nD τ sig (Elt F) Λ₀ .tc) α} :
    iprop(recs D K ∗ owe (F := F) c S ∗ TX (F := F) c φ k ∗ own c (srcM φ k) (shr φ k) (sent D φ c (peer c k)))
      ⊢ iprop(((owe c (S.erase (.msg φ k)) ∗ SX c φ k) -∗ WP c (kk ⟨⟩) Q)
        -∗ WP c (.op (.enqueueDma src (.remote (Dev.tc n : Thread nD τ) dst (.dma sS) hsc) (.dma sR) hsrc hdst hsem) kk) Q) := by
  subst hn hs hd hsS hsR
  iintro ⟨#HR, HO, HT, Hs⟩ Hk
  unfold owe TX TX0 any own owns
  icases HO with ⟨%W, HO⟩
  icases HT with ⟨⟨Hat, Ht1, Ht2⟩, ⟨%X, %fd, %hfd, Hd⟩⟩
  icases Hs with ⟨%fs, %hfs, Hs⟩
  iapply (Rounds.wp_send_pointsTo 𝒱₀ ER (Rd D) (c : Thread nD τ) none (c' := (peer c k : Thread nD τ)) (κ₁ := K (c, some (.snd φ k))) (κ₂ := K (peer c k, some (.rcv φ (rev k))))
    (src := srcM φ k) (dst := dstM φ (rev k)) (sS := .dma (sndS φ k)) (sem := .dma (rcvS φ (rev k)))
    (r₁ := 0) (r₂ := 0) (d₁ := 0) (d₂ := 0) (fs := fs) (fd := fd) (q := shr φ k)
    (mem_snd D c φ k) (mem_rcv D (peer c k) φ (rev k))
    () () N (dst_credit φ (rev k)) rfl rfl (owing c (S.erase (.msg φ k))) (owing_erase c hS) (W := W)
    (snd_in c D φ k fs hfs) (rcv_in c D φ k fs hfs fd)) $$ [Hs Hd HO Ht1 Ht2]
  · isplitr; · iapply (recs_inv D K c (some (.snd φ k))); iexact HR
    isplitr; · iapply (recs_inv D K (peer c k) (some (.rcv φ (rev k)))); iexact HR
    isplitl [Hs]; · iexact Hs
    isplitl [Hd]; · iexact Hd
    isplitl [HO]; · iexact HO
    isplitl [Ht1]; · iexact Ht1
    isplitr; · iapply (recs_reached D K c (some (.snd φ k))); iexact HR
    isplitl [Ht2]; · iexact Ht2
    iapply (recs_reached D K (peer c k) (some (.rcv φ (rev k)))); iexact HR
  iintro ⟨Hc, HO⟩
  iapply Hk
  isplitl [HO]; · iexists W; iexact HO
  unfold SX
  isplitl [Hat]; · iexact Hat
  iexact Hc

end Cert.RingMlp
end
-- ==== Proof.Places.lean ====
/-
Where the kernel's accesses lie: each slice of a stack it names is one of the blocks of the talk, each semaphore one of its cells,
each device number one of the peers.
-/
module

public import proofs.«01_k».proof.Proof.Steps

@[expose] public section

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores -/

def ix1 (j : Fin 3) : S3.Idx := fun a => match a with | ⟨0, _⟩ => j
def ix2 (l j : Fin 3) : S3x3.Idx := fun a => match a with | ⟨0, _⟩ => l | ⟨1, _⟩ => j

/-- The one semaphore of a unit slice of a row of three is the one at the slice's offset. -/
theorem sem1 (A : DmaSems sig S3) (j : Fin 3) {off : Fin 1 → ℕ} {inb : ∀ a, off a + S1.size a ≤ S3.size a} {sq : S1.Squeezes S_} (h : off = ![j.val]) :
    ((A.slice (Rect.unit (s := S3) off S1.size inb)).squeeze S_ sq).sem = A.ix (ix1 j) := by
  subst h
  refine congrArg A.ix (funext fun a => Fin.ext ?_)
  generalize Shape.reshapeEquiv sq.numel_eq (fun i => i.elim0) = u
  rw [Rect.emb_apply]
  match a, u a with
  | ⟨0, _⟩, v => have h1 : v.val < 1 := v.isLt; show j.val + 1 * v.val = j.val; omega
/-- The same of a square of nine. -/
theorem sem2 (A : DmaSems sig S3x3) (l j : Fin 3) {off : Fin 2 → ℕ} {inb : ∀ a, off a + S1x1.size a ≤ S3x3.size a} {sq : S1x1.Squeezes S_} (h : off = ![l.val, j.val]) :
    ((A.slice (Rect.unit (s := S3x3) off S1x1.size inb)).squeeze S_ sq).sem = A.ix (ix2 l j) := by
  subst h
  refine congrArg A.ix (funext fun a => Fin.ext ?_)
  generalize Shape.reshapeEquiv sq.numel_eq (fun i => i.elim0) = u
  rw [Rect.emb_apply]
  match a, u a with
  | ⟨0, _⟩, v => have h1 : v.val < 1 := v.isLt; show l.val + 1 * v.val = l.val; omega
  | ⟨1, _⟩, v => have h1 : v.val < 1 := v.isLt; show j.val + 1 * v.val = j.val; omega

theorem snd_x (j : Fin 3) {off : Fin 1 → ℕ} {inb : ∀ a, off a + S1.size a ≤ S3.size a} {sq : S1.Squeezes S_} (h : off = ![j.val]) :
    ((cc0_scratch11.slice (Rect.unit (s := S3) off S1.size inb)).squeeze S_ sq).sem = sndS .x j :=
  (sem1 _ j h).trans ((by decide : ∀ j, cc0_scratch11.ix (ix1 j) = sndS .x j) j)
theorem rcv_x (j : Fin 3) {off : Fin 1 → ℕ} {inb : ∀ a, off a + S1.size a ≤ S3.size a} {sq : S1.Squeezes S_} (h : off = ![j.val]) :
    ((cc0_scratch12.slice (Rect.unit (s := S3) off S1.size inb)).squeeze S_ sq).sem = rcvS .x j :=
  (sem1 _ j h).trans ((by decide : ∀ j, cc0_scratch12.ix (ix1 j) = rcvS .x j) j)
theorem snd_a (l j : Fin 3) {off : Fin 2 → ℕ} {inb : ∀ a, off a + S1x1.size a ≤ S3x3.size a} {sq : S1x1.Squeezes S_} (h : off = ![l.val, j.val]) :
    ((cc0_scratch13.slice (Rect.unit (s := S3x3) off S1x1.size inb)).squeeze S_ sq).sem = sndS (.a l) j :=
  (sem2 _ l j h).trans ((by decide : ∀ l j, cc0_scratch13.ix (ix2 l j) = sndS (.a l) j) l j)
theorem rcv_a (l j : Fin 3) {off : Fin 2 → ℕ} {inb : ∀ a, off a + S1x1.size a ≤ S3x3.size a} {sq : S1x1.Squeezes S_} (h : off = ![l.val, j.val]) :
    ((cc0_scratch14.slice (Rect.unit (s := S3x3) off S1x1.size inb)).squeeze S_ sq).sem = rcvS (.a l) j :=
  (sem2 _ l j h).trans ((by decide : ∀ l j, cc0_scratch14.ix (ix2 l j) = rcvS (.a l) j) l j)
theorem snd_b (l j : Fin 3) {off : Fin 2 → ℕ} {inb : ∀ a, off a + S1x1.size a ≤ S3x3.size a} {sq : S1x1.Squeezes S_} (h : off = ![l.val, j.val]) :
    ((cc0_scratch15.slice (Rect.unit (s := S3x3) off S1x1.size inb)).squeeze S_ sq).sem = sndS (.b l) j :=
  (sem2 _ l j h).trans ((by decide : ∀ l j, cc0_scratch15.ix (ix2 l j) = sndS (.b l) j) l j)
theorem rcv_b (l j : Fin 3) {off : Fin 2 → ℕ} {inb : ∀ a, off a + S1x1.size a ≤ S3x3.size a} {sq : S1x1.Squeezes S_} (h : off = ![l.val, j.val]) :
    ((cc0_scratch16.slice (Rect.unit (s := S3x3) off S1x1.size inb)).squeeze S_ sq).sem = rcvS (.b l) j :=
  (sem2 _ l j h).trans ((by decide : ∀ l j, cc0_scratch16.ix (ix2 l j) = rcvS (.b l) j) l j)
theorem snd_g (l j : Fin 3) {off : Fin 2 → ℕ} {inb : ∀ a, off a + S1x1.size a ≤ S3x3.size a} {sq : S1x1.Squeezes S_} (h : off = ![l.val, j.val]) :
    ((cc0_scratch17.slice (Rect.unit (s := S3x3) off S1x1.size inb)).squeeze S_ sq).sem = sndS (.g l) j :=
  (sem2 _ l j h).trans ((by decide : ∀ l j, cc0_scratch17.ix (ix2 l j) = sndS (.g l) j) l j)
theorem rcv_g (l j : Fin 3) {off : Fin 2 → ℕ} {inb : ∀ a, off a + S1x1.size a ≤ S3x3.size a} {sq : S1x1.Squeezes S_} (h : off = ![l.val, j.val]) :
    ((cc0_scratch18.slice (Rect.unit (s := S3x3) off S1x1.size inb)).squeeze S_ sq).sem = rcvS (.g l) j :=
  (sem2 _ l j h).trans ((by decide : ∀ l j, cc0_scratch18.ix (ix2 l j) = rcvS (.g l) j) l j)

/-! ## Blocks -/

theorem at3 (M : Memref sig .tc .vmem S3x64x2048 .bf16) (j : Fin 3) {off : Fin 3 → ℕ} {inb : ∀ a, off a + S1x64x2048.size a ≤ S3x64x2048.size a}
    {hs : ∀ a, (Rect.unit (s := S3x64x2048) off S1x64x2048.size inb).stride a = 1} {sq : S1x64x2048.Squeezes S64x2048} (h : off = ![j.val, 0, 0]) :
    (M.slice (Rect.unit (s := S3x64x2048) off S1x64x2048.size inb) hs).squeeze S64x2048 sq = slot3 M j := by subst h; rfl
theorem at4 (M : Memref sig .tc .vmem S3x3x64x2048 .bf16) (l j : Fin 3) {off : Fin 4 → ℕ} {inb : ∀ a, off a + S1x1x64x2048.size a ≤ S3x3x64x2048.size a}
    {hs : ∀ a, (Rect.unit (s := S3x3x64x2048) off S1x1x64x2048.size inb).stride a = 1} {sq : S1x1x64x2048.Squeezes S64x2048} (h : off = ![l.val, j.val, 0, 0]) :
    (M.slice (Rect.unit (s := S3x3x64x2048) off S1x1x64x2048.size inb) hs).squeeze S64x2048 sq = slot4 M l j := by subst h; rfl

theorem up3_fun (X : FVec F S64x2048 .bf16) : (fun j => X ((Shape.reshapeEquiv squeezes_S1x64x2048_S64x2048.numel_eq).symm j)) = up3 X := by
  funext j; rw [Shape.reshapeEquiv_symm]; rfl
theorem up4_fun (X : FVec F S64x2048 .bf16) : (fun j => X ((Shape.reshapeEquiv squeezes_S1x1x64x2048_S64x2048.numel_eq).symm j)) = up4 X := by
  funext j; rw [Shape.reshapeEquiv_symm]; rfl

variable (c : Dev nD) {α : Type} {Q : α → sProp (MT nD τ sig Unit (Elt F) ℕ UU ℕ)}

theorem ld3 (B : Memref sig .tc .vmem S64x2048 .bf16) (M : Memref sig .tc .vmem S3x64x2048 .bf16) (j : Fin 3) (hB : B = slot3 M j) {off : Fin 3 → ℕ} {inb : ∀ a, off a + S1x64x2048.size a ≤ S3x64x2048.size a}
    (h : off = ![j.val, 0, 0]) {q : PosShare TreeShare} (X : FVec F S64x2048 .bf16)
    {hl : M.view.LoadsAt (Rect.unit (s := S3x64x2048) off S1x64x2048.size inb).toLoadRect}
    {k : (S1x64x2048.Idx → Elt F .bf16) → Prog (TpuEff nD τ sig (Elt F) Λ₀ .tc) α} :
    own c B q X ⊢ iprop((own c B q X -∗ WP c (k (up3 X)) Q)
      -∗ WP c (.op (.load M (Rect.unit (s := S3x64x2048) off S1x64x2048.size inb).toLoadRect hl) k) Q) := by
  subst h hB
  have := ldSq c M (rect3 j) (s' := S64x2048) (fun _ => rfl) squeezes_S1x64x2048_S64x2048 (q := q) X (hl := hl) (k := k) (Q := Q)
  exact (up3_fun X) ▸ this

theorem ld4 (B : Memref sig .tc .vmem S64x2048 .bf16) (M : Memref sig .tc .vmem S3x3x64x2048 .bf16) (l j : Fin 3) (hB : B = slot4 M l j) {off : Fin 4 → ℕ} {inb : ∀ a, off a + S1x1x64x2048.size a ≤ S3x3x64x2048.size a}
    (h : off = ![l.val, j.val, 0, 0]) {q : PosShare TreeShare} (X : FVec F S64x2048 .bf16)
    {hl : M.view.LoadsAt (Rect.unit (s := S3x3x64x2048) off S1x1x64x2048.size inb).toLoadRect}
    {k : (S1x1x64x2048.Idx → Elt F .bf16) → Prog (TpuEff nD τ sig (Elt F) Λ₀ .tc) α} :
    own c B q X ⊢ iprop((own c B q X -∗ WP c (k (up4 X)) Q)
      -∗ WP c (.op (.load M (Rect.unit (s := S3x3x64x2048) off S1x1x64x2048.size inb).toLoadRect hl) k) Q) := by
  subst h hB
  have := ldSq c M (rect4 l j) (s' := S64x2048) (fun _ => rfl) squeezes_S1x1x64x2048_S64x2048 (q := q) X (hl := hl) (k := k) (Q := Q)
  exact (up4_fun X) ▸ this

theorem st3 (B : Memref sig .tc .vmem S64x2048 .bf16) (M : Memref sig .tc .vmem S3x64x2048 .bf16) (j : Fin 3) (hB : B = slot3 M j) {off : Fin 3 → ℕ} {inb : ∀ a, off a + S1x64x2048.size a ≤ S3x64x2048.size a}
    (h : off = ![j.val, 0, 0]) (X Y : FVec F S64x2048 .bf16) {w : S1x64x2048.Idx → Elt F .bf16} (hw : w = up3 Y)
    {hx : (M.access (Rect.unit (s := S3x64x2048) off S1x64x2048.size inb)).Stores Finset.univ}
    {hm : (Finset.univ : Finset (Rect.unit (s := S3x64x2048) off S1x64x2048.size inb).shape.Idx) = Finset.univ ∨ ∀ a, (Rect.unit (s := S3x64x2048) off S1x64x2048.size inb).stride a = 1}
    {k : PUnit → Prog (TpuEff nD τ sig (Elt F) Λ₀ .tc) α} :
    own c B fullShare X ⊢ iprop((own c B fullShare Y -∗ WP c (k ⟨⟩) Q)
      -∗ WP c (.op (.store M (Rect.unit (s := S3x64x2048) off S1x64x2048.size inb) w Finset.univ hx hm) k) Q) := by
  subst h hB
  exact stSq c M (rect3 j) (s' := S64x2048) (fun _ => rfl) squeezes_S1x64x2048_S64x2048 X Y (hw.trans (up3_fun Y).symm)

theorem st4 (B : Memref sig .tc .vmem S64x2048 .bf16) (M : Memref sig .tc .vmem S3x3x64x2048 .bf16) (l j : Fin 3) (hB : B = slot4 M l j) {off : Fin 4 → ℕ} {inb : ∀ a, off a + S1x1x64x2048.size a ≤ S3x3x64x2048.size a}
    (h : off = ![l.val, j.val, 0, 0]) (X Y : FVec F S64x2048 .bf16) {w : S1x1x64x2048.Idx → Elt F .bf16} (hw : w = up4 Y)
    {hx : (M.access (Rect.unit (s := S3x3x64x2048) off S1x1x64x2048.size inb)).Stores Finset.univ}
    {hm : (Finset.univ : Finset (Rect.unit (s := S3x3x64x2048) off S1x1x64x2048.size inb).shape.Idx) = Finset.univ ∨ ∀ a, (Rect.unit (s := S3x3x64x2048) off S1x1x64x2048.size inb).stride a = 1}
    {k : PUnit → Prog (TpuEff nD τ sig (Elt F) Λ₀ .tc) α} :
    own c B fullShare X ⊢ iprop((own c B fullShare Y -∗ WP c (k ⟨⟩) Q)
      -∗ WP c (.op (.store M (Rect.unit (s := S3x3x64x2048) off S1x1x64x2048.size inb) w Finset.univ hx hm) k) Q) := by
  subst h hB
  exact stSq c M (rect4 l j) (s' := S64x2048) (fun _ => rfl) squeezes_S1x1x64x2048_S64x2048 X Y (hw.trans (up4_fun Y).symm)

/-- A load of device `d`'s rows. -/
theorem ldR (M : Memref sig .tc .vmem S256x2048 .f32) (d : Dev nD) {off : Fin 2 → ℕ} {inb : ∀ a, off a + S64x2048.size a ≤ S256x2048.size a}
    (h : off = ![64 * d.val, 0]) {q : PosShare TreeShare} (X : FVec F S256x2048 .f32)
    {hl : M.view.LoadsAt (Rect.unit (s := S256x2048) off S64x2048.size inb).toLoadRect}
    {k : (S64x2048.Idx → Elt F .f32) → Prog (TpuEff nD τ sig (Elt F) Λ₀ .tc) α} :
    own c M q X ⊢ iprop((own c M q X -∗ WP c (k (rows d X)) Q)
      -∗ WP c (.op (.load M (Rect.unit (s := S256x2048) off S64x2048.size inb).toLoadRect hl) k) Q) := by
  subst h
  exact ld c M (rowR d) X

/-- A store of device `d`'s rows. -/
theorem stR (M : Memref sig .tc .vmem S256x2048 .f32) (d : Dev nD) {off : Fin 2 → ℕ} {inb : ∀ a, off a + S64x2048.size a ≤ S256x2048.size a}
    (h : off = ![64 * d.val, 0]) (X : FVec F S256x2048 .f32) {w : S64x2048.Idx → Elt F .f32}
    {hx : (M.access (Rect.unit (s := S256x2048) off S64x2048.size inb)).Stores Finset.univ}
    {hm : (Finset.univ : Finset (Rect.unit (s := S256x2048) off S64x2048.size inb).shape.Idx) = Finset.univ ∨ ∀ a, (Rect.unit (s := S256x2048) off S64x2048.size inb).stride a = 1}
    {k : PUnit → Prog (TpuEff nD τ sig (Elt F) Λ₀ .tc) α} :
    own c M fullShare X ⊢ iprop((own c M fullShare (put d X w) -∗ WP c (k ⟨⟩) Q)
      -∗ WP c (.op (.store M (Rect.unit (s := S256x2048) off S64x2048.size inb) w Finset.univ hx hm) k) Q) := by
  subst h
  have := st c M (rowR d) X (w := w) (hx := hx) (hm := hm) (k := k) (Q := Q)
  rwa [overlay_rows] at this

theorem hz2 : (![0, 0] : Fin 2 → Nat) = fun _ => 0 := funext fun a => by fin_cases a <;> rfl

theorem WP_ret {a : α} : Q a ⊢ WP (F := F) c (.ret a) Q := by
  show _ ⊢ wp frame _ Set.univ (.ret a) Q
  rw [wp_ret]; exact fupd_intro
theorem WP_bind {β : Type} {p : Prog (TpuEff nD τ sig (Elt F) Λ₀ .tc) β} {k : β → Prog (TpuEff nD τ sig (Elt F) Λ₀ .tc) α} :
    WP c (p >>= k) Q = WP c p (fun b => WP c (k b) Q) := wp_bind ..

/-- A product over three is three. -/
theorem three {M : Type _} [URA M] (f : Fin 3 → sProp M) : bigSep Finset.univ f = iprop(f 0 ∗ f 1 ∗ f 2) := by
  rw [show (Finset.univ : Finset (Fin 3)) = {0, 1, 2} from rfl, bigSep_insert (by decide), bigSep_insert (by decide), bigSep_singleton]; rfl

theorem er {S : Finset Due} {x y : Due} (h : x ∈ S) (n : x ≠ y) : x ∈ S.erase y := Finset.mem_erase.mpr ⟨n, h⟩

/-! ## Peers, layers and offsets -/

/-- The layer of a grid point. -/
def lyr (i : grid0.Coords) : Fin 3 := ⟨(i 0).val, (i 0).isLt⟩

theorem dev_peer0 {n : ℕ} {h : n < nD} (c : Dev nD) (e : n = (c.val + 1) % 4) : (⟨n, h⟩ : Dev nD) = peer c 0 := Fin.ext e
theorem dev_peer1 {n : ℕ} {h : n < nD} (c : Dev nD) (e : n = (c.val + 2) % 4) : (⟨n, h⟩ : Dev nD) = peer c 1 := Fin.ext e
theorem dev_peer2 {n : ℕ} {h : n < nD} (c : Dev nD) (e : n = (c.val + 3) % 4) : (⟨n, h⟩ : Dev nD) = peer c 2 := Fin.ext e

theorem off3_eq : ∀ i, k0_cond2 i = 1#1 → k0_off3 i = ![(i 0).val - 1, 0] := by decide +kernel
theorem off4_eq : ∀ i, k0_cond2 i = 1#1 → k0_off4 i = ![(i 0).val - 1, 0, 0, 0] := by decide +kernel
theorem off5_eq : ∀ i, k0_cond2 i = 1#1 → k0_off5 i = ![(i 0).val - 1, 0, 0, 0] := by decide +kernel
theorem off7_eq : ∀ i, k0_cond2 i = 1#1 → k0_off7 i = ![(i 0).val - 1, 1] := by decide +kernel
theorem off8_eq : ∀ i, k0_cond2 i = 1#1 → k0_off8 i = ![(i 0).val - 1, 1, 0, 0] := by decide +kernel
theorem off9_eq : ∀ i, k0_cond2 i = 1#1 → k0_off9 i = ![(i 0).val - 1, 1, 0, 0] := by decide +kernel
theorem off10_eq : ∀ i, k0_cond2 i = 1#1 → k0_off10 i = ![(i 0).val - 1, 2] := by decide +kernel
theorem off11_eq : ∀ i, k0_cond2 i = 1#1 → k0_off11 i = ![(i 0).val - 1, 2, 0, 0] := by decide +kernel
theorem off12_eq : ∀ i, k0_cond2 i = 1#1 → k0_off12 i = ![(i 0).val - 1, 2, 0, 0] := by decide +kernel

/-! ## The conditions at the points of the grid -/

/-- The layer and the tile of a point. -/
theorem coords0 : ∀ t : Fin 96, ((grid0.coords t) 0).val = t.val / 32 := by decide +kernel
theorem coords1 : ∀ t : Fin 96, ((grid0.coords t) 1).val = t.val % 32 := by decide +kernel
theorem cond1_iff : ∀ t : Fin 96, k0_cond1 (grid0.coords t) = 1#1 ↔ t.val = 0 := by decide +kernel
theorem cond2_iff : ∀ t : Fin 96, k0_cond2 (grid0.coords t) = 1#1 ↔ t.val % 32 = 0 ∧ 0 < t.val := by decide +kernel
theorem cond18_iff : ∀ t : Fin 96, k0_cond18 (grid0.coords t) = 1#1 ↔ t.val % 32 = 16 := by decide +kernel
theorem cond19_iff : ∀ t : Fin 96, k0_cond19 (grid0.coords t) = 1#1 ↔ t.val % 32 = 31 := by decide +kernel
theorem cond20_iff : ∀ t : Fin 96, k0_cond20 (grid0.coords t) = 1#1 ↔ t.val / 32 < 2 := by decide +kernel
theorem cond21_iff : ∀ t : Fin 96, k0_cond21 (grid0.coords t) = 1#1 ↔ t.val / 32 = 2 := by decide +kernel
theorem cond22_iff : ∀ t : Fin 96, k0_cond22 (grid0.coords t) = 1#1 ↔ t.val / 32 = 2 := by decide +kernel

end Cert.RingMlp
end
-- ==== Proof.Opening.lean ====
/-
The first point: the devices greet each other at the barrier, then exchange their rows of the input.
-/
module

public import proofs.«01_k».proof.Proof.Places

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

abbrev M10 : Memref sig .tc .vmem S256x2048 .f32 := Memref.whole cc0_scratch0
abbrev M11 : Memref sig .tc .vmem S256x2048 .f32 := Memref.whole cc0_scratch1
abbrev M12 : Memref sig .tc .vmem S256x2048 .f32 := Memref.whole cc0_scratch2
abbrev M13 : Memref sig .tc .vmem S64x2048 .bf16 := Memref.whole cc0_scratch3

theorem greet (h : k0_cond1 i = 1#1) (v2 : BitVec 32) {S : Finset Due} (hb : ∀ k, Due.bar k ∈ S)
    (hS : ∀ x ∈ ((S.erase (.bar 0)).erase (.bar 1)).erase (.bar 2), 1 < lvDue x)
    (X : FVec F S64x2048 .f32) (Y : FVec F S256x2048 .f32) (Z : FVec F S64x2048 .bf16) {q : PosShare TreeShare}
    {Q : (Σ' (_ : BitVec 32), BitVec 32) → sProp 𝕄} :
    iprop(recs D K ∗ levAts L lv ∗ owe (F := F) c S
      ∗ (dutyTok ER (barC (peer c 0)) 0 (rev 0) ∗ dutyTok ER (barC (peer c 1)) 0 (rev 1) ∗ dutyTok ER (barC (peer c 2)) 0 (rev 2))
      ∗ ((bigSep Finset.univ fun φ : Fam => any (F := F) c (dstM φ 0) fullShare) ∗ (bigSep Finset.univ fun φ : Fam => any (F := F) c (dstM φ 1) fullShare)
        ∗ bigSep Finset.univ fun φ : Fam => any (F := F) c (dstM φ 2) fullShare)
      ∗ atPos ER (barC c) 0 ∅ 0 ∗ cred (tallyAt (barC c) () 3)
      ∗ own c A2 q X ∗ own c M10 fullShare Y ∗ own c M13 fullShare Z)
    ⊢ iprop((∀ r, (owe c (((S.erase (.bar 0)).erase (.bar 1)).erase (.bar 2)) ∗ semVal (barC c) 0
        ∗ (bigSep Finset.univ fun d : Fin 3 => lands (F := F) c d)
        ∗ own c A2 q X ∗ own c M10 fullShare (put c Y X) ∗ own c M13 fullShare (tr X)) -∗ Q r)
      -∗ WP c (k0_part1 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h) Q) := by
  iintro ⟨#HR, #HL, HO, ⟨Ht0, Ht1, Ht2⟩, ⟨Hl0, Hl1, Hl2⟩, Hat, Hc, H2, H10, H13⟩ Hk
  rw [k0_part1_eq_skeleton]; unfold k0_part1_skel
  simp only [semSignalWord, semWaitWord, Prog.lift, Prog.bind_op, Prog.bind_ret, Prog.pure_eq_ret]
  iapply (sigBar c D K 0 (dev_peer0 c (k0_dev1_eq c)) rfl (hb 0)) $$ [HO Ht0 Hl0]
  · iframe; iexact HR
  iintro HO
  iapply (sigBar c D K 1 (S := S.erase (.bar 0)) (dev_peer1 c (k0_dev2_eq c)) rfl (er (hb 1) (by decide))) $$ [HO Ht1 Hl1]
  · iframe; iexact HR
  iintro HO
  iapply (sigBar c D K 2 (S := (S.erase (.bar 0)).erase (.bar 1)) (dev_peer2 c (k0_dev3_eq c)) rfl (er (er (hb 2) (by decide)) (by decide))) $$ [HO Ht2 Hl2]
  · iframe; iexact HR
  iintro HO
  iapply (waitCell c D K none (sm := .reg barS) rfl (wpE_semWait_eq 𝒱₀ (c : Thread nD τ) none Set.univ) (expect_bar D c).symm hS) $$ [HO Hat Hc]
  · iframe; isplitr; · iexact HR
    iexact HL
  iintro ⟨HO, Hz, Hp⟩
  iapply (ldAll c A2 hz2 X) $$ H2; iintro H2
  iapply (ldR c M10 c (k0_off1_eq c) Y) $$ H10; iintro H10
  rw [pay19_eq]
  iapply (stR c M10 c (k0_off1_eq c) Y) $$ H10; iintro H10
  iapply (ldAll c A2 hz2 X) $$ H2; iintro H2
  iapply (ldAll c M13 hz2 Z) $$ H13; iintro H13
  rw [pay20_eq]
  iapply (stAll c M13 hz2 Z) $$ H13; iintro H13
  iapply (WP_ret c)
  iapply Hk
  iframe
  iexact Hp

theorem castX (h : k0_cond1 i = 1#1) (v2 v55 w : BitVec 32) {S : Finset Due} (hm : ∀ k, Due.msg .x k ∈ S) {Q : PUnit → sProp 𝕄} :
    iprop(recs D K ∗ owe (F := F) c S ∗ (TX (F := F) c .x 0 ∗ TX (F := F) c .x 1 ∗ TX (F := F) c .x 2)
      ∗ (own c (srcM .x 0) (shr .x 0) (sent D .x c (peer c 0)) ∗ own c (srcM .x 1) (shr .x 1) (sent D .x c (peer c 1))
        ∗ own c (srcM .x 2) (shr .x 2) (sent D .x c (peer c 2))))
    ⊢ iprop(((owe c (((S.erase (.msg .x 0)).erase (.msg .x 1)).erase (.msg .x 2)) ∗ SX (F := F) c .x 0 ∗ SX (F := F) c .x 1 ∗ SX (F := F) c .x 2) -∗ Q ⟨⟩)
      -∗ WP c (k0_part2 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h v55 w) Q) := by
  iintro ⟨#HR, HO, ⟨HT0, HT1, HT2⟩, ⟨Hs0, Hs1, Hs2⟩⟩ Hk
  rw [k0_part2_eq_skeleton]; unfold k0_part2_skel
  simp only [Prog.lift, Prog.bind_op, Prog.bind_ret, Prog.pure_eq_ret]
  iapply (send c D K .x 0 (dev_peer0 c (k0_dev4_eq c)) rfl (at3 _ 2 rfl) (snd_x 0 rfl) (rcv_x 2 rfl) (hm 0)) $$ [HO HT0 Hs0]
  · iframe; iexact HR
  iintro ⟨HO, HX0⟩
  iapply (send c D K .x 1 (dev_peer1 c (k0_dev5_eq c)) rfl (at3 _ 1 rfl) (snd_x 1 rfl) (rcv_x 1 rfl) (S := S.erase (.msg .x 0)) (er (hm 1) (by decide))) $$ [HO HT1 Hs1]
  · iframe; iexact HR
  iintro ⟨HO, HX1⟩
  iapply (send c D K .x 2 (dev_peer2 c (k0_dev6_eq c)) rfl (at3 _ 0 rfl) (snd_x 2 rfl) (rcv_x 0 rfl) (S := (S.erase (.msg .x 0)).erase (.msg .x 1))
    (er (er (hm 2) (by decide)) (by decide))) $$ [HO HT2 Hs2]
  · iframe; iexact HR
  iintro ⟨HO, HX2⟩
  iapply (WP_ret c)
  iapply Hk
  iframe

theorem takeX0 (h : k0_cond1 i = 1#1) (v2 : BitVec 32) {S : Finset Due} (hS : ∀ x ∈ S, 2 < lvDue x) (Y : FVec F S256x2048 .f32)
    {Q : (Σ' (_ : BitVec 32), BitVec 32) → sProp 𝕄} :
    iprop(recs D K ∗ levAts L lv ∗ owe (F := F) c S ∗ RX (F := F) c .x 0 ∗ RX (F := F) c .x 1 ∗ own c M10 fullShare Y)
    ⊢ iprop((∀ r, (owe c S ∗ semVal (rcvC c .x 0) 0 ∗ own c (dstM .x 0) fullShare (sent D .x (peer c 0) c)
        ∗ semVal (rcvC c .x 1) 0 ∗ own c (dstM .x 1) fullShare (sent D .x (peer c 1) c)
        ∗ own c M10 fullShare (put (peer c 0) Y (ex (sent D .x (peer c 0) c)))) -∗ Q r)
      -∗ WP c (k0_part3 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h) Q) := by
  iintro ⟨#HR, #HL, HO, HX0, HX1, H10⟩ Hk
  rw [k0_part3_eq_skeleton]; unfold k0_part3_skel
  simp only [Prog.lift, Prog.bind_op, Prog.bind_ret, Prog.pure_eq_ret]
  iapply (recvWait c D K .x 0 (rcv_x 0 rfl) hS (at3 _ 0 rfl)) $$ [HO HX0]
  · iframe; isplitr; · iexact HR
    iexact HL
  iintro ⟨HO, Hz0, Hd0⟩
  iapply (ld3 c (dstM .x 0) (Memref.whole cc0_scratch4) 0 rfl rfl (sent D .x (peer c 0) c)) $$ Hd0; iintro Hd0
  iapply (ldR c M10 (peer c 0) (k0_off2_eq c 0) Y) $$ H10; iintro H10
  rw [pay21_eq]
  iapply (stR c M10 (peer c 0) (k0_off2_eq c 0) Y) $$ H10; iintro H10
  iapply (recvWait c D K .x 1 (rcv_x 1 rfl) hS (at3 _ 1 rfl)) $$ [HO HX1]
  · iframe; isplitr; · iexact HR
    iexact HL
  iintro ⟨HO, Hz1, Hd1⟩
  iapply (WP_ret c)
  iapply Hk
  iframe

end Cert.RingMlp
end
-- ==== Proof.Sending.lean ====
/-
The partial sums of the other devices' rows go out: after half of the tiles from the first accumulator, at the end from the second.
-/
module

public import proofs.«01_k».proof.Proof.Opening

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

theorem shr_a (l k : Fin 3) : shr (.a l) k = fullShare := by fin_cases k <;> rfl
theorem shr_b (l k : Fin 3) : shr (.b l) k = fullShare := by fin_cases k <;> rfl

/-- The rows of the first peer are put by and sent, those of the second read. -/
theorem castA0 (h : k0_cond18 i = 1#1) (w v2 : BitVec 32) {S : Finset Due} (hm : Due.msg (.a (lyr i)) 0 ∈ S)
    (A : FVec F S256x2048 .f32) (hA : A = accL D (lyr i) c 15) {Q : FVec F S1x1x64x2048 .bf16 → sProp 𝕄} :
    iprop(recs D K ∗ owe (F := F) c S ∗ TX (F := F) c (.a (lyr i)) 0 ∗ own c M11 fullShare A
      ∗ any (F := F) c (srcM (.a (lyr i)) 0) fullShare ∗ any (F := F) c (srcM (.a (lyr i)) 1) fullShare)
    ⊢ iprop(((owe c (S.erase (.msg (.a (lyr i)) 0)) ∗ SX (F := F) c (.a (lyr i)) 0 ∗ own c M11 fullShare A
          ∗ any (F := F) c (srcM (.a (lyr i)) 1) fullShare) -∗ Q (up4 (tr (rows (peer c 1) A))))
      -∗ WP c (k0_part6 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h) Q) := by
  subst hA
  unfold any
  iintro ⟨#HR, HO, HT0, HA, ⟨%X0, Hs0⟩, ⟨%X1, Hs1⟩⟩ Hk
  rw [k0_part6_eq_skeleton]; unfold k0_part6_skel
  simp only [Prog.lift, Prog.bind_op, Prog.bind_ret, Prog.pure_eq_ret]
  iapply (ldR c M11 (peer c 0) (k0_off13_eq c 0) _) $$ HA; iintro HA
  iapply (ld4 c (srcM (.a (lyr i)) 0) (Memref.whole cc0_scratch5) (lyr i) 0 rfl (k0_off14_eq i) X0) $$ Hs0; iintro Hs0
  iapply (st4 c (srcM (.a (lyr i)) 0) (Memref.whole cc0_scratch5) (lyr i) 0 rfl (k0_off14_eq i) X0 (sent D (.a (lyr i)) c (peer c 0)) rfl) $$ Hs0; iintro Hs0
  iapply (send c D K (.a (lyr i)) 0 (dev_peer0 c (k0_dev7_eq c)) (at4 _ (lyr i) 0 (k0_off18_eq i)) (at4 _ (lyr i) 2 (k0_off17_eq i))
    (snd_a (lyr i) 0 (k0_off15_eq i)) (rcv_a (lyr i) 2 (k0_off16_eq i)) hm) $$ [HO HT0 Hs0]
  · rw [shr_a]; iframe; iexact HR
  iintro ⟨HO, HX0⟩
  iapply (ldR c M11 (peer c 1) (k0_off13_eq c 1) _) $$ HA; iintro HA
  iapply (ld4 c (srcM (.a (lyr i)) 1) (Memref.whole cc0_scratch5) (lyr i) 1 rfl (k0_off19_eq i) X1) $$ Hs1; iintro Hs1
  rw [pay26_eq]
  iapply (WP_ret c)
  iapply Hk
  iframe
  iexists X1; iexact Hs1

/-- The rows of the second peer are put by and sent, those of the third put by. -/
theorem castA1 (h : k0_cond18 i = 1#1) (w v2 : BitVec 32) {S : Finset Due} (hm : Due.msg (.a (lyr i)) 1 ∈ S)
    (A : FVec F S256x2048 .f32) (hA : A = accL D (lyr i) c 15) {Q : PUnit → sProp 𝕄} :
    iprop(recs D K ∗ owe (F := F) c S ∗ TX (F := F) c (.a (lyr i)) 1 ∗ own c M11 fullShare A
      ∗ any (F := F) c (srcM (.a (lyr i)) 1) fullShare ∗ any (F := F) c (srcM (.a (lyr i)) 2) fullShare)
    ⊢ iprop(((owe c (S.erase (.msg (.a (lyr i)) 1)) ∗ SX (F := F) c (.a (lyr i)) 1 ∗ own c M11 fullShare A
          ∗ own c (srcM (.a (lyr i)) 2) (shr (.a (lyr i)) 2) (sent D (.a (lyr i)) c (peer c 2))) -∗ Q ⟨⟩)
      -∗ WP c (k0_part7 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h (up4 (tr (rows (peer c 1) A)))) Q) := by
  subst hA
  unfold any
  iintro ⟨#HR, HO, HT1, HA, ⟨%X1, Hs1⟩, ⟨%X2, Hs2⟩⟩ Hk
  rw [k0_part7_eq_skeleton]; unfold k0_part7_skel
  simp only [Prog.lift, Prog.bind_op, Prog.bind_ret, Prog.pure_eq_ret]
  iapply (st4 c (srcM (.a (lyr i)) 1) (Memref.whole cc0_scratch5) (lyr i) 1 rfl (k0_off19_eq i) X1 (sent D (.a (lyr i)) c (peer c 1)) rfl) $$ Hs1; iintro Hs1
  iapply (send c D K (.a (lyr i)) 1 (dev_peer1 c (k0_dev8_eq c)) (at4 _ (lyr i) 1 (k0_off21_eq i)) (at4 _ (lyr i) 1 (k0_off21_eq i))
    (snd_a (lyr i) 1 (k0_off20_eq i)) (rcv_a (lyr i) 1 (k0_off20_eq i)) hm) $$ [HO HT1 Hs1]
  · rw [shr_a]; iframe; iexact HR
  iintro ⟨HO, HX1⟩
  iapply (ldR c M11 (peer c 2) (k0_off13_eq c 2) _) $$ HA; iintro HA
  iapply (ld4 c (srcM (.a (lyr i)) 2) (Memref.whole cc0_scratch5) (lyr i) 2 rfl (k0_off22_eq i) X2) $$ Hs2; iintro Hs2
  iapply (st4 c (srcM (.a (lyr i)) 2) (Memref.whole cc0_scratch5) (lyr i) 2 rfl (k0_off22_eq i) X2 (sent D (.a (lyr i)) c (peer c 2)) rfl) $$ Hs2; iintro Hs2
  iapply (WP_ret c)
  iapply Hk
  rw [shr_a]
  iframe

/-- The rows of the first peer are put by and sent, those of the second read. -/
theorem castB0 (h : k0_cond19 i = 1#1) (w v2 : BitVec 32) {S : Finset Due} (hm : Due.msg (.b (lyr i)) 0 ∈ S)
    (A : FVec F S256x2048 .f32) (hA : A = accL D (lyr i) c 31) {Q : FVec F S1x1x64x2048 .bf16 → sProp 𝕄} :
    iprop(recs D K ∗ owe (F := F) c S ∗ TX (F := F) c (.b (lyr i)) 0 ∗ own c M12 fullShare A
      ∗ any (F := F) c (srcM (.b (lyr i)) 0) fullShare ∗ any (F := F) c (srcM (.b (lyr i)) 1) fullShare)
    ⊢ iprop(((owe c (S.erase (.msg (.b (lyr i)) 0)) ∗ SX (F := F) c (.b (lyr i)) 0 ∗ own c M12 fullShare A
          ∗ any (F := F) c (srcM (.b (lyr i)) 1) fullShare) -∗ Q (up4 (tr (rows (peer c 1) A))))
      -∗ WP c (k0_part22 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h) Q) := by
  subst hA
  unfold any
  iintro ⟨#HR, HO, HT0, HA, ⟨%X0, Hs0⟩, ⟨%X1, Hs1⟩⟩ Hk
  rw [k0_part22_eq_skeleton]; unfold k0_part22_skel
  simp only [Prog.lift, Prog.bind_op, Prog.bind_ret, Prog.pure_eq_ret]
  iapply (ldR c M12 (peer c 0) (k0_off23_eq c 0) _) $$ HA; iintro HA
  iapply (ld4 c (srcM (.b (lyr i)) 0) (Memref.whole cc0_scratch6) (lyr i) 0 rfl (k0_off24_eq i) X0) $$ Hs0; iintro Hs0
  iapply (st4 c (srcM (.b (lyr i)) 0) (Memref.whole cc0_scratch6) (lyr i) 0 rfl (k0_off24_eq i) X0 (sent D (.b (lyr i)) c (peer c 0)) rfl) $$ Hs0; iintro Hs0
  iapply (send c D K (.b (lyr i)) 0 (dev_peer0 c (k0_dev10_eq c)) (at4 _ (lyr i) 0 (k0_off28_eq i)) (at4 _ (lyr i) 2 (k0_off27_eq i))
    (snd_b (lyr i) 0 (k0_off25_eq i)) (rcv_b (lyr i) 2 (k0_off26_eq i)) hm) $$ [HO HT0 Hs0]
  · rw [shr_b]; iframe; iexact HR
  iintro ⟨HO, HX0⟩
  iapply (ldR c M12 (peer c 1) (k0_off23_eq c 1) _) $$ HA; iintro HA
  iapply (ld4 c (srcM (.b (lyr i)) 1) (Memref.whole cc0_scratch6) (lyr i) 1 rfl (k0_off29_eq i) X1) $$ Hs1; iintro Hs1
  rw [pay32_eq]
  iapply (WP_ret c)
  iapply Hk
  iframe
  iexists X1; iexact Hs1

/-- The rows of the second peer are put by and sent, those of the third put by. -/
theorem castB1 (h : k0_cond19 i = 1#1) (w v2 : BitVec 32) {S : Finset Due} (hm : Due.msg (.b (lyr i)) 1 ∈ S)
    (A : FVec F S256x2048 .f32) (hA : A = accL D (lyr i) c 31) {Q : PUnit → sProp 𝕄} :
    iprop(recs D K ∗ owe (F := F) c S ∗ TX (F := F) c (.b (lyr i)) 1 ∗ own c M12 fullShare A
      ∗ any (F := F) c (srcM (.b (lyr i)) 1) fullShare ∗ any (F := F) c (srcM (.b (lyr i)) 2) fullShare)
    ⊢ iprop(((owe c (S.erase (.msg (.b (lyr i)) 1)) ∗ SX (F := F) c (.b (lyr i)) 1 ∗ own c M12 fullShare A
          ∗ own c (srcM (.b (lyr i)) 2) (shr (.b (lyr i)) 2) (sent D (.b (lyr i)) c (peer c 2))) -∗ Q ⟨⟩)
      -∗ WP c (k0_part23 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h (up4 (tr (rows (peer c 1) A)))) Q) := by
  subst hA
  unfold any
  iintro ⟨#HR, HO, HT1, HA, ⟨%X1, Hs1⟩, ⟨%X2, Hs2⟩⟩ Hk
  rw [k0_part23_eq_skeleton]; unfold k0_part23_skel
  simp only [Prog.lift, Prog.bind_op, Prog.bind_ret, Prog.pure_eq_ret]
  iapply (st4 c (srcM (.b (lyr i)) 1) (Memref.whole cc0_scratch6) (lyr i) 1 rfl (k0_off29_eq i) X1 (sent D (.b (lyr i)) c (peer c 1)) rfl) $$ Hs1; iintro Hs1
  iapply (send c D K (.b (lyr i)) 1 (dev_peer1 c (k0_dev11_eq c)) (at4 _ (lyr i) 1 (k0_off31_eq i)) (at4 _ (lyr i) 1 (k0_off31_eq i))
    (snd_b (lyr i) 1 (k0_off30_eq i)) (rcv_b (lyr i) 1 (k0_off30_eq i)) hm) $$ [HO HT1 Hs1]
  · rw [shr_b]; iframe; iexact HR
  iintro ⟨HO, HX1⟩
  iapply (ldR c M12 (peer c 2) (k0_off23_eq c 2) _) $$ HA; iintro HA
  iapply (ld4 c (srcM (.b (lyr i)) 2) (Memref.whole cc0_scratch6) (lyr i) 2 rfl (k0_off32_eq i) X2) $$ Hs2; iintro Hs2
  iapply (st4 c (srcM (.b (lyr i)) 2) (Memref.whole cc0_scratch6) (lyr i) 2 rfl (k0_off32_eq i) X2 (sent D (.b (lyr i)) c (peer c 2)) rfl) $$ Hs2; iintro Hs2
  iapply (WP_ret c)
  iapply Hk
  rw [shr_b]
  iframe

end Cert.RingMlp
end
-- ==== Proof.Receiving.lean ====
/-
The copies of the peers come in: the finished rows at the first point of a layer, the partial sums at its last point, where the own rows are finished and sent.
-/
module

public import proofs.«01_k».proof.Proof.Sending
public import Idealize.ShloMosaic.Lib.MemrefSat

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-- What the wait for a peer's copy leaves: the semaphore at zero and the peer's block. -/
def RD (φ : Fam) (j : Fin 3) : sProp 𝕄 := iprop(semVal (rcvC c φ j) 0 ∗ own c (dstM φ j) fullShare (sent D φ (peer c j) c))
/-- What the wait for the own copy leaves: the semaphore at zero and the source. -/
def SD (φ : Fam) (k : Fin 3) : sProp 𝕄 := iprop(semVal (sndC c φ k) 0 ∗ own c (srcM φ k) (shr φ k) (sent D φ c (peer c k)))

theorem recvD {α : Type} {Q : α → sProp 𝕄} (φ : Fam) (j : Fin 3) {sm : DmaSem sig} (hsm : sm = rcvS φ j) {S : Finset Due} (hS : ∀ x ∈ S, lvFam φ < lvDue x)
    {sp : Space} {s' : Shape} {e' : EltTy} {src : Memref sig .tc sp s' e'} {dst : Memref sig .tc .vmem S64x2048 .bf16} (hd : dst = dstM φ j)
    {h₁ : src.view.WordExact} {h₂ : dst.view.WordExact} {kk : PUnit → Prog (TpuEff nD τ sig (Elt F) Λ₀ .tc) α} :
    iprop(recs D K ∗ levAts L lv ∗ owe (F := F) c S ∗ RX (F := F) c φ j)
      ⊢ iprop(((owe c S ∗ RD D c φ j) -∗ WP c (kk ⟨⟩) Q) -∗ WP c (.op (.waitDma2 sm src dst h₁ h₂) kk) Q) := by
  unfold RD; exact recvWait c D K φ j hsm hS hd
theorem sendD {α : Type} {Q : α → sProp 𝕄} (φ : Fam) (k : Fin 3) {sm : DmaSem sig} (hsm : sm = sndS φ k) {S : Finset Due} (hS : ∀ x ∈ S, 0 < lvDue x)
    {sp : Space} {s' : Shape} {e' : EltTy} {src : Memref sig .tc sp s' e'} {dst : Memref sig .tc .vmem S64x2048 .bf16} (hd : dst = srcM φ k)
    {h₁ : src.view.WordExact} {h₂ : dst.view.WordExact} {kk : PUnit → Prog (TpuEff nD τ sig (Elt F) Λ₀ .tc) α} :
    iprop(recs D K ∗ levAts L lv ∗ owe (F := F) c S ∗ SX (F := F) c φ k)
      ⊢ iprop(((owe c S ∗ SD D c φ k) -∗ WP c (kk ⟨⟩) Q) -∗ WP c (.op (.waitDma2 sm src dst h₁ h₂) kk) Q) := by
  unfold SD; exact sendWait c D K φ k hsm hS hd

/-! ## The finished rows of the peers come in, at the first point of a layer -/

theorem takeG0 (h : k0_cond2 i = 1#1) (l : Fin 3) (hl : l.val = (i 0).val - 1) (w v2 : BitVec 32) {S : Finset Due} (hS : ∀ x ∈ S, lvFam (.g l) < lvDue x)
    (Y : FVec F S256x2048 .f32) {Q : BitVec 32 → sProp 𝕄} :
    iprop(recs D K ∗ levAts L lv ∗ owe (F := F) c S ∗ RX (F := F) c (.g l) 0 ∗ own c M10 fullShare Y)
    ⊢ iprop((∀ r, (owe c S ∗ RD D c (.g l) 0 ∗ own c M10 fullShare (put (peer c 0) Y (ex (sent D (.g l) (peer c 0) c)))) -∗ Q r)
      -∗ WP c (k0_part4 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h) Q) := by
  iintro ⟨#HR, #HL, HO, HX0, H10⟩ Hk
  rw [k0_part4_eq_skeleton]; unfold k0_part4_skel
  simp only [Prog.lift, Prog.bind_op, Prog.bind_ret, Prog.pure_eq_ret]
  have e3 : k0_off3 i = ![l.val, 0] := by rw [hl]; exact off3_eq i h
  have e4 : k0_off4 i = ![l.val, 0, 0, 0] := by rw [hl]; exact off4_eq i h
  have e5 : k0_off5 i = ![l.val, 0, 0, 0] := by rw [hl]; exact off5_eq i h
  iapply (recvD D K c (.g l) 0 (rcv_g l 0 e3) hS (at4 _ l 0 e4)) $$ [HO HX0]
  · iframe; isplitr; · iexact HR
    iexact HL
  unfold RD
  iintro ⟨HO, Hz, Hd⟩
  iapply (ld4 c (dstM (.g l) 0) (Memref.whole cc0_scratch10) l 0 rfl e5 (sent D (.g l) (peer c 0) c)) $$ Hd; iintro Hd
  iapply (ldR c M10 (peer c 0) (k0_off6_eq c 0) Y) $$ H10; iintro H10
  rw [pay22_eq]
  iapply (stR c M10 (peer c 0) (k0_off6_eq c 0) Y) $$ H10; iintro H10
  iapply (WP_ret c)
  iapply Hk
  iframe

theorem takeG1 (h : k0_cond2 i = 1#1) (l : Fin 3) (hl : l.val = (i 0).val - 1) (w v2 : BitVec 32) {S : Finset Due} (hS : ∀ x ∈ S, lvFam (.g l) < lvDue x)
    (Y : FVec F S256x2048 .f32) {Q : FVec F S64x2048 .f32 → sProp 𝕄} :
    iprop(recs D K ∗ levAts L lv ∗ owe (F := F) c S ∗ RX (F := F) c (.g l) 1 ∗ RX (F := F) c (.g l) 2 ∗ own c M10 fullShare Y)
    ⊢ iprop(((owe c S ∗ RD D c (.g l) 1 ∗ RD D c (.g l) 2 ∗ own c M10 fullShare (put (peer c 1) Y (ex (sent D (.g l) (peer c 1) c))))
          -∗ Q (ex (sent D (.g l) (peer c 2) c)))
      -∗ WP c (k0_part5 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h w) Q) := by
  iintro ⟨#HR, #HL, HO, HX1, HX2, H10⟩ Hk
  rw [k0_part5_eq_skeleton]; unfold k0_part5_skel
  simp only [Prog.lift, Prog.bind_op, Prog.bind_ret, Prog.pure_eq_ret]
  have e7 : k0_off7 i = ![l.val, 1] := by rw [hl]; exact off7_eq i h
  have e8 : k0_off8 i = ![l.val, 1, 0, 0] := by rw [hl]; exact off8_eq i h
  have e9 : k0_off9 i = ![l.val, 1, 0, 0] := by rw [hl]; exact off9_eq i h
  have e10 : k0_off10 i = ![l.val, 2] := by rw [hl]; exact off10_eq i h
  have e11 : k0_off11 i = ![l.val, 2, 0, 0] := by rw [hl]; exact off11_eq i h
  have e12 : k0_off12 i = ![l.val, 2, 0, 0] := by rw [hl]; exact off12_eq i h
  iapply (recvD D K c (.g l) 1 (rcv_g l 1 e7) hS (at4 _ l 1 e8)) $$ [HO HX1]
  · iframe; isplitr; · iexact HR
    iexact HL
  unfold RD
  iintro ⟨HO, Hz1, Hd1⟩
  iapply (ld4 c (dstM (.g l) 1) (Memref.whole cc0_scratch10) l 1 rfl e9 (sent D (.g l) (peer c 1) c)) $$ Hd1; iintro Hd1
  iapply (ldR c M10 (peer c 1) (k0_off6_eq c 1) Y) $$ H10; iintro H10
  rw [pay23_eq]
  iapply (stR c M10 (peer c 1) (k0_off6_eq c 1) Y) $$ H10; iintro H10
  iapply (recvD D K c (.g l) 2 (rcv_g l 2 e10) hS (at4 _ l 2 e11)) $$ [HO HX2]
  · iframe; isplitr; · iexact HR
    iexact HL
  unfold RD
  iintro ⟨HO, Hz2, Hd2⟩
  iapply (ld4 c (dstM (.g l) 2) (Memref.whole cc0_scratch10) l 2 rfl e12 (sent D (.g l) (peer c 2) c)) $$ Hd2; iintro Hd2
  iapply (ldR c M10 (peer c 2) (k0_off6_eq c 2) _) $$ H10; iintro H10
  rw [pay24_eq]
  iapply (WP_ret c)
  iapply Hk
  iframe

/-! ## The last point of a layer -/

theorem lastB (h : k0_cond19 i = 1#1) (v2 : BitVec 32) {S : Finset Due} (hm : Due.msg (.b (lyr i)) 2 ∈ S)
    (hS : ∀ x ∈ S.erase (.msg (.b (lyr i)) 2), lvFam (.a (lyr i)) < lvDue x) {Q : PUnit → sProp 𝕄} :
    iprop(recs D K ∗ levAts L lv ∗ owe (F := F) c S ∗ TX (F := F) c (.b (lyr i)) 2
      ∗ own c (srcM (.b (lyr i)) 2) (shr (.b (lyr i)) 2) (sent D (.b (lyr i)) c (peer c 2))
      ∗ RX (F := F) c (.a (lyr i)) 0 ∗ RX (F := F) c (.a (lyr i)) 1)
    ⊢ iprop(((owe c (S.erase (.msg (.b (lyr i)) 2)) ∗ SX (F := F) c (.b (lyr i)) 2 ∗ RD D c (.a (lyr i)) 0 ∗ RD D c (.a (lyr i)) 1) -∗ Q ⟨⟩)
      -∗ WP c (k0_part24 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h) Q) := by
  iintro ⟨#HR, #HL, HO, HT, Hs, HX0, HX1⟩ Hk
  rw [k0_part24_eq_skeleton]; unfold k0_part24_skel
  simp only [Prog.lift, Prog.bind_op, Prog.bind_ret, Prog.pure_eq_ret]
  iapply (send c D K (.b (lyr i)) 2 (dev_peer2 c (k0_dev12_eq c)) (at4 _ (lyr i) 2 (k0_off27_eq i)) (at4 _ (lyr i) 0 (k0_off28_eq i))
    (snd_b (lyr i) 2 (k0_off26_eq i)) (rcv_b (lyr i) 0 (k0_off25_eq i)) hm) $$ [HO HT Hs]
  · iframe; iexact HR
  iintro ⟨HO, HX⟩
  iapply (recvD D K c (.a (lyr i)) 0 (rcv_a (lyr i) 0 (k0_off25_eq i)) hS (at4 _ (lyr i) 0 (k0_off28_eq i))) $$ [HO HX0]
  · iframe; isplitr; · iexact HR
    iexact HL
  iintro ⟨HO, HD0⟩
  iapply (recvD D K c (.a (lyr i)) 1 (rcv_a (lyr i) 1 (k0_off30_eq i)) hS (at4 _ (lyr i) 1 (k0_off31_eq i))) $$ [HO HX1]
  · iframe; isplitr; · iexact HR
    iexact HL
  iintro ⟨HO, HD1⟩
  iapply (WP_ret c)
  iapply Hk
  iframe

theorem takeAB (h : k0_cond19 i = 1#1) (v2 : BitVec 32) {S : Finset Due} (hS : ∀ x ∈ S, lvFam (.b (lyr i)) < lvDue x) {Q : PUnit → sProp 𝕄} :
    iprop(recs D K ∗ levAts L lv ∗ owe (F := F) c S ∗ RX (F := F) c (.a (lyr i)) 2 ∗ RX (F := F) c (.b (lyr i)) 0 ∗ RX (F := F) c (.b (lyr i)) 1)
    ⊢ iprop(((owe c S ∗ RD D c (.a (lyr i)) 2 ∗ RD D c (.b (lyr i)) 0 ∗ RD D c (.b (lyr i)) 1) -∗ Q ⟨⟩)
      -∗ WP c (k0_part25 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2 h) Q) := by
  iintro ⟨#HR, #HL, HO, HX0, HX1, HX2⟩ Hk
  rw [k0_part25_eq_skeleton]; unfold k0_part25_skel
  simp only [Prog.lift, Prog.bind_op, Prog.bind_ret, Prog.pure_eq_ret]
  iapply (recvD D K c (.a (lyr i)) 2 (rcv_a (lyr i) 2 (k0_off26_eq i)) (fun x hx => lt_trans (Nat.lt_succ_self _) (hS x hx)) (at4 _ (lyr i) 2 (k0_off27_eq i))) $$ [HO HX0]
  · iframe; isplitr; · iexact HR
    iexact HL
  iintro ⟨HO, HD0⟩
  iapply (recvD D K c (.b (lyr i)) 0 (rcv_b (lyr i) 0 (k0_off25_eq i)) hS (at4 _ (lyr i) 0 (k0_off28_eq i))) $$ [HO HX1]
  · iframe; isplitr; · iexact HR
    iexact HL
  iintro ⟨HO, HD1⟩
  iapply (recvD D K c (.b (lyr i)) 1 (rcv_b (lyr i) 1 (k0_off30_eq i)) hS (at4 _ (lyr i) 1 (k0_off31_eq i))) $$ [HO HX2]
  · iframe; isplitr; · iexact HR
    iexact HL
  iintro ⟨HO, HD2⟩
  iapply (WP_ret c)
  iapply Hk
  iframe

theorem addUp (h : k0_cond19 i = 1#1) (w v2 : BitVec 32) {S : Finset Due} (hS : ∀ x ∈ S, lvFam (.b (lyr i)) < lvDue x)
    (A B : FVec F S256x2048 .f32) {Q : (Σ' (_ : FVec F S64x2048 .f32) (_ : FVec F S64x2048 .f32), FVec F S64x2048 .f32) → sProp 𝕄} :
    iprop(recs D K ∗ levAts L lv ∗ owe (F := F) c S ∗ RX (F := F) c (.b (lyr i)) 2 ∗ own c M11 fullShare A ∗ own c M12 fullShare B
      ∗ RD D c (.a (lyr i)) 0 ∗ RD D c (.a (lyr i)) 1 ∗ RD D c (.a (lyr i)) 2 ∗ RD D c (.b (lyr i)) 0 ∗ RD D c (.b (lyr i)) 1)
    ⊢ iprop(((owe c S ∗ own c M11 fullShare A ∗ own c M12 fullShare B
        ∗ RD D c (.a (lyr i)) 0 ∗ RD D c (.a (lyr i)) 1 ∗ RD D c (.a (lyr i)) 2 ∗ RD D c (.b (lyr i)) 0 ∗ RD D c (.b (lyr i)) 1 ∗ RD D c (.b (lyr i)) 2)
          -∗ Q ⟨k0_pay34 (rows c A) (rows c B) (up4 (sent D (.a (lyr i)) (peer c 0) c)) (up4 (sent D (.a (lyr i)) (peer c 1) c)) (up4 (sent D (.a (lyr i)) (peer c 2) c)),
            k0_pay35 (up4 (sent D (.b (lyr i)) (peer c 0) c)) (up4 (sent D (.b (lyr i)) (peer c 1) c)), k0_pay36 (up4 (sent D (.b (lyr i)) (peer c 2) c))⟩)
      -∗ WP c (k0_part26 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h) Q) := by
  iintro ⟨#HR, #HL, HO, HX2, HA, HB, HD⟩ Hk
  rw [k0_part26_eq_skeleton]; unfold k0_part26_skel
  simp only [Prog.lift, Prog.bind_op, Prog.bind_ret, Prog.pure_eq_ret]
  iapply (recvD D K c (.b (lyr i)) 2 (rcv_b (lyr i) 2 (k0_off26_eq i)) hS (at4 _ (lyr i) 2 (k0_off27_eq i))) $$ [HO HX2]
  · iframe; isplitr; · iexact HR
    iexact HL
  unfold RD
  iintro ⟨HO, Hz, Hd⟩
  icases HD with ⟨⟨Ha0, Hd0⟩, ⟨Ha1, Hd1⟩, ⟨Ha2, Hd2⟩, ⟨Hb0, He0⟩, ⟨Hb1, He1⟩⟩
  iapply (ldR c M11 c (k0_off33_eq c) A) $$ HA; iintro HA
  iapply (ldR c M12 c (k0_off33_eq c) B) $$ HB; iintro HB
  iapply (ld4 c (dstM (.a (lyr i)) 0) (Memref.whole cc0_scratch8) (lyr i) 0 rfl (k0_off24_eq i) (sent D (.a (lyr i)) (peer c 0) c)) $$ Hd0; iintro Hd0
  iapply (ld4 c (dstM (.a (lyr i)) 1) (Memref.whole cc0_scratch8) (lyr i) 1 rfl (k0_off29_eq i) (sent D (.a (lyr i)) (peer c 1) c)) $$ Hd1; iintro Hd1
  iapply (ld4 c (dstM (.a (lyr i)) 2) (Memref.whole cc0_scratch8) (lyr i) 2 rfl (k0_off32_eq i) (sent D (.a (lyr i)) (peer c 2) c)) $$ Hd2; iintro Hd2
  iapply (ld4 c (dstM (.b (lyr i)) 0) (Memref.whole cc0_scratch9) (lyr i) 0 rfl (k0_off24_eq i) (sent D (.b (lyr i)) (peer c 0) c)) $$ He0; iintro He0
  iapply (ld4 c (dstM (.b (lyr i)) 1) (Memref.whole cc0_scratch9) (lyr i) 1 rfl (k0_off29_eq i) (sent D (.b (lyr i)) (peer c 1) c)) $$ He1; iintro He1
  iapply (ld4 c (dstM (.b (lyr i)) 2) (Memref.whole cc0_scratch9) (lyr i) 2 rfl (k0_off32_eq i) (sent D (.b (lyr i)) (peer c 2) c)) $$ Hd; iintro Hd
  iapply (WP_ret c)
  iapply Hk
  iframe

theorem shares {s : Shape} {e : EltTy} (M : Memref sig .tc .vmem s e) (X : s.Idx → Elt F e) :
    own c M fullShare X ⊣⊢ iprop(own c M fullShare.left X ∗ own c M fullShare.right.left X ∗ own c M fullShare.right.right X) := by
  have e1 : own c M fullShare X ⊣⊢ iprop(own c M fullShare.left X ∗ own c M fullShare.right X) := owns_halves _ _ _ X
  have e2 : own c M fullShare.right X ⊣⊢ iprop(own c M fullShare.right.left X ∗ own c M fullShare.right.right X) := owns_halves _ _ _ X
  constructor
  · iintro H
    ihave H := e1.1 $$ H
    icases H with ⟨H1, H⟩
    ihave H := e2.1 $$ H
    icases H with ⟨H2, H3⟩
    isplitl [H1]; · iexact H1
    isplitl [H2] <;> iassumption
  · iintro ⟨H1, H2, H3⟩
    iapply e1.2
    isplitl [H1]; · iexact H1
    iapply e2.2
    isplitl [H2] <;> iassumption

theorem cond21_iff' : ∀ i : grid0.Coords, k0_cond21 i = 1#1 ↔ ¬ k0_cond20 i = 1#1 := by decide +kernel

/-- The finished rows are stored, put by, and sent to the first peer. -/
theorem finish (h : k0_cond19 i = 1#1) (w v2 : BitVec 32) {S : Finset Due} (hm : Due.msg (.g (lyr i)) 0 ∈ S)
    (a b d : FVec F S64x2048 .f32) (hR : k0_pay37 a b d = redL D (lyr i) c) (Y Z : FVec F S256x2048 .f32) {Q : PUnit → sProp 𝕄} :
    iprop(recs D K ∗ owe (F := F) c S ∗ TX (F := F) c (.g (lyr i)) 0 ∗ any (F := F) c (srcM (.g (lyr i)) 0) fullShare ∗ own c M10 fullShare Y ∗ own c A9 fullShare Z)
    ⊢ iprop(((owe c (S.erase (.msg (.g (lyr i)) 0)) ∗ SX (F := F) c (.g (lyr i)) 0
        ∗ own c (srcM (.g (lyr i)) 1) (shr (.g (lyr i)) 1) (sent D (.g (lyr i)) c (peer c 1))
        ∗ own c (srcM (.g (lyr i)) 2) (shr (.g (lyr i)) 2) (sent D (.g (lyr i)) c (peer c 2))
        ∗ own c M10 fullShare (if k0_cond20 i = 1#1 then put c Y (redL D (lyr i) c) else Y)
        ∗ own c A9 fullShare (if k0_cond21 i = 1#1 then put c Z (redL D (lyr i) c) else Z)) -∗ Q ⟨⟩)
      -∗ WP c (k0_part27 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w c v2 h a b d) Q) := by
  unfold any
  iintro ⟨#HR, HO, HT, ⟨%X, Hs⟩, H10, H9⟩ Hk
  rw [k0_part27_eq_skeleton]; unfold k0_part27_skel
  simp only [Prog.lift, Prog.bind_op, Prog.bind_ret, Prog.pure_eq_ret]
  rw [← hR]
  have ep : k0_pay39 a b d = up3 (sent D (.g (lyr i)) c (peer c 0)) := by
    rw [pay39_eq, hR]; rfl
  have src : slot3 (Memref.whole cc0_scratch7) (lyr i) = srcM (.g (lyr i)) 0 := rfl
  by_cases h20 : k0_cond20 i = 1#1
  on_goal 1 =>
    have h21 : ¬ k0_cond21 i = 1#1 := fun h' => (cond21_iff' i).mp h' h20
    rw [dif_pos h20, if_pos h20, if_neg h21, dif_neg h21]
    iapply (ldR c M10 c (k0_off34_eq c) Y) $$ H10; iintro H10
    rw [pay38_eq]
    iapply (stR c M10 c (k0_off34_eq c) Y) $$ H10; iintro H10
  on_goal 2 =>
    have h21 : k0_cond21 i = 1#1 := (cond21_iff' i).mpr h20
    rw [dif_neg h20, if_neg h20, if_pos h21, dif_pos h21]
    iapply (ldR c A9 c (k0_off35_eq c) Z) $$ H9; iintro H9
    iapply (stR c A9 c (k0_off35_eq c) Z) $$ H9; iintro H9
  all_goals
    rw [ep]
    iapply (ld3 c (srcM (.g (lyr i)) 0) (Memref.whole cc0_scratch7) (lyr i) rfl (k0_off36_eq i) X) $$ Hs; iintro Hs
    iapply (st3 c (srcM (.g (lyr i)) 0) (Memref.whole cc0_scratch7) (lyr i) rfl (k0_off36_eq i) X (sent D (.g (lyr i)) c (peer c 0)) rfl) $$ Hs; iintro Hs
    ihave Hs := (shares c (srcM (.g (lyr i)) 0) (sent D (.g (lyr i)) c (peer c 0))).1 $$ Hs
    icases Hs with ⟨Hs0, Hs1, Hs2⟩
    iapply (send c D K (.g (lyr i)) 0 (dev_peer0 c (k0_dev13_eq c)) (at3 _ (lyr i) (k0_off37_eq i)) (at4 _ (lyr i) 2 (k0_off27_eq i))
      (snd_g (lyr i) 0 (k0_off25_eq i)) (rcv_g (lyr i) 2 (k0_off26_eq i)) hm) $$ [HO HT Hs0]
    · isplitr; · iexact HR
      isplitl [HO]; · iexact HO
      isplitl [HT]; · iexact HT
      iexact Hs0
    iintro ⟨HO, HX⟩
    iapply (WP_ret c)
    iapply Hk
    isplitl [HO]; · iexact HO
    isplitl [HX]; · iexact HX
    isplitl [Hs1]; · iexact Hs1
    isplitl [Hs2]; · iexact Hs2
    iframe

end Cert.RingMlp
end
-- ==== Proof.Closing.lean ====
/-
The last point: the last layer's rows come in, every copy sent is waited for, and the devices take leave of each other.
-/
module

public import proofs.«01_k».proof.Proof.Receiving

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-! ## The last layer's rows come in -/

theorem lastG0 (h : k0_cond19 i = 1#1) (h' : k0_cond22 i = 1#1) (v2 : BitVec 32) {S : Finset Due} (hS : ∀ x ∈ S, lvFam (.g 2) < lvDue x)
    (Y : FVec F S256x2048 .f32) {Q : PUnit → sProp 𝕄} :
    iprop(recs D K ∗ levAts L lv ∗ owe (F := F) c S ∗ RX (F := F) c (.g 2) 0 ∗ own c A9 fullShare Y)
    ⊢ iprop(((owe c S ∗ RD D c (.g 2) 0 ∗ own c A9 fullShare (put (peer c 0) Y (ex (sent D (.g 2) (peer c 0) c)))) -∗ Q ⟨⟩)
      -∗ WP c (k0_part8 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h h') Q) := by
  iintro ⟨#HR, #HL, HO, HX0, H9⟩ Hk
  rw [k0_part8_eq_skeleton]; unfold k0_part8_skel
  simp only [Prog.lift, Prog.bind_op, Prog.bind_ret, Prog.pure_eq_ret]
  iapply (recvD D K c (.g 2) 0 (rcv_g 2 0 rfl) hS (at4 _ 2 0 rfl)) $$ [HO HX0]
  · iframe; isplitr; · iexact HR
    iexact HL
  unfold RD
  iintro ⟨HO, Hz0, Hd0⟩
  iapply (ld4 c (dstM (.g 2) 0) (Memref.whole cc0_scratch10) 2 0 rfl rfl (sent D (.g 2) (peer c 0) c)) $$ Hd0; iintro Hd0
  iapply (ldR c A9 (peer c 0) (k0_off38_eq c 0) Y) $$ H9; iintro H9
  rw [pay28_eq]
  iapply (stR c A9 (peer c 0) (k0_off38_eq c 0) Y) $$ H9; iintro H9
  iapply (WP_ret c)
  iapply Hk
  iframe

theorem lastG1 (h : k0_cond19 i = 1#1) (h' : k0_cond22 i = 1#1) (v2 : BitVec 32) {S : Finset Due} (hS : ∀ x ∈ S, lvFam (.g 2) < lvDue x)
    (Y : FVec F S256x2048 .f32) {Q : (Σ' (_ : BitVec 32), FVec F S64x2048 .f32) → sProp 𝕄} :
    iprop(recs D K ∗ levAts L lv ∗ owe (F := F) c S ∗ RX (F := F) c (.g 2) 1 ∗ RX (F := F) c (.g 2) 2 ∗ own c A9 fullShare Y)
    ⊢ iprop((∀ v, (owe c S ∗ RD D c (.g 2) 1 ∗ RD D c (.g 2) 2 ∗ own c A9 fullShare (put (peer c 1) Y (ex (sent D (.g 2) (peer c 1) c))))
          -∗ Q ⟨v, ex (sent D (.g 2) (peer c 2) c)⟩)
      -∗ WP c (k0_part9 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h h') Q) := by
  iintro ⟨#HR, #HL, HO, HX1, HX2, H9⟩ Hk
  rw [k0_part9_eq_skeleton]; unfold k0_part9_skel
  simp only [Prog.lift, Prog.bind_op, Prog.bind_ret, Prog.pure_eq_ret]
  iapply (recvD D K c (.g 2) 1 (rcv_g 2 1 rfl) hS (at4 _ 2 1 rfl)) $$ [HO HX1]
  · iframe; isplitr; · iexact HR
    iexact HL
  unfold RD
  iintro ⟨HO, Hz1, Hd1⟩
  iapply (ld4 c (dstM (.g 2) 1) (Memref.whole cc0_scratch10) 2 1 rfl rfl (sent D (.g 2) (peer c 1) c)) $$ Hd1; iintro Hd1
  iapply (ldR c A9 (peer c 1) (k0_off38_eq c 1) Y) $$ H9; iintro H9
  rw [pay29_eq]
  iapply (stR c A9 (peer c 1) (k0_off38_eq c 1) Y) $$ H9; iintro H9
  iapply (recvD D K c (.g 2) 2 (rcv_g 2 2 rfl) hS (at4 _ 2 2 rfl)) $$ [HO HX2]
  · iframe; isplitr; · iexact HR
    iexact HL
  unfold RD
  iintro ⟨HO, Hz2, Hd2⟩
  iapply (ld4 c (dstM (.g 2) 2) (Memref.whole cc0_scratch10) 2 2 rfl rfl (sent D (.g 2) (peer c 2) c)) $$ Hd2; iintro Hd2
  rw [pay30_eq]
  iapply (WP_ret c)
  iapply Hk
  iframe

/-! ## The waits for the own copies, in the kernel's order -/

theorem sent10 (h : k0_cond19 i = 1#1) (h' : k0_cond22 i = 1#1) (v2 v : BitVec 32) {S : Finset Due} (hS : ∀ x ∈ S, 0 < lvDue x)
    (Y : FVec F S256x2048 .f32) (W : FVec F S64x2048 .f32) {Q : PUnit → sProp 𝕄} :
    iprop(recs D K ∗ levAts L lv ∗ owe (F := F) c S ∗ SX (F := F) c .x 0 ∗ SX (F := F) c (.a 0) 0 ∗ own c A9 fullShare Y)
    ⊢ iprop(((owe c S ∗ SD D c .x 0 ∗ SD D c (.a 0) 0 ∗ own c A9 fullShare (put (peer c 2) Y W)) -∗ Q ⟨⟩)
      -∗ WP c (k0_part10 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h h' v W) Q) := by
  iintro ⟨#HR, #HL, HO, H0, H1, H9⟩ Hk
  rw [k0_part10_eq_skeleton]; unfold k0_part10_skel
  simp only [Prog.lift, Prog.bind_op, Prog.bind_ret, Prog.pure_eq_ret]
  iapply (ldR c A9 (peer c 2) (k0_off38_eq c 2) Y) $$ H9; iintro H9
  iapply (stR c A9 (peer c 2) (k0_off38_eq c 2) Y) $$ H9; iintro H9
  iapply (sendD D K c .x 0 (snd_x 0 rfl) hS rfl) $$ [HO H0]
  · iframe; isplitr; · iexact HR
    iexact HL
  iintro ⟨HO, G0⟩
  iapply (sendD D K c (.a 0) 0 (snd_a 0 0 rfl) hS (at4 _ 0 0 rfl)) $$ [HO H1]
  · iframe; isplitr; · iexact HR
    iexact HL
  iintro ⟨HO, G1⟩
  iapply (WP_ret c)
  iapply Hk
  iframe

theorem sent11 (v2 : BitVec 32) {S : Finset Due} (hS : ∀ x ∈ S, 0 < lvDue x) {Q : PUnit → sProp 𝕄} :
    iprop(recs D K ∗ levAts L lv ∗ owe (F := F) c S ∗ SX (F := F) c (.b 0) 0 ∗ SX (F := F) c (.g 0) 0 ∗ SX (F := F) c (.a 1) 0)
    ⊢ iprop(((owe c S ∗ SD D c (.b 0) 0 ∗ SD D c (.g 0) 0 ∗ SD D c (.a 1) 0) -∗ Q ⟨⟩) -∗ WP c (k0_part11 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part11_eq_skeleton]; unfold k0_part11_skel
  simp only [Prog.lift, Prog.bind_op, Prog.bind_ret, Prog.pure_eq_ret]
  iapply (sendD D K c (.b 0) 0 (snd_b 0 0 rfl) hS (at4 _ 0 0 rfl)) $$ [HO H0]
  · iframe; isplitr; · iexact HR
    iexact HL
  iintro ⟨HO, G0⟩
  iapply (sendD D K c (.g 0) 0 (snd_g 0 0 rfl) hS (at3 _ 0 rfl)) $$ [HO H1]
  · iframe; isplitr; · iexact HR
    iexact HL
  iintro ⟨HO, G1⟩
  iapply (sendD D K c (.a 1) 0 (snd_a 1 0 rfl) hS (at4 _ 1 0 rfl)) $$ [HO H2]
  · iframe; isplitr; · iexact HR
    iexact HL
  iintro ⟨HO, G2⟩
  iapply (WP_ret c)
  iapply Hk
  iframe

theorem sent12 (v2 : BitVec 32) {S : Finset Due} (hS : ∀ x ∈ S, 0 < lvDue x) {Q : PUnit → sProp 𝕄} :
    iprop(recs D K ∗ levAts L lv ∗ owe (F := F) c S ∗ SX (F := F) c (.b 1) 0 ∗ SX (F := F) c (.g 1) 0)
    ⊢ iprop(((owe c S ∗ SD D c (.b 1) 0 ∗ SD D c (.g 1) 0) -∗ Q ⟨⟩) -∗ WP c (k0_part12 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1⟩ Hk
  rw [k0_part12_eq_skeleton]; unfold k0_part12_skel
  simp only [Prog.lift, Prog.bind_op, Prog.bind_ret, Prog.pure_eq_ret]
  iapply (sendD D K c (.b 1) 0 (snd_b 1 0 rfl) hS (at4 _ 1 0 rfl)) $$ [HO H0]
  · iframe; isplitr; · iexact HR
    iexact HL
  iintro ⟨HO, G0⟩
  iapply (sendD D K c (.g 1) 0 (snd_g 1 0 rfl) hS (at3 _ 1 rfl)) $$ [HO H1]
  · iframe; isplitr; · iexact HR
    iexact HL
  iintro ⟨HO, G1⟩
  iapply (WP_ret c)
  iapply Hk
  iframe

theorem sent13 (v2 : BitVec 32) {S : Finset Due} (hS : ∀ x ∈ S, 0 < lvDue x) {Q : PUnit → sProp 𝕄} :
    iprop(recs D K ∗ levAts L lv ∗ owe (F := F) c S ∗ SX (F := F) c (.a 2) 0 ∗ SX (F := F) c (.b 2) 0 ∗ SX (F := F) c (.g 2) 0)
    ⊢ iprop(((owe c S ∗ SD D c (.a 2) 0 ∗ SD D c (.b 2) 0 ∗ SD D c (.g 2) 0) -∗ Q ⟨⟩) -∗ WP c (k0_part13 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part13_eq_skeleton]; unfold k0_part13_skel
  simp only [Prog.lift, Prog.bind_op, Prog.bind_ret, Prog.pure_eq_ret]
  iapply (sendD D K c (.a 2) 0 (snd_a 2 0 rfl) hS (at4 _ 2 0 rfl)) $$ [HO H0]
  · iframe; isplitr; · iexact HR
    iexact HL
  iintro ⟨HO, G0⟩
  iapply (sendD D K c (.b 2) 0 (snd_b 2 0 rfl) hS (at4 _ 2 0 rfl)) $$ [HO H1]
  · iframe; isplitr; · iexact HR
    iexact HL
  iintro ⟨HO, G1⟩
  iapply (sendD D K c (.g 2) 0 (snd_g 2 0 rfl) hS (at3 _ 2 rfl)) $$ [HO H2]
  · iframe; isplitr; · iexact HR
    iexact HL
  iintro ⟨HO, G2⟩
  iapply (WP_ret c)
  iapply Hk
  iframe

theorem sent14 (v2 : BitVec 32) {S : Finset Due} (hS : ∀ x ∈ S, 0 < lvDue x) {Q : (Σ' (_ : BitVec 32), BitVec 32) → sProp 𝕄} :
    iprop(recs D K ∗ levAts L lv ∗ owe (F := F) c S ∗ SX (F := F) c .x 1 ∗ SX (F := F) c (.a 0) 1 ∗ SX (F := F) c (.b 0) 1)
    ⊢ iprop((∀ r, (owe c S ∗ SD D c .x 1 ∗ SD D c (.a 0) 1 ∗ SD D c (.b 0) 1) -∗ Q r) -∗ WP c (k0_part14 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part14_eq_skeleton]; unfold k0_part14_skel
  simp only [Prog.lift, Prog.bind_op, Prog.bind_ret, Prog.pure_eq_ret]
  iapply (sendD D K c .x 1 (snd_x 1 rfl) hS rfl) $$ [HO H0]
  · iframe; isplitr; · iexact HR
    iexact HL
  iintro ⟨HO, G0⟩
  iapply (sendD D K c (.a 0) 1 (snd_a 0 1 rfl) hS (at4 _ 0 1 rfl)) $$ [HO H1]
  · iframe; isplitr; · iexact HR
    iexact HL
  iintro ⟨HO, G1⟩
  iapply (sendD D K c (.b 0) 1 (snd_b 0 1 rfl) hS (at4 _ 0 1 rfl)) $$ [HO H2]
  · iframe; isplitr; · iexact HR
    iexact HL
  iintro ⟨HO, G2⟩
  iapply (WP_ret c)
  iapply Hk
  iframe

theorem sent15 (v2 u w : BitVec 32) {S : Finset Due} (hS : ∀ x ∈ S, 0 < lvDue x) {Q : PUnit → sProp 𝕄} :
    iprop(recs D K ∗ levAts L lv ∗ owe (F := F) c S ∗ SX (F := F) c (.g 0) 1 ∗ SX (F := F) c (.a 1) 1)
    ⊢ iprop(((owe c S ∗ SD D c (.g 0) 1 ∗ SD D c (.a 1) 1) -∗ Q ⟨⟩) -∗ WP c (k0_part15 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2 u w) Q) := by
  iintro ⟨#HR, #HL, HO, H0, H1⟩ Hk
  rw [k0_part15_eq_skeleton]; unfold k0_part15_skel
  simp only [Prog.lift, Prog.bind_op, Prog.bind_ret, Prog.pure_eq_ret]
  iapply (sendD D K c (.g 0) 1 (snd_g 0 1 rfl) hS (at3 _ 0 rfl)) $$ [HO H0]
  · iframe; isplitr; · iexact HR
    iexact HL
  iintro ⟨HO, G0⟩
  iapply (sendD D K c (.a 1) 1 (snd_a 1 1 rfl) hS (at4 _ 1 1 rfl)) $$ [HO H1]
  · iframe; isplitr; · iexact HR
    iexact HL
  iintro ⟨HO, G1⟩
  iapply (WP_ret c)
  iapply Hk
  iframe

theorem sent16 (v2 : BitVec 32) {S : Finset Due} (hS : ∀ x ∈ S, 0 < lvDue x) {Q : PUnit → sProp 𝕄} :
    iprop(recs D K ∗ levAts L lv ∗ owe (F := F) c S ∗ SX (F := F) c (.b 1) 1 ∗ SX (F := F) c (.g 1) 1 ∗ SX (F := F) c (.a 2) 1)
    ⊢ iprop(((owe c S ∗ SD D c (.b 1) 1 ∗ SD D c (.g 1) 1 ∗ SD D c (.a 2) 1) -∗ Q ⟨⟩) -∗ WP c (k0_part16 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part16_eq_skeleton]; unfold k0_part16_skel
  simp only [Prog.lift, Prog.bind_op, Prog.bind_ret, Prog.pure_eq_ret]
  iapply (sendD D K c (.b 1) 1 (snd_b 1 1 rfl) hS (at4 _ 1 1 rfl)) $$ [HO H0]
  · iframe; isplitr; · iexact HR
    iexact HL
  iintro ⟨HO, G0⟩
  iapply (sendD D K c (.g 1) 1 (snd_g 1 1 rfl) hS (at3 _ 1 rfl)) $$ [HO H1]
  · iframe; isplitr; · iexact HR
    iexact HL
  iintro ⟨HO, G1⟩
  iapply (sendD D K c (.a 2) 1 (snd_a 2 1 rfl) hS (at4 _ 2 1 rfl)) $$ [HO H2]
  · iframe; isplitr; · iexact HR
    iexact HL
  iintro ⟨HO, G2⟩
  iapply (WP_ret c)
  iapply Hk
  iframe

theorem sent17 (v2 : BitVec 32) {S : Finset Due} (hS : ∀ x ∈ S, 0 < lvDue x) {Q : (Σ' (_ : BitVec 32), BitVec 32) → sProp 𝕄} :
    iprop(recs D K ∗ levAts L lv ∗ owe (F := F) c S ∗ SX (F := F) c (.b 2) 1 ∗ SX (F := F) c (.g 2) 1 ∗ SX (F := F) c .x 2)
    ⊢ iprop((∀ r, (owe c S ∗ SD D c (.b 2) 1 ∗ SD D c (.g 2) 1 ∗ SD D c .x 2) -∗ Q r) -∗ WP c (k0_part17 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part17_eq_skeleton]; unfold k0_part17_skel
  simp only [Prog.lift, Prog.bind_op, Prog.bind_ret, Prog.pure_eq_ret]
  iapply (sendD D K c (.b 2) 1 (snd_b 2 1 rfl) hS (at4 _ 2 1 rfl)) $$ [HO H0]
  · iframe; isplitr; · iexact HR
    iexact HL
  iintro ⟨HO, G0⟩
  iapply (sendD D K c (.g 2) 1 (snd_g 2 1 rfl) hS (at3 _ 2 rfl)) $$ [HO H1]
  · iframe; isplitr; · iexact HR
    iexact HL
  iintro ⟨HO, G1⟩
  iapply (sendD D K c .x 2 (snd_x 2 rfl) hS rfl) $$ [HO H2]
  · iframe; isplitr; · iexact HR
    iexact HL
  iintro ⟨HO, G2⟩
  iapply (WP_ret c)
  iapply Hk
  iframe

theorem sent18 (v2 u w : BitVec 32) {S : Finset Due} (hS : ∀ x ∈ S, 0 < lvDue x) {Q : PUnit → sProp 𝕄} :
    iprop(recs D K ∗ levAts L lv ∗ owe (F := F) c S ∗ SX (F := F) c (.a 0) 2 ∗ SX (F := F) c (.b 0) 2)
    ⊢ iprop(((owe c S ∗ SD D c (.a 0) 2 ∗ SD D c (.b 0) 2) -∗ Q ⟨⟩) -∗ WP c (k0_part18 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2 u w) Q) := by
  iintro ⟨#HR, #HL, HO, H0, H1⟩ Hk
  rw [k0_part18_eq_skeleton]; unfold k0_part18_skel
  simp only [Prog.lift, Prog.bind_op, Prog.bind_ret, Prog.pure_eq_ret]
  iapply (sendD D K c (.a 0) 2 (snd_a 0 2 rfl) hS (at4 _ 0 2 rfl)) $$ [HO H0]
  · iframe; isplitr; · iexact HR
    iexact HL
  iintro ⟨HO, G0⟩
  iapply (sendD D K c (.b 0) 2 (snd_b 0 2 rfl) hS (at4 _ 0 2 rfl)) $$ [HO H1]
  · iframe; isplitr; · iexact HR
    iexact HL
  iintro ⟨HO, G1⟩
  iapply (WP_ret c)
  iapply Hk
  iframe

theorem sent19 (v2 : BitVec 32) {S : Finset Due} (hS : ∀ x ∈ S, 0 < lvDue x) {Q : PUnit → sProp 𝕄} :
    iprop(recs D K ∗ levAts L lv ∗ owe (F := F) c S ∗ SX (F := F) c (.g 0) 2 ∗ SX (F := F) c (.a 1) 2 ∗ SX (F := F) c (.b 1) 2)
    ⊢ iprop(((owe c S ∗ SD D c (.g 0) 2 ∗ SD D c (.a 1) 2 ∗ SD D c (.b 1) 2) -∗ Q ⟨⟩) -∗ WP c (k0_part19 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1, H2⟩ Hk
  rw [k0_part19_eq_skeleton]; unfold k0_part19_skel
  simp only [Prog.lift, Prog.bind_op, Prog.bind_ret, Prog.pure_eq_ret]
  iapply (sendD D K c (.g 0) 2 (snd_g 0 2 rfl) hS (at3 _ 0 rfl)) $$ [HO H0]
  · iframe; isplitr; · iexact HR
    iexact HL
  iintro ⟨HO, G0⟩
  iapply (sendD D K c (.a 1) 2 (snd_a 1 2 rfl) hS (at4 _ 1 2 rfl)) $$ [HO H1]
  · iframe; isplitr; · iexact HR
    iexact HL
  iintro ⟨HO, G1⟩
  iapply (sendD D K c (.b 1) 2 (snd_b 1 2 rfl) hS (at4 _ 1 2 rfl)) $$ [HO H2]
  · iframe; isplitr; · iexact HR
    iexact HL
  iintro ⟨HO, G2⟩
  iapply (WP_ret c)
  iapply Hk
  iframe

theorem sent20 (v2 : BitVec 32) {S : Finset Due} (hS : ∀ x ∈ S, 0 < lvDue x) {Q : PUnit → sProp 𝕄} :
    iprop(recs D K ∗ levAts L lv ∗ owe (F := F) c S ∗ SX (F := F) c (.g 1) 2 ∗ SX (F := F) c (.a 2) 2)
    ⊢ iprop(((owe c S ∗ SD D c (.g 1) 2 ∗ SD D c (.a 2) 2) -∗ Q ⟨⟩) -∗ WP c (k0_part20 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v2) Q) := by
  iintro ⟨#HR, #HL, HO, H0, H1⟩ Hk
  rw [k0_part20_eq_skeleton]; unfold k0_part20_skel
  simp only [Prog.lift, Prog.bind_op, Prog.bind_ret, Prog.pure_eq_ret]
  iapply (sendD D K c (.g 1) 2 (snd_g 1 2 rfl) hS (at3 _ 1 rfl)) $$ [HO H0]
  · iframe; isplitr; · iexact HR
    iexact HL
  iintro ⟨HO, G0⟩
  iapply (sendD D K c (.a 2) 2 (snd_a 2 2 rfl) hS (at4 _ 2 2 rfl)) $$ [HO H1]
  · iframe; isplitr; · iexact HR
    iexact HL
  iintro ⟨HO, G1⟩
  iapply (WP_ret c)
  iapply Hk
  iframe

theorem sent21 (h : k0_cond19 i = 1#1) (h' : k0_cond22 i = 1#1) (v2 : BitVec 32) {S : Finset Due} (hS : ∀ x ∈ S, 0 < lvDue x) (he : ∀ k, Due.exit k ∈ S) {Q : PUnit → sProp 𝕄} :
    iprop(recs D K ∗ levAts L lv ∗ owe (F := F) c S ∗ SX (F := F) c (.b 2) 2 ∗ SX (F := F) c (.g 2) 2
      ∗ dutyTok ER (exitC (peer c 0)) 0 (rev 0) ∗ dutyTok ER (exitC (peer c 1)) 0 (rev 1) ∗ dutyTok ER (exitC (peer c 2)) 0 (rev 2))
    ⊢ iprop(((owe c (((S.erase (.exit 0)).erase (.exit 1)).erase (.exit 2)) ∗ SD D c (.b 2) 2 ∗ SD D c (.g 2) 2) -∗ Q ⟨⟩)
      -∗ WP c (k0_part21 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v2 h h') Q) := by
  iintro ⟨#HR, #HL, HO, H0, H1, Ht0, Ht1, Ht2⟩ Hk
  rw [k0_part21_eq_skeleton]; unfold k0_part21_skel
  simp only [semSignalWord, Prog.lift, Prog.bind_op, Prog.bind_ret, Prog.pure_eq_ret]
  iapply (sendD D K c (.b 2) 2 (snd_b 2 2 rfl) hS (at4 _ 2 2 rfl)) $$ [HO H0]
  · iframe; isplitr; · iexact HR
    iexact HL
  iintro ⟨HO, G0⟩
  iapply (sendD D K c (.g 2) 2 (snd_g 2 2 rfl) hS (at3 _ 2 rfl)) $$ [HO H1]
  · iframe; isplitr; · iexact HR
    iexact HL
  iintro ⟨HO, G1⟩
  iapply (sigExit c D K 0 (dev_peer0 c (k0_dev16_eq c)) rfl (he 0)) $$ [HO Ht0]
  · iframe; iexact HR
  iintro HO
  iapply (sigExit c D K 1 (S := S.erase (.exit 0)) (dev_peer1 c (k0_dev17_eq c)) rfl (er (he 1) (by decide))) $$ [HO Ht1]
  · iframe; iexact HR
  iintro HO
  iapply (sigExit c D K 2 (S := (S.erase (.exit 0)).erase (.exit 1)) (dev_peer2 c (k0_dev18_eq c)) rfl (er (er (he 2) (by decide)) (by decide))) $$ [HO Ht2]
  · iframe; iexact HR
  iintro HO
  iapply (WP_ret c)
  iapply Hk
  iframe

end Cert.RingMlp
end
-- ==== Proof.Tiles.lean ====
/-
The points of the grid at which no device talks: a tile's product is added to an accumulator.
-/
module

public import proofs.«01_k».proof.Proof.Closing

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-! ## The conditions at a point of layer `l`, tile `r` -/

section Conds
variable (i : grid0.Coords)

abbrev eqW (n m : BitVec 32) : BitVec 1 := Scalar.cmpi .ne (Scalar.extui (Scalar.cmpi .eq n m) : BitVec 32) 0#32
abbrev lyrW (l : BitVec 32) : BitVec 1 := eqW (BitVec.ofNat 32 (i 0).val) l
abbrev tileEq (r : BitVec 32) : BitVec 1 := eqW (BitVec.ofNat 32 (i 1).val) r
abbrev tileMid : BitVec 1 :=
  Scalar.cmpi .ne (Scalar.extui (Scalar.andi (Scalar.cmpi .sgt (BitVec.ofNat 32 (i 1).val) 0#32) (Scalar.cmpi .slt (BitVec.ofNat 32 (i 1).val) 16#32)) : BitVec 32) 0#32
abbrev tileHi : BitVec 1 := Scalar.cmpi .ne (Scalar.extui (Scalar.cmpi .sgt (BitVec.ofNat 32 (i 1).val) 16#32) : BitVec 32) 0#32

theorem lyr0 : ∀ i : grid0.Coords, (lyrW i 0#32 = 1#1) = (lyr i = 0) := by decide +kernel
theorem lyr1 : ∀ i : grid0.Coords, (lyrW i 1#32 = 1#1) = (lyr i = 1) := by decide +kernel
theorem lyr2 : ∀ i : grid0.Coords, (lyrW i 2#32 = 1#1) = (lyr i = 2) := by decide +kernel
theorem tile0 : ∀ i : grid0.Coords, (tileEq i 0#32 = 1#1) = ((i 1).val = 0) := by decide +kernel
theorem tileLo : ∀ i : grid0.Coords, (tileMid i = 1#1) = (0 < (i 1).val ∧ (i 1).val < 16) := by decide +kernel
theorem tile16 : ∀ i : grid0.Coords, (tileEq i 16#32 = 1#1) = ((i 1).val = 16) := by decide +kernel
theorem tileUp : ∀ i : grid0.Coords, (tileHi i = 1#1) = (16 < (i 1).val) := by decide +kernel
theorem c1 : ∀ i : grid0.Coords, (k0_cond1 i = 1#1) = (lyr i = 0 ∧ (i 1).val = 0) := by decide +kernel
theorem c2 : ∀ i : grid0.Coords, (k0_cond2 i = 1#1) = (lyr i ≠ 0 ∧ (i 1).val = 0) := by decide +kernel
theorem c18 : ∀ i : grid0.Coords, (k0_cond18 i = 1#1) = ((i 1).val = 16) := by decide +kernel
theorem c19 : ∀ i : grid0.Coords, (k0_cond19 i = 1#1) = ((i 1).val = 31) := by decide +kernel
theorem c20 : ∀ i : grid0.Coords, (k0_cond20 i = 1#1) = (lyr i ≠ 2) := by decide +kernel
theorem c21 : ∀ i : grid0.Coords, (k0_cond21 i = 1#1) = (lyr i = 2) := by decide +kernel
theorem c22 : ∀ i : grid0.Coords, (k0_cond22 i = 1#1) = (lyr i = 2) := by decide +kernel

end Conds

theorem lcase : ∀ l : Fin 3, l = 0 ∨ l = 1 ∨ l = 2 := by decide

/-- The weights' tiles: each layer's two, in their buffers. -/
def Wins (W : Fin 3 → FVec F S2048x128 .f32) (V : Fin 3 → FVec F S128x2048 .f32) : sProp 𝕄 :=
  iprop(own c A3 fullShare (W 0) ∗ own c A4 fullShare (V 0) ∗ own c A5 fullShare (W 1) ∗ own c A6 fullShare (V 1) ∗ own c A7 fullShare (W 2) ∗ own c A8 fullShare (V 2))

set_option maxHeartbeats 2000000 in
/-- A tile of the first half adds to the first accumulator. -/
theorem stepLo (hr : 0 < (i 1).val) (hr' : (i 1).val < 16) (X : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) (A : FVec F S256x2048 .f32) {Q : PUnit → sProp 𝕄} :
    iprop(own c M10 fullShare X ∗ Wins c A3 A4 A5 A6 A7 A8 W V ∗ own c M11 fullShare A)
    ⊢ iprop(((own c M10 fullShare X ∗ Wins c A3 A4 A5 A6 A7 A8 W V ∗ own c M11 fullShare (k0_pay6 X w v A)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  rcases lcase (lyr i) with hl | hl | hl <;>
  · rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = True := eq_true (by omega)
    have e16 : ((i 1).val < 16) = True := eq_true (by omega)
    have e1 : ((i 1).val = 0) = False := eq_false (by omega)
    have e2 : ((i 1).val = 16) = False := eq_false (by omega)
    have e3 : ((i 1).val = 31) = False := eq_false (by omega)
    have e4 : (16 < (i 1).val) = False := eq_false (by omega)
    unfold Wins cc0_body_skel
    iintro ⟨H10, ⟨H3, H4, H5, H6, H7, H8⟩, H11⟩ Hk
    simp only [Prog.lift, Prog.bind_op, Prog.bind_ret, Prog.pure_eq_ret, lyr0, lyr1, lyr2, tile0, tileLo, tile16, tileUp, c1, c2, c18, c19, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (ldAll c M10 hz2 X) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M11 hz2 A) $$ H11; iintro H11
    iapply (ldAll c M11 hz2 A) $$ H11; iintro H11
    iapply (stAll c M11 hz2 A) $$ H11; iintro H11
    iapply (WP_ret c)
    iapply Hk
    isplitl [H10]; · iexact H10
    isplitr [H11]; · iframe
    iexact H11

set_option maxHeartbeats 2000000 in
/-- A tile of the second half adds to the second accumulator. -/
theorem stepHi (hr : 16 < (i 1).val) (hr' : (i 1).val < 31) (X : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) (A : FVec F S256x2048 .f32) {Q : PUnit → sProp 𝕄} :
    iprop(own c M10 fullShare X ∗ Wins c A3 A4 A5 A6 A7 A8 W V ∗ own c M12 fullShare A)
    ⊢ iprop(((own c M10 fullShare X ∗ Wins c A3 A4 A5 A6 A7 A8 W V ∗ own c M12 fullShare (k0_pay6 X w v A)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  rcases lcase (lyr i) with hl | hl | hl <;>
  · rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = True := eq_true (by omega)
    have e16 : ((i 1).val < 16) = False := eq_false (by omega)
    have e1 : ((i 1).val = 0) = False := eq_false (by omega)
    have e2 : ((i 1).val = 16) = False := eq_false (by omega)
    have e3 : ((i 1).val = 31) = False := eq_false (by omega)
    have e4 : (16 < (i 1).val) = True := eq_true (by omega)
    unfold Wins cc0_body_skel
    iintro ⟨H10, ⟨H3, H4, H5, H6, H7, H8⟩, H12⟩ Hk
    simp only [Prog.lift, Prog.bind_op, Prog.bind_ret, Prog.pure_eq_ret, lyr0, lyr1, lyr2, tile0, tileLo, tile16, tileUp, c1, c2, c18, c19, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (ldAll c M10 hz2 X) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M12 hz2 A) $$ H12; iintro H12
    iapply (ldAll c M12 hz2 A) $$ H12; iintro H12
    iapply (stAll c M12 hz2 A) $$ H12; iintro H12
    iapply (WP_ret c)
    iapply Hk
    isplitl [H10]; · iexact H10
    isplitr [H12]; · iframe
    iexact H12

end Cert.RingMlp
end
-- ==== Proof.Turns.lean ====
/-
The points at which sums are sent, and at which a layer begins.
-/
module

public import proofs.«01_k».proof.Proof.Tiles

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-- Three of a kind. -/
abbrev trip (f : Fin 3 → sProp 𝕄) : sProp 𝕄 := iprop(f 0 ∗ f 1 ∗ f 2)

set_option maxHeartbeats 500000 in
/-- The first tile of the second half begins the second accumulator; then the first half's sums are sent. -/
theorem stepMid (hr : (i 1).val = 16) (X : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) {S : Finset Due} (hm : ∀ k, Due.msg (.a (lyr i)) k ∈ S)
    (A : FVec F S256x2048 .f32) (hA : A = accL D (lyr i) c 15) (B : FVec F S256x2048 .f32) {Q : PUnit → sProp 𝕄} :
    iprop(recs D K ∗ owe (F := F) c S ∗ trip (TX (F := F) c (.a (lyr i))) ∗ trip (fun k => any (F := F) c (srcM (.a (lyr i)) k) fullShare)
      ∗ own c M10 fullShare X ∗ Wins c A3 A4 A5 A6 A7 A8 W V ∗ own c M11 fullShare A ∗ own c M12 fullShare B)
    ⊢ iprop(((owe c (((S.erase (.msg (.a (lyr i)) 0)).erase (.msg (.a (lyr i)) 1)).erase (.msg (.a (lyr i)) 2)) ∗ trip (SX (F := F) c (.a (lyr i)))
        ∗ own c M10 fullShare X ∗ Wins c A3 A4 A5 A6 A7 A8 W V ∗ own c M11 fullShare A ∗ own c M12 fullShare (k0_pay5 X w v)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have h18 : k0_cond18 i = 1#1 := by rw [c18]; exact hr
  rcases lcase (lyr i) with hl | hl | hl <;>
  · rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = True := eq_true (by omega)
    have e16 : ((i 1).val < 16) = False := eq_false (by omega)
    have e1 : ((i 1).val = 0) = False := eq_false (by omega)
    have e2 : ((i 1).val = 16) = True := eq_true (by omega)
    have e3 : ((i 1).val = 31) = False := eq_false (by omega)
    have e4 : (16 < (i 1).val) = False := eq_false (by omega)
    unfold Wins cc0_body_skel trip
    iintro ⟨#HR, HO, ⟨HT0, HT1, HT2⟩, ⟨Hs0, Hs1, Hs2⟩, H10, ⟨H3, H4, H5, H6, H7, H8⟩, HA, H12⟩ Hk
    simp only [Prog.lift, Prog.bind_op, Prog.bind_ret, Prog.pure_eq_ret, lyr0, lyr1, lyr2, tile0, tileLo, tile16, tileUp, c1, c2, c18, c19, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (ldAll c M10 hz2 X) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M12 hz2 B) $$ H12; iintro H12
    iapply (stAll c M12 hz2 B) $$ H12; iintro H12
    rw [WP_bind]
    iapply (castA0 D K c i A2 h2 A3 h3 A4 h4 A5 h5 A6 h6 A7 h7 A8 h8 A9 h9 h18 _ _ (hm 0) A hA) $$ [HO HT0 HA Hs0 Hs1]
    · iframe; iexact HR
    iintro ⟨HO, HX0, HA, Hs1⟩
    rw [WP_bind]
    iapply (castA1 D K c i A2 h2 A3 h3 A4 h4 A5 h5 A6 h6 A7 h7 A8 h8 A9 h9 h18 _ _ (S := S.erase (.msg (.a (lyr i)) 0)) (er (hm 1) (by rw [hl]; decide)) A hA) $$ [HO HT1 HA Hs1 Hs2]
    · iframe; iexact HR
    iintro ⟨HO, HX1, HA, Hs2⟩
    iapply (send c D K (.a (lyr i)) 2 (dev_peer2 c (k0_dev9_eq c)) (at4 _ (lyr i) 2 (k0_off17_eq i)) (at4 _ (lyr i) 0 (k0_off18_eq i))
      (snd_a (lyr i) 2 (k0_off16_eq i)) (rcv_a (lyr i) 0 (k0_off15_eq i)) (S := (S.erase (.msg (.a (lyr i)) 0)).erase (.msg (.a (lyr i)) 1)) (er (er (hm 2) (by rw [hl]; decide)) (by rw [hl]; decide))) $$ [HO HT2 Hs2]
    · iframe; iexact HR
    iintro ⟨HO, HX2⟩
    iapply (WP_ret c)
    iapply Hk
    isplitl [HO]; · iexact HO
    isplitl [HX0 HX1 HX2]; · iframe
    isplitl [H10]; · iexact H10
    isplitr [HA H12]; · iframe
    isplitl [HA]; · iexact HA
    iexact H12

set_option maxHeartbeats 500000 in
/-- A later layer's first tile: the finished rows of the peers are received, and the product begins the first accumulator. -/
theorem stepFirst (hr : (i 1).val = 0) (hl0 : lyr i ≠ 0) (p : Fin 3) (hp : p.val = (i 0).val - 1) (Y : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) {S : Finset Due}
    (hS : ∀ x ∈ S, lvFam (.g p) < lvDue x) (hY : rows c Y = redL D p c) (A : FVec F S256x2048 .f32) {Q : PUnit → sProp 𝕄} :
    iprop(recs D K ∗ levAts L lv ∗ owe (F := F) c S ∗ trip (RX (F := F) c (.g p)) ∗ own c M10 fullShare Y ∗ Wins c A3 A4 A5 A6 A7 A8 W V ∗ own c M11 fullShare A)
    ⊢ iprop(((owe c S ∗ trip (RD D c (.g p)) ∗ own c M10 fullShare (XL D (p.val + 1) c) ∗ Wins c A3 A4 A5 A6 A7 A8 W V
        ∗ own c M11 fullShare (k0_pay5 (XL D (p.val + 1) c) w v)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hc2 : k0_cond2 i = 1#1 := by rw [c2]; exact ⟨hl0, hr⟩
  have hX : XL D (p.val + 1) c = put (peer c 2) (put (peer c 1) (put (peer c 0) Y (ex (sent D (.g p) (peer c 0) c))) (ex (sent D (.g p) (peer c 1) c)))
      (ex (sent D (.g p) (peer c 2) c)) := by
    rw [XL_succ]; exact (gather_of_stores (redL D p) c Y hY).symm
  rw [hX]
  generalize hZ : put (peer c 2) _ _ = Z
  rcases lcase (lyr i) with hl | hl | hl
  · exact absurd hl hl0
  all_goals
    rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = False := eq_false (by omega)
    have e16 : ((i 1).val < 16) = True := eq_true (by omega)
    have e1 : ((i 1).val = 0) = True := eq_true (by omega)
    have e2 : ((i 1).val = 16) = False := eq_false (by omega)
    have e3 : ((i 1).val = 31) = False := eq_false (by omega)
    have e4 : (16 < (i 1).val) = False := eq_false (by omega)
    unfold Wins cc0_body_skel trip
    iintro ⟨#HR, #HL, HO, ⟨HX0, HX1, HX2⟩, H10, ⟨H3, H4, H5, H6, H7, H8⟩, H11⟩ Hk
    simp only [Prog.lift, Prog.bind_op, Prog.bind_ret, Prog.pure_eq_ret, lyr0, lyr1, lyr2, tile0, tileLo, tile16, tileUp, c1, c2, c18, c19, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (takeG0 D K c i A2 h2 A3 h3 A4 h4 A5 h5 A6 h6 A7 h7 A8 h8 A9 h9 hc2 p hp _ _ hS Y) $$ [HO HX0 H10]
    · iframe; isplitr; · iexact HR
      iexact HL
    iintro %r ⟨HO, HD0, H10⟩
    iapply (takeG1 D K c i A2 h2 A3 h3 A4 h4 A5 h5 A6 h6 A7 h7 A8 h8 A9 h9 hc2 p hp _ _ hS _) $$ [HO HX1 HX2 H10]
    · iframe; isplitr; · iexact HR
      iexact HL
    iintro ⟨HO, HD1, HD2, H10⟩
    rw [pay3_eq]
    iapply (stR c M10 (peer c 2) (k0_off6_eq c 2) _) $$ H10; iintro H10
    ihave H10 := (Entails.of_eq (congrArg (fun X => own (F := F) c M10 fullShare X) hZ)) $$ H10
    iapply (ldAll c M10 hz2 Z) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M11 hz2 A) $$ H11; iintro H11
    iapply (stAll c M11 hz2 A) $$ H11; iintro H11
    iapply (WP_ret c)
    iapply Hk
    isplitl [HO]; · iexact HO
    isplitl [HD0 HD1 HD2]; · iframe
    isplitl [H10]; · iexact H10
    isplitr [H11]; · iframe
    iexact H11

end Cert.RingMlp
end
-- ==== Proof.Ends.lean ====
/-
The points at which a layer ends.
-/
module

public import proofs.«01_k».proof.Proof.Turns

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-- The talk at a layer's last point, up to the first copy of the finished rows: the second half's sums are sent, all the peers' sums
    received and added up, the finished rows stored and sent to the first peer. -/
theorem talk31 (h19 : k0_cond19 i = 1#1) (w1 w2 w3 w4 v2 v3 v4 v5 v6 v7 : BitVec 32) {S : Finset Due}
    (hb : ∀ k, Due.msg (.b (lyr i)) k ∈ S) (hg : Due.msg (.g (lyr i)) 0 ∈ S)
    (hSa : ∀ x ∈ ((S.erase (.msg (.b (lyr i)) 0)).erase (.msg (.b (lyr i)) 1)).erase (.msg (.b (lyr i)) 2), lvFam (.b (lyr i)) < lvDue x)
    (X A B Z : FVec F S256x2048 .f32) (hA : A = accL D (lyr i) c 15) (hB : B = accL D (lyr i) c 31) {R : sProp 𝕄} :
    iprop(recs D K ∗ levAts L lv ∗ owe (F := F) c S
      ∗ trip (TX (F := F) c (.b (lyr i))) ∗ trip (fun k => any (F := F) c (srcM (.b (lyr i)) k) fullShare)
      ∗ trip (RX (F := F) c (.a (lyr i))) ∗ trip (RX (F := F) c (.b (lyr i)))
      ∗ TX (F := F) c (.g (lyr i)) 0 ∗ any (F := F) c (srcM (.g (lyr i)) 0) fullShare
      ∗ own c M10 fullShare X ∗ own c M11 fullShare A ∗ own c M12 fullShare B ∗ own c A9 fullShare Z)
    ⊢ iprop(((owe c (((((S.erase (.msg (.b (lyr i)) 0)).erase (.msg (.b (lyr i)) 1)).erase (.msg (.b (lyr i)) 2))).erase (.msg (.g (lyr i)) 0))
        ∗ trip (SX (F := F) c (.b (lyr i))) ∗ trip (RD D c (.a (lyr i))) ∗ trip (RD D c (.b (lyr i))) ∗ SX (F := F) c (.g (lyr i)) 0
        ∗ own c (srcM (.g (lyr i)) 1) (shr (.g (lyr i)) 1) (sent D (.g (lyr i)) c (peer c 1))
        ∗ own c (srcM (.g (lyr i)) 2) (shr (.g (lyr i)) 2) (sent D (.g (lyr i)) c (peer c 2))
        ∗ own c M10 fullShare (if k0_cond20 i = 1#1 then put c X (redL D (lyr i) c) else X) ∗ own c M11 fullShare A ∗ own c M12 fullShare B
        ∗ own c A9 fullShare (if k0_cond21 i = 1#1 then put c Z (redL D (lyr i) c) else Z)) -∗ R)
      -∗ WP c (k0_part22 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w1 c v2 h19) fun r =>
        WP c (k0_part23 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w2 c v3 h19 r) fun _ => WP c (k0_part24 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c v4 h19) fun _ => WP c (k0_part25 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 v5 h19) fun _ =>
        WP c (k0_part26 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w3 c v6 h19) fun r => WP c (k0_part27 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 w4 c v7 h19 r.1 r.2.1 r.2.2) fun _ => R) := by
  have n1 : Due.msg (.b (lyr i)) 1 ≠ .msg (.b (lyr i)) 0 := fun h => by injection h with _ h; exact absurd h (by decide)
  have n2 : Due.msg (.b (lyr i)) 2 ≠ .msg (.b (lyr i)) 0 := fun h => by injection h with _ h; exact absurd h (by decide)
  have n3 : Due.msg (.b (lyr i)) 2 ≠ .msg (.b (lyr i)) 1 := fun h => by injection h with _ h; exact absurd h (by decide)
  have n4 (k : Fin 3) : Due.msg (.g (lyr i)) 0 ≠ .msg (.b (lyr i)) k := fun h => by injection h with h _; cases h
  have hlt : lvFam (.a (lyr i)) < lvFam (.b (lyr i)) := Nat.lt_succ_self _
  unfold trip
  iintro ⟨#HR, #HL, HO, ⟨HT0, HT1, HT2⟩, ⟨Hs0, Hs1, Hs2⟩, ⟨HA0, HA1, HA2⟩, ⟨HB0, HB1, HB2⟩, HG0, Hsg, H10, H11, H12, H9⟩ Hk
  iapply (castB0 D K c i A2 h2 A3 h3 A4 h4 A5 h5 A6 h6 A7 h7 A8 h8 A9 h9 h19 _ _ (hb 0) B hB) $$ [HO HT0 H12 Hs0 Hs1]
  · iframe; iexact HR
  iintro ⟨HO, HX0, H12, Hs1⟩
  iapply (castB1 D K c i A2 h2 A3 h3 A4 h4 A5 h5 A6 h6 A7 h7 A8 h8 A9 h9 h19 _ _ (S := S.erase (.msg (.b (lyr i)) 0)) (er (hb 1) n1) B hB) $$ [HO HT1 H12 Hs1 Hs2]
  · iframe; iexact HR
  iintro ⟨HO, HX1, H12, Hs2⟩
  iapply (lastB D K c i A2 h2 A3 h3 A4 h4 A5 h5 A6 h6 A7 h7 A8 h8 A9 h9 h19 _ (S := (S.erase (.msg (.b (lyr i)) 0)).erase (.msg (.b (lyr i)) 1)) (er (er (hb 2) n2) n3) (fun x hx => hlt.trans (hSa x hx)))
    $$ [HO HT2 Hs2 HA0 HA1]
  · isplitr; · iexact HR
    isplitr; · iexact HL
    iframe
  iintro ⟨HO, HX2, HRa0, HRa1⟩
  iapply (takeAB D K c i A2 h2 A3 h3 A4 h4 A5 h5 A6 h6 A7 h7 A8 h8 A9 h9 h19 _ hSa) $$ [HO HA2 HB0 HB1]
  · isplitr; · iexact HR
    isplitr; · iexact HL
    iframe
  iintro ⟨HO, HRa2, HRb0, HRb1⟩
  iapply (addUp D K c i A2 h2 A3 h3 A4 h4 A5 h5 A6 h6 A7 h7 A8 h8 A9 h9 h19 _ _ hSa A B) $$ [HO HB2 H11 H12 HRa0 HRa1 HRa2 HRb0 HRb1]
  · isplitr; · iexact HR
    isplitr; · iexact HL
    iframe
  iintro ⟨HO, H11, H12, HRa0, HRa1, HRa2, HRb0, HRb1, HRb2⟩
  iapply (finish D K c i A2 h2 A3 h3 A4 h4 A5 h5 A6 h6 A7 h7 A8 h8 A9 h9 h19 _ _ (S := ((S.erase (.msg (.b (lyr i)) 0)).erase (.msg (.b (lyr i)) 1)).erase (.msg (.b (lyr i)) 2))
    (er (er (er hg (n4 0)) (n4 1)) (n4 2)) _ _ _ (by subst hA hB; rfl) X Z) $$ [HO HG0 Hsg H10 H9]
  · isplitr; · iexact HR
    iframe
  iintro ⟨HO, HXg, Hs1, Hs2, H10, H9⟩
  iapply Hk
  iframe

/-- The last point's ending: the peers' finished rows are received into the result, all own copies waited for, and the exit signalled. -/
theorem close (h19 : k0_cond19 i = 1#1) (h22 : k0_cond22 i = 1#1) (u1 u2 u3 u4 u5 u6 u7 u8 u9 u10 u11 u12 u13 u14 : BitVec 32) {S : Finset Due}
    (hS : ∀ x ∈ S, lvFam (.g 2) < lvDue x) (he : ∀ k, Due.exit k ∈ S)
    (Y : FVec F S256x2048 .f32) {R : sProp 𝕄} :
    iprop(recs D K ∗ levAts L lv ∗ owe (F := F) c S ∗ trip (RX (F := F) c (.g 2)) ∗ own c A9 fullShare Y
      ∗ trip (SX (F := F) c .x) ∗ (trip (SX (F := F) c (.a 0)) ∗ trip (SX (F := F) c (.b 0)) ∗ trip (SX (F := F) c (.g 0)))
      ∗ (trip (SX (F := F) c (.a 1)) ∗ trip (SX (F := F) c (.b 1)) ∗ trip (SX (F := F) c (.g 1)))
      ∗ (trip (SX (F := F) c (.a 2)) ∗ trip (SX (F := F) c (.b 2)) ∗ trip (SX (F := F) c (.g 2)))
      ∗ trip (fun k => dutyTok ER (exitC (peer c k)) 0 (rev k)))
    ⊢ iprop(((owe c (((S.erase (.exit 0)).erase (.exit 1)).erase (.exit 2)) ∗ trip (RD D c (.g 2))
        ∗ own c A9 fullShare (put (peer c 2) (put (peer c 1) (put (peer c 0) Y (ex (sent D (.g 2) (peer c 0) c))) (ex (sent D (.g 2) (peer c 1) c))) (ex (sent D (.g 2) (peer c 2) c)))
        ∗ trip (SD D c .x) ∗ (trip (SD D c (.a 0)) ∗ trip (SD D c (.b 0)) ∗ trip (SD D c (.g 0)))
        ∗ (trip (SD D c (.a 1)) ∗ trip (SD D c (.b 1)) ∗ trip (SD D c (.g 1)))
        ∗ (trip (SD D c (.a 2)) ∗ trip (SD D c (.b 2)) ∗ trip (SD D c (.g 2)))) -∗ R)
      -∗ WP c (k0_part8 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c u1 h19 h22) fun _ => WP c (k0_part9 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c u2 h19 h22) fun r => WP c (k0_part10 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c u3 h19 h22 r.1 r.2) fun _ =>
        WP c (k0_part11 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u4) fun _ => WP c (k0_part12 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u5) fun _ => WP c (k0_part13 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u6) fun _ =>
        WP c (k0_part14 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u7) fun r => WP c (k0_part15 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u8 r.1 r.2) fun _ => WP c (k0_part16 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u9) fun _ =>
        WP c (k0_part17 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u10) fun r => WP c (k0_part18 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u11 r.1 r.2) fun _ => WP c (k0_part19 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u12) fun _ =>
        WP c (k0_part20 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 u13) fun _ => WP c (k0_part21 i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0 c u14 h19 h22) fun _ => R) := by
  have h0 : ∀ x ∈ S, 0 < lvDue x := fun x hx => (Nat.zero_le _).trans_lt (hS x hx)
  unfold trip
  iintro ⟨#HR, #HL, HO, ⟨HG0, HG1, HG2⟩, H9, ⟨x0, x1, x2⟩, ⟨⟨a00, a01, a02⟩, ⟨b00, b01, b02⟩, g00, g01, g02⟩, ⟨⟨a10, a11, a12⟩, ⟨b10, b11, b12⟩, g10, g11, g12⟩,
    ⟨⟨a20, a21, a22⟩, ⟨b20, b21, b22⟩, g20, g21, g22⟩, He0, He1, He2⟩ Hk
  iapply (lastG0 D K c i A2 h2 A3 h3 A4 h4 A5 h5 A6 h6 A7 h7 A8 h8 A9 h9 h19 h22 _ hS Y) $$ [HO HG0 H9]
  · iframe; isplitr; · iexact HR
    iexact HL
  iintro ⟨HO, HG0, H9⟩
  iapply (lastG1 D K c i A2 h2 A3 h3 A4 h4 A5 h5 A6 h6 A7 h7 A8 h8 A9 h9 h19 h22 _ hS _) $$ [HO HG1 HG2 H9]
  · iframe; isplitr; · iexact HR
    iexact HL
  iintro %r ⟨HO, HG1, HG2, H9⟩
  iapply (sent10 D K c i A2 h2 A3 h3 A4 h4 A5 h5 A6 h6 A7 h7 A8 h8 A9 h9 h19 h22 _ _ h0 _ _) $$ [HO x0 a00 H9]
  · iframe; isplitr; · iexact HR
    iexact HL
  iintro ⟨HO, x0, a00, H9⟩
  iapply (sent11 D K c i A2 h2 A3 h3 A4 h4 A5 h5 A6 h6 A7 h7 A8 h8 A9 h9 _ h0) $$ [HO b00 g00 a10]
  · iframe; isplitr; · iexact HR
    iexact HL
  iintro ⟨HO, b00, g00, a10⟩
  iapply (sent12 D K c i A2 h2 A3 h3 A4 h4 A5 h5 A6 h6 A7 h7 A8 h8 A9 h9 _ h0) $$ [HO b10 g10]
  · iframe; isplitr; · iexact HR
    iexact HL
  iintro ⟨HO, b10, g10⟩
  iapply (sent13 D K c i A2 h2 A3 h3 A4 h4 A5 h5 A6 h6 A7 h7 A8 h8 A9 h9 _ h0) $$ [HO a20 b20 g20]
  · iframe; isplitr; · iexact HR
    iexact HL
  iintro ⟨HO, a20, b20, g20⟩
  iapply (sent14 D K c i A2 h2 A3 h3 A4 h4 A5 h5 A6 h6 A7 h7 A8 h8 A9 h9 _ h0) $$ [HO x1 a01 b01]
  · iframe; isplitr; · iexact HR
    iexact HL
  iintro %r ⟨HO, x1, a01, b01⟩
  iapply (sent15 D K c i A2 h2 A3 h3 A4 h4 A5 h5 A6 h6 A7 h7 A8 h8 A9 h9 _ _ _ h0) $$ [HO g01 a11]
  · iframe; isplitr; · iexact HR
    iexact HL
  iintro ⟨HO, g01, a11⟩
  iapply (sent16 D K c i A2 h2 A3 h3 A4 h4 A5 h5 A6 h6 A7 h7 A8 h8 A9 h9 _ h0) $$ [HO b11 g11 a21]
  · iframe; isplitr; · iexact HR
    iexact HL
  iintro ⟨HO, b11, g11, a21⟩
  iapply (sent17 D K c i A2 h2 A3 h3 A4 h4 A5 h5 A6 h6 A7 h7 A8 h8 A9 h9 _ h0) $$ [HO b21 g21 x2]
  · iframe; isplitr; · iexact HR
    iexact HL
  iintro %r ⟨HO, b21, g21, x2⟩
  iapply (sent18 D K c i A2 h2 A3 h3 A4 h4 A5 h5 A6 h6 A7 h7 A8 h8 A9 h9 _ _ _ h0) $$ [HO a02 b02]
  · iframe; isplitr; · iexact HR
    iexact HL
  iintro ⟨HO, a02, b02⟩
  iapply (sent19 D K c i A2 h2 A3 h3 A4 h4 A5 h5 A6 h6 A7 h7 A8 h8 A9 h9 _ h0) $$ [HO g02 a12 b12]
  · iframe; isplitr; · iexact HR
    iexact HL
  iintro ⟨HO, g02, a12, b12⟩
  iapply (sent20 D K c i A2 h2 A3 h3 A4 h4 A5 h5 A6 h6 A7 h7 A8 h8 A9 h9 _ h0) $$ [HO g12 a22]
  · iframe; isplitr; · iexact HR
    iexact HL
  iintro ⟨HO, g12, a22⟩
  iapply (sent21 D K c i A2 h2 A3 h3 A4 h4 A5 h5 A6 h6 A7 h7 A8 h8 A9 h9 h19 h22 _ h0 he) $$ [HO b22 g22 He0 He1 He2]
  · iframe; isplitr; · iexact HR
    iexact HL
  iintro ⟨HO, b22, g22⟩
  iapply Hk
  iframe

set_option maxHeartbeats 800000 in
/-- A layer's last tile, the last layer's excepted: the second half's sums are sent, all sums received, and the finished rows sent. -/
theorem stepLast (hr : (i 1).val = 31) (hl2 : lyr i ≠ 2) (X : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) {S S' S'' : Finset Due}
    (hS' : ((S.erase (.msg (.b (lyr i)) 0)).erase (.msg (.b (lyr i)) 1)).erase (.msg (.b (lyr i)) 2) = S')
    (hS'' : ((S'.erase (.msg (.g (lyr i)) 0)).erase (.msg (.g (lyr i)) 1)).erase (.msg (.g (lyr i)) 2) = S'')
    (hb : ∀ k, Due.msg (.b (lyr i)) k ∈ S) (hg : ∀ k, Due.msg (.g (lyr i)) k ∈ S) (hSa : ∀ x ∈ S', lvFam (.b (lyr i)) < lvDue x)
    (A B Z : FVec F S256x2048 .f32) (hA : A = accL D (lyr i) c 15) (hB : k0_pay6 X w v B = accL D (lyr i) c 31) {Q : PUnit → sProp 𝕄} :
    iprop(recs D K ∗ levAts L lv ∗ owe (F := F) c S
      ∗ trip (TX (F := F) c (.b (lyr i))) ∗ trip (fun k => any (F := F) c (srcM (.b (lyr i)) k) fullShare)
      ∗ trip (RX (F := F) c (.a (lyr i))) ∗ trip (RX (F := F) c (.b (lyr i)))
      ∗ trip (TX (F := F) c (.g (lyr i))) ∗ any (F := F) c (srcM (.g (lyr i)) 0) fullShare
      ∗ own c M10 fullShare X ∗ Wins c A3 A4 A5 A6 A7 A8 W V ∗ own c M11 fullShare A ∗ own c M12 fullShare B ∗ own c A9 fullShare Z)
    ⊢ iprop(((owe c S''
        ∗ trip (RD D c (.a (lyr i))) ∗ trip (RD D c (.b (lyr i))) ∗ trip (SX (F := F) c (.b (lyr i))) ∗ trip (SX (F := F) c (.g (lyr i)))
        ∗ own c M10 fullShare (put c X (redL D (lyr i) c)) ∗ Wins c A3 A4 A5 A6 A7 A8 W V ∗ own c M11 fullShare A ∗ own c M12 fullShare (k0_pay6 X w v B) ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have h19 : k0_cond19 i = 1#1 := by rw [c19]; exact hr
  have n (k : Fin 3) : Due.msg (.g (lyr i)) k ≠ .msg (.b (lyr i)) 0 ∧ Due.msg (.g (lyr i)) k ≠ .msg (.b (lyr i)) 1 ∧ Due.msg (.g (lyr i)) k ≠ .msg (.b (lyr i)) 2 :=
    ⟨fun h => (by injection h with h _; cases h), fun h => (by injection h with h _; cases h), fun h => (by injection h with h _; cases h)⟩
  have m1 : Due.msg (.g (lyr i)) 1 ≠ .msg (.g (lyr i)) 0 := fun h => by injection h with _ h; exact absurd h (by decide)
  have m2 : Due.msg (.g (lyr i)) 2 ≠ .msg (.g (lyr i)) 0 := fun h => by injection h with _ h; exact absurd h (by decide)
  have m3 : Due.msg (.g (lyr i)) 2 ≠ .msg (.g (lyr i)) 1 := fun h => by injection h with _ h; exact absurd h (by decide)
  have hg' (k : Fin 3) : Due.msg (.g (lyr i)) k ∈ S' := hS' ▸ er (er (er (hg k) (n k).1) (n k).2.1) (n k).2.2
  have h20 : k0_cond20 i = 1#1 := by rw [c20]; exact hl2
  have h21 : ¬ k0_cond21 i = 1#1 := fun h => (cond21_iff' i).mp h h20
  rcases lcase (lyr i) with hl | hl | hl
  on_goal 3 => exact absurd hl hl2
  all_goals
    have hB' := hB
    rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = True := eq_true (by omega)
    have e16 : ((i 1).val < 16) = False := eq_false (by omega)
    have e1 : ((i 1).val = 0) = False := eq_false (by omega)
    have e2 : ((i 1).val = 16) = False := eq_false (by omega)
    have e3 : ((i 1).val = 31) = True := eq_true (by omega)
    have e4 : (16 < (i 1).val) = True := eq_true (by omega)
    unfold Wins cc0_body_skel trip
    iintro ⟨#HR, #HL, HO, ⟨HT0, HT1, HT2⟩, ⟨Hs0, Hs1, Hs2⟩, ⟨HA0, HA1, HA2⟩, ⟨HB0, HB1, HB2⟩, ⟨HG0, HG1, HG2⟩, Hsg, H10, ⟨H3, H4, H5, H6, H7, H8⟩, HA, H12, H9⟩ Hk
    simp only [Prog.lift, Prog.bind_op, Prog.bind_ret, Prog.pure_eq_ret, lyr0, lyr1, lyr2, tile0, tileLo, tile16, tileUp, c1, c2, c18, c19, c22, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (ldAll c M10 hz2 X) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M12 hz2 B) $$ H12; iintro H12
    iapply (ldAll c M12 hz2 B) $$ H12; iintro H12
    iapply (stAll c M12 hz2 B) $$ H12; iintro H12
    simp only [WP_bind]
    iapply (talk31 D K c i A2 h2 A3 h3 A4 h4 A5 h5 A6 h6 A7 h7 A8 h8 A9 h9 h19 _ _ _ _ _ _ _ _ _ _ hb (hg 0) (hS'.symm ▸ hSa) X A _ Z hA hB') $$ [HO HT0 HT1 HT2 Hs0 Hs1 Hs2 HA0 HA1 HA2 HB0 HB1 HB2 HG0 Hsg H10 HA H12 H9]
    · isplitr; · iexact HR
      isplitr; · iexact HL
      isplitl [HO]; · iexact HO
      isplitl [HT0 HT1 HT2]; · unfold trip; iframe
      isplitl [Hs0 Hs1 Hs2]; · unfold trip; iframe
      isplitl [HA0 HA1 HA2]; · unfold trip; iframe
      isplitl [HB0 HB1 HB2]; · unfold trip; iframe
      isplitl [HG0]; · iexact HG0
      isplitl [Hsg]; · iexact Hsg
      isplitl [H10]; · iexact H10
      isplitl [HA]; · iexact HA
      isplitl [H12]; · iexact H12
      iexact H9
    rw [hS']
    iintro ⟨HO, HXb, HRa, HRb, HY0, Hs1, Hs2, H10, HA, H12, H9⟩
    iapply (send c D K (.g (lyr i)) 1 (dev_peer1 c (k0_dev14_eq c)) (at3 _ (lyr i) (k0_off37_eq i)) (at4 _ (lyr i) 1 (k0_off31_eq i))
      (snd_g (lyr i) 1 (k0_off30_eq i)) (rcv_g (lyr i) 1 (k0_off30_eq i)) (S := S'.erase (.msg (.g (lyr i)) 0)) (er (hg' 1) m1)) $$ [HO HG1 Hs1]
    · iframe; iexact HR
    iintro ⟨HO, HY1⟩
    iapply (send c D K (.g (lyr i)) 2 (dev_peer2 c (k0_dev15_eq c)) (at3 _ (lyr i) (k0_off37_eq i)) (at4 _ (lyr i) 0 (k0_off28_eq i))
      (snd_g (lyr i) 2 (k0_off26_eq i)) (rcv_g (lyr i) 0 (k0_off25_eq i)) (S := (S'.erase (.msg (.g (lyr i)) 0)).erase (.msg (.g (lyr i)) 1)) (er (er (hg' 2) m2) m3)) $$ [HO HG2 Hs2]
    · iframe; iexact HR
    rw [hS'']
    iintro ⟨HO, HY2⟩
    ihave H10 := (Entails.of_eq (congrArg (fun X => own (F := F) c M10 fullShare X) (if_pos h20))) $$ H10
    ihave H9 := (Entails.of_eq (congrArg (fun X => own (F := F) c A9 fullShare X) (if_neg h21))) $$ H9
    iapply (WP_ret c)
    iapply Hk
    isplitl [HO]; · iexact HO
    isplitl [HRa]; · iexact HRa
    isplitl [HRb]; · iexact HRb
    isplitl [HXb]; · iexact HXb
    isplitl [HY0 HY1 HY2]; · iframe
    isplitl [H10]; · iexact H10
    isplitr [HA H12 H9]; · iframe
    isplitl [HA]; · iexact HA
    isplitl [H12]; · iexact H12
    iexact H9

end Cert.RingMlp
end
-- ==== Proof.Finale.lean ====
/-
The last point of the grid.
-/
module

public import proofs.«01_k».proof.Proof.Ends

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

set_option maxHeartbeats 800000 in
/-- The very last tile: as at a layer's last tile; then the result is gathered, and the devices leave. -/
theorem stepEnd (hr : (i 1).val = 31) (hl : lyr i = 2) (X : FVec F S256x2048 .f32) (W : Fin 3 → FVec F S2048x128 .f32) (V : Fin 3 → FVec F S128x2048 .f32)
    {w : FVec F S2048x128 .f32} {v : FVec F S128x2048 .f32} (hW : W (lyr i) = w) (hV : V (lyr i) = v) {S S' S'' : Finset Due}
    (hS' : ((S.erase (.msg (.b (lyr i)) 0)).erase (.msg (.b (lyr i)) 1)).erase (.msg (.b (lyr i)) 2) = S')
    (hS'' : ((S'.erase (.msg (.g (lyr i)) 0)).erase (.msg (.g (lyr i)) 1)).erase (.msg (.g (lyr i)) 2) = S'')
    (hb : ∀ k, Due.msg (.b (lyr i)) k ∈ S) (hg : ∀ k, Due.msg (.g (lyr i)) k ∈ S) (hSa : ∀ x ∈ S', lvFam (.b (lyr i)) < lvDue x)
    (hSg : ∀ x ∈ S'', lvFam (.g 2) < lvDue x) (he : ∀ k, Due.exit k ∈ S'') (hSe : ∀ x ∈ ((S''.erase (.exit 0)).erase (.exit 1)).erase (.exit 2), 12 < lvDue x)
    (A B Z : FVec F S256x2048 .f32) (hA : A = accL D (lyr i) c 15) (hB : k0_pay6 X w v B = accL D (lyr i) c 31) {Q : PUnit → sProp 𝕄} :
    iprop(recs D K ∗ levAts L lv ∗ owe (F := F) c S
      ∗ trip (TX (F := F) c (.b (lyr i))) ∗ trip (fun k => any (F := F) c (srcM (.b (lyr i)) k) fullShare)
      ∗ trip (RX (F := F) c (.a (lyr i))) ∗ trip (RX (F := F) c (.b (lyr i)))
      ∗ trip (TX (F := F) c (.g (lyr i))) ∗ any (F := F) c (srcM (.g (lyr i)) 0) fullShare
      ∗ trip (RX (F := F) c (.g (lyr i)))
      ∗ trip (SX (F := F) c .x) ∗ (trip (SX (F := F) c (.a 0)) ∗ trip (SX (F := F) c (.b 0)) ∗ trip (SX (F := F) c (.g 0)))
      ∗ (trip (SX (F := F) c (.a 1)) ∗ trip (SX (F := F) c (.b 1)) ∗ trip (SX (F := F) c (.g 1))) ∗ trip (SX (F := F) c (.a 2))
      ∗ trip (fun k => dutyTok ER (exitC (peer c k)) 0 (rev k)) ∗ atPos ER (exitC c) 0 ∅ 0 ∗ cred (tallyAt (exitC c) () 3)
      ∗ own c M10 fullShare X ∗ Wins c A3 A4 A5 A6 A7 A8 W V ∗ own c M11 fullShare A ∗ own c M12 fullShare B ∗ own c A9 fullShare Z)
    ⊢ iprop(((owe c (((S''.erase (.exit 0)).erase (.exit 1)).erase (.exit 2))
        ∗ trip (RD D c (.a (lyr i))) ∗ trip (RD D c (.b (lyr i))) ∗ trip (RD D c (.g (lyr i)))
        ∗ trip (SD D c .x) ∗ (trip (SD D c (.a 0)) ∗ trip (SD D c (.b 0)) ∗ trip (SD D c (.g 0)))
        ∗ (trip (SD D c (.a 1)) ∗ trip (SD D c (.b 1)) ∗ trip (SD D c (.g 1)))
        ∗ (trip (SD D c (.a 2)) ∗ trip (SD D c (.b 2)) ∗ trip (SD D c (.g 2))) ∗ semVal (exitC c) 0
        ∗ own c M10 fullShare X ∗ Wins c A3 A4 A5 A6 A7 A8 W V ∗ own c M11 fullShare A ∗ own c M12 fullShare (k0_pay6 X w v B) ∗ own c A9 fullShare (XL D 3 c)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have h19 : k0_cond19 i = 1#1 := by rw [c19]; exact hr
  have n (k : Fin 3) : Due.msg (.g (lyr i)) k ≠ .msg (.b (lyr i)) 0 ∧ Due.msg (.g (lyr i)) k ≠ .msg (.b (lyr i)) 1 ∧ Due.msg (.g (lyr i)) k ≠ .msg (.b (lyr i)) 2 :=
    ⟨fun h => (by injection h with h _; cases h), fun h => (by injection h with h _; cases h), fun h => (by injection h with h _; cases h)⟩
  have m1 : Due.msg (.g (lyr i)) 1 ≠ .msg (.g (lyr i)) 0 := fun h => by injection h with _ h; exact absurd h (by decide)
  have m2 : Due.msg (.g (lyr i)) 2 ≠ .msg (.g (lyr i)) 0 := fun h => by injection h with _ h; exact absurd h (by decide)
  have m3 : Due.msg (.g (lyr i)) 2 ≠ .msg (.g (lyr i)) 1 := fun h => by injection h with _ h; exact absurd h (by decide)
  have hg' (k : Fin 3) : Due.msg (.g (lyr i)) k ∈ S' := hS' ▸ er (er (er (hg k) (n k).1) (n k).2.1) (n k).2.2
  have h22 : k0_cond22 i = 1#1 := by rw [c22]; exact hl
  have h21 : k0_cond21 i = 1#1 := by rw [c21]; exact hl
  have h20 : ¬ k0_cond20 i = 1#1 := (cond21_iff' i).mp h21
  have hXL : XL D 3 c = put (peer c 2) (put (peer c 1) (put (peer c 0) (put c Z (redL D 2 c)) (ex (sent D (.g 2) (peer c 0) c))) (ex (sent D (.g 2) (peer c 1) c)))
      (ex (sent D (.g 2) (peer c 2) c)) := (XL_succ D 2 c).trans (gather_of_stores (redL D 2) c (put c Z (redL D 2 c)) (rows_put _ _ _)).symm
  rw [hXL]
  · have hB' := hB
    rw [hl] at hW hV; subst hW hV
    have k0 : (lyr i = 0) = _ := congrArg (· = 0) hl
    have k1 : (lyr i = 1) = _ := congrArg (· = 1) hl
    have k2 : (lyr i = 2) = _ := congrArg (· = 2) hl
    have e0 : (0 < (i 1).val) = True := eq_true (by omega)
    have e16 : ((i 1).val < 16) = False := eq_false (by omega)
    have e1 : ((i 1).val = 0) = False := eq_false (by omega)
    have e2 : ((i 1).val = 16) = False := eq_false (by omega)
    have e3 : ((i 1).val = 31) = True := eq_true (by omega)
    have e4 : (16 < (i 1).val) = True := eq_true (by omega)
    unfold Wins cc0_body_skel
    iintro ⟨#HR, #HL, HO, ⟨HT0, HT1, HT2⟩, ⟨Hs0, Hs1, Hs2⟩, ⟨HA0, HA1, HA2⟩, ⟨HB0, HB1, HB2⟩, ⟨HG0, HG1, HG2⟩, Hsg, HRX, HSx, HSl0, HSl1, HSa, Hext, Hat, Hcr,
      H10, ⟨H3, H4, H5, H6, H7, H8⟩, HA, H12, H9⟩ Hk
    simp only [Prog.lift, Prog.bind_op, Prog.bind_ret, Prog.pure_eq_ret, lyr0, lyr1, lyr2, tile0, tileLo, tile16, tileUp, c1, c2, c18, c19, c22, k0, k1, k2, Fin.isValue, Fin.reduceEq, eq_self_iff_true, ne_eq, not_true_eq_false,
      not_false_eq_true, e0, e16, e1, e2, e3, e4, _root_.true_and, _root_.and_true, _root_.and_false, _root_.false_and, ↓reduceDIte, wp_deviceId, wp_bind]
    iapply (ldAll c M10 hz2 X) $$ H10; iintro H10
    first
      | (have _ : lyr i = 0 := hl; iapply (ldAll c A3 hz2 (W 0)) $$ H3; iintro H3; iapply (ldAll c A4 hz2 (V 0)) $$ H4; iintro H4)
      | (have _ : lyr i = 1 := hl; iapply (ldAll c A5 hz2 (W 1)) $$ H5; iintro H5; iapply (ldAll c A6 hz2 (V 1)) $$ H6; iintro H6)
      | (have _ : lyr i = 2 := hl; iapply (ldAll c A7 hz2 (W 2)) $$ H7; iintro H7; iapply (ldAll c A8 hz2 (V 2)) $$ H8; iintro H8)
    iapply (ldAll c M12 hz2 B) $$ H12; iintro H12
    iapply (ldAll c M12 hz2 B) $$ H12; iintro H12
    iapply (stAll c M12 hz2 B) $$ H12; iintro H12
    simp only [WP_bind]
    iapply (talk31 D K c i A2 h2 A3 h3 A4 h4 A5 h5 A6 h6 A7 h7 A8 h8 A9 h9 h19 _ _ _ _ _ _ _ _ _ _ hb (hg 0) (hS'.symm ▸ hSa) X A _ Z hA hB') $$ [HO HT0 HT1 HT2 Hs0 Hs1 Hs2 HA0 HA1 HA2 HB0 HB1 HB2 HG0 Hsg H10 HA H12 H9]
    · isplitr; · iexact HR
      isplitr; · iexact HL
      isplitl [HO]; · iexact HO
      isplitl [HT0 HT1 HT2]; · unfold trip; iframe
      isplitl [Hs0 Hs1 Hs2]; · unfold trip; iframe
      isplitl [HA0 HA1 HA2]; · unfold trip; iframe
      isplitl [HB0 HB1 HB2]; · unfold trip; iframe
      isplitl [HG0]; · iexact HG0
      isplitl [Hsg]; · iexact Hsg
      isplitl [H10]; · iexact H10
      isplitl [HA]; · iexact HA
      isplitl [H12]; · iexact H12
      iexact H9
    rw [hS']
    iintro ⟨HO, HXb, HRa, HRb, HY0, Hs1, Hs2, H10, HA, H12, H9⟩
    iapply (send c D K (.g (lyr i)) 1 (dev_peer1 c (k0_dev14_eq c)) (at3 _ (lyr i) (k0_off37_eq i)) (at4 _ (lyr i) 1 (k0_off31_eq i))
      (snd_g (lyr i) 1 (k0_off30_eq i)) (rcv_g (lyr i) 1 (k0_off30_eq i)) (S := S'.erase (.msg (.g (lyr i)) 0)) (er (hg' 1) m1)) $$ [HO HG1 Hs1]
    · iframe; iexact HR
    iintro ⟨HO, HY1⟩
    iapply (send c D K (.g (lyr i)) 2 (dev_peer2 c (k0_dev15_eq c)) (at3 _ (lyr i) (k0_off37_eq i)) (at4 _ (lyr i) 0 (k0_off28_eq i))
      (snd_g (lyr i) 2 (k0_off26_eq i)) (rcv_g (lyr i) 0 (k0_off25_eq i)) (S := (S'.erase (.msg (.g (lyr i)) 0)).erase (.msg (.g (lyr i)) 1)) (er (er (hg' 2) m2) m3)) $$ [HO HG2 Hs2]
    · iframe; iexact HR
    rw [hS'']
    iintro ⟨HO, HY2⟩
    ihave H10 := (Entails.of_eq (congrArg (fun X => own (F := F) c M10 fullShare X) (if_neg h20))) $$ H10
    ihave H9 := (Entails.of_eq (congrArg (fun X => own (F := F) c A9 fullShare X) (if_pos h21))) $$ H9
    simp only [WP_bind]
    ihave HY : trip (SX (F := F) c (.g (lyr i))) $$ [HY0 HY1 HY2]
    · unfold trip; iframe
    ihave HXb := (Entails.of_eq (congrArg (fun l => trip (SX (F := F) c (.b l))) hl)) $$ HXb
    ihave HY := (Entails.of_eq (congrArg (fun l => trip (SX (F := F) c (.g l))) hl)) $$ HY
    ihave HRX := (Entails.of_eq (congrArg (fun l => trip (RX (F := F) c (.g l))) hl)) $$ HRX
    ihave H9 := (Entails.of_eq (congrArg (fun l => own (F := F) c A9 fullShare (put c Z (redL D l c))) hl)) $$ H9
    iapply (close D K c i A2 h2 A3 h3 A4 h4 A5 h5 A6 h6 A7 h7 A8 h8 A9 h9 h19 h22 _ _ _ _ _ _ _ _ _ _ _ _ _ _ hSg he _) $$ [HO HRX H9 HSx HSl0 HSl1 HSa HXb HY Hext]
    · isplitr; · iexact HR
      isplitr; · iexact HL
      isplitl [HO]; · iexact HO
      isplitl [HRX]; · iexact HRX
      isplitl [H9]; · iexact H9
      isplitl [HSx]; · iexact HSx
      isplitl [HSl0]; · iexact HSl0
      isplitl [HSl1]; · iexact HSl1
      isplitr [Hext]
      · isplitl [HSa]; · iexact HSa
        isplitl [HXb] <;> iassumption
      iexact Hext
    iintro ⟨HO, HRg, H9, HDx, HD0, HD1, HD2⟩
    ihave HRg := (Entails.of_eq (congrArg (fun l => trip (RD D c (.g l))) hl.symm)) $$ HRg
    iapply (waitCell c D K (some .exit) (sm := .reg exitS) rfl (wpE_semWait_eq 𝒱₀ (c : Thread nD τ) none Set.univ) (expect_exit D c).symm hSe) $$ [HO Hat Hcr]
    · iframe; isplitr; · iexact HR
      iexact HL
    iintro ⟨HO, Hz, -⟩
    iapply (WP_ret c)
    iapply (WP_ret c)
    iapply Hk
    isplitl [HO]; · iexact HO
    isplitl [HRa]; · iexact HRa
    isplitl [HRb]; · iexact HRb
    isplitl [HRg]; · iexact HRg
    isplitl [HDx]; · iexact HDx
    isplitl [HD0]; · iexact HD0
    isplitl [HD1]; · iexact HD1
    isplitl [HD2]; · iexact HD2
    isplitl [Hz]; · iexact Hz
    isplitl [H10]; · iexact H10
    isplitr [HA H12 H9]; · iframe
    isplitl [HA]; · iexact HA
    isplitl [H12]; · iexact H12
    iexact H9

end Cert.RingMlp
end
-- ==== Proof.Begin.lean ====
/-
The first point of the grid.
-/
module

public import proofs.«01_k».proof.Proof.Turns

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (K : Dev nD × Cell → ℕ) (c : Dev nD) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)
  {α : Type} {Q : α → sProp (MT nD τ sig Unit (Elt F) ℕ UU ℕ)}

/-- What the peers handed over at the barrier is, with the tokens, the right to make every copy. -/
theorem open_all : iprop((bigSep Finset.univ fun φ : Fam => bigSep Finset.univ fun k => TX0 (F := F) c φ k) ∗ bigSep Finset.univ fun d : Fin 3 => lands (F := F) c d)
    ⊢ (bigSep Finset.univ fun φ : Fam => bigSep Finset.univ fun k => TX (F := F) c φ k : sProp 𝕄) := by
  unfold lands TX
  rw [bigSep_univ_comm fun (d : Fin 3) (φ : Fam) => any (F := F) (peer c d) (dstM φ (rev d)) fullShare, ← bigSep_sep']
  exact bigSep_mono fun φ _ => by rw [← bigSep_sep']; exact Entails.refl _

set_option maxHeartbeats 500000 in
/-- The very first point: the devices greet each other, exchange their rows, and the first tile's product begins the first accumulator. -/
theorem stepOpen (hr : (i 1).val = 0) (hl : lyr i = 0) (X : FVec F S64x2048 .f32) (hX : X = D.x c) (Y : FVec F S256x2048 .f32) (Z : FVec F S64x2048 .bf16)
    (W : Fin 3 → FVec F S2048x128 .f32) (V : Fin 3 → FVec F S128x2048 .f32) {w : FVec F S2048x128 .f32} {v : FVec F S128x2048 .f32} (hW : W (lyr i) = w) (hV : V (lyr i) = v)
    {S : Finset Due} (hb : ∀ k, Due.bar k ∈ S) {S' : Finset Due} (hS' : ((S.erase (.bar 0)).erase (.bar 1)).erase (.bar 2) = S') (hm : ∀ k, Due.msg .x k ∈ S')
    {S'' : Finset Due} (hS'' : ((S'.erase (.msg .x 0)).erase (.msg .x 1)).erase (.msg .x 2) = S'')
    (h1 : ∀ x ∈ S', 1 < lvDue x) (h2' : ∀ x ∈ S'', 2 < lvDue x) (A : FVec F S256x2048 .f32) {q : PosShare TreeShare} {Q : PUnit → sProp 𝕄} :
    iprop(recs D K ∗ levAts L lv ∗ owe (F := F) c S
      ∗ trip (fun k => dutyTok ER (barC (peer c k)) 0 (rev k))
      ∗ trip (fun k => bigSep Finset.univ fun φ : Fam => any (F := F) c (dstM φ k) fullShare)
      ∗ (bigSep Finset.univ fun φ : Fam => bigSep Finset.univ fun k => TX0 (F := F) c φ k)
      ∗ atPos ER (barC c) 0 ∅ 0 ∗ cred (tallyAt (barC c) () 3) ∗ trip (RX (F := F) c .x)
      ∗ own c A2 q X ∗ own c M10 fullShare Y ∗ own c M13 fullShare Z ∗ Wins c A3 A4 A5 A6 A7 A8 W V ∗ own c M11 fullShare A)
    ⊢ iprop(((owe c S'' ∗ semVal (barC c) 0
        ∗ (bigSep (Finset.univ.erase Fam.x) fun φ : Fam => bigSep Finset.univ fun k => TX (F := F) c φ k)
        ∗ trip (SX (F := F) c .x) ∗ trip (RD D c .x)
        ∗ own c A2 q X ∗ own c M10 fullShare (XL D 0 c) ∗ Wins c A3 A4 A5 A6 A7 A8 W V ∗ own c M11 fullShare (k0_pay5 (XL D 0 c) w v)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hc1 : k0_cond1 i = 1#1 := by rw [c1]; exact ⟨hl, hr⟩
  have hXL : XL D 0 c = put (peer c 2) (put (peer c 1) (put (peer c 0) (put c Y X) (ex (sent D .x (peer c 0) c))) (ex (sent D .x (peer c 1) c)))
      (ex (sent D .x (peer c 2) c)) := (gather_of_stores D.x c (put c Y X) (by rw [rows_put, hX])).symm
  rw [hXL]
  generalize hU : put (peer c 2) _ _ = U
  rw [hl] at hW hV; subst hW hV
  · have k0 : (lyr i = 0) = _ := congrArg (· = 0) hl
    have k1 : (lyr i = 1) = _ := congrArg (· = 1) hl
    have k2 : (lyr i = 2) = _ := congrArg (· = 2) hl
    have e0 : (0 < (i 1).val) = False := eq_false (by omega)
    have e16 : ((i 1).val < 16) = True := eq_true (by omega)
    have e1 : ((i 1).val = 0) = True := eq_true (by omega)
    have e2 : ((i 1).val = 16) = False := eq_false (by omega)
    have e3 : ((i 1).val = 31) = False := eq_false (by omega)
    have e4 : (16 < (i 1).val) = False := eq_false (by omega)
    unfold Wins cc0_body_skel trip
    iintro ⟨#HR, #HL, HO, ⟨Hb0, Hb1, Hb2⟩, ⟨Hl0, Hl1, Hl2⟩, HT, Hat, Hc, ⟨HX0, HX1, HX2⟩, H2, H10, H13, ⟨H3, H4, H5, H6, H7, H8⟩, H11⟩ Hk
    simp only [Prog.lift, Prog.bind_op, Prog.bind_ret, Prog.pure_eq_ret, lyr0, lyr1, lyr2, tile0, tileLo, tile16, tileUp, c1, c2, c18, c19, k0, k1, k2, Fin.isValue, Fin.reduceEq, eq_self_iff_true, ne_eq, not_true_eq_false,
      not_false_eq_true, e0, e16, e1, e2, e3, e4, _root_.true_and, _root_.and_true, _root_.and_false, _root_.false_and, _root_.false_and, ↓reduceDIte, wp_deviceId, wp_bind]
    iapply (greet D K c i A2 h2 A3 h3 A4 h4 A5 h5 A6 h6 A7 h7 A8 h8 A9 h9 hc1 _ hb (S := S) (fun x hx => h1 x (hS' ▸ hx)) X Y Z) $$ [HO Hb0 Hb1 Hb2 Hl0 Hl1 Hl2 Hat Hc H2 H10 H13]
    · isplitr; · iexact HR
      isplitr; · iexact HL
      isplitl [HO]; · iexact HO
      isplitl [Hb0 Hb1 Hb2]; · iframe
      isplitl [Hl0 Hl1 Hl2]; · iframe
      iframe
    iintro %r ⟨HO, Hz, Hp, H2, H10, H13⟩
    obtain ⟨r1, r2⟩ := r
    rw [hS']
    ihave HT := (open_all c) $$ [HT Hp]
    · isplitl [HT] <;> iassumption
    ihave HT := (Entails.of_eq (bigSep_univ_at (fun φ : Fam => bigSep Finset.univ fun k => TX (F := F) c φ k) Fam.x)) $$ HT
    icases HT with ⟨HTx, HT⟩
    ihave HTx := (Entails.of_eq (three fun k => TX (F := F) c .x k)) $$ HTx
    icases HTx with ⟨HT0, HT1, HT2⟩
    ihave H13 := (shares c M13 (tr X)).1 $$ H13
    icases H13 with ⟨Hs0, Hs1, Hs2⟩
    simp only [WP_bind]
    iapply (castX D K c i A2 h2 A3 h3 A4 h4 A5 h5 A6 h6 A7 h7 A8 h8 A9 h9 hc1 _ _ _ hm) $$ [HO HT0 HT1 HT2 Hs0 Hs1 Hs2]
    · isplitr; · iexact HR
      isplitl [HO]; · iexact HO
      isplitl [HT0 HT1 HT2]; · iframe
      subst hX
      isplitl [Hs0]; · iexact Hs0
      isplitl [Hs1]; · iexact Hs1
      iexact Hs2
    rw [hS'']
    iintro ⟨HO, HS0, HS1, HS2⟩
    iapply (takeX0 D K c i A2 h2 A3 h3 A4 h4 A5 h5 A6 h6 A7 h7 A8 h8 A9 h9 hc1 _ h2' _) $$ [HO HX0 HX1 H10]
    · iframe; isplitr; · iexact HR
      iexact HL
    iintro %r ⟨HO, Hz0, Hd0, Hz1, Hd1, H10⟩
    obtain ⟨r3, r4⟩ := r
    iapply (ld3 c (dstM .x 1) (Memref.whole cc0_scratch4) 1 rfl rfl (sent D .x (peer c 1) c)) $$ Hd1; iintro Hd1
    iapply (ldR c M10 (peer c 1) (k0_off2_eq c 1) _) $$ H10; iintro H10
    rw [pay1_eq]
    iapply (stR c M10 (peer c 1) (k0_off2_eq c 1) _) $$ H10; iintro H10
    iapply (recvWait c D K .x 2 (rcv_x 2 rfl) h2' (at3 _ 2 rfl)) $$ [HO HX2]
    · iframe; isplitr; · iexact HR
      iexact HL
    iintro ⟨HO, Hz2, Hd2⟩
    iapply (ld3 c (dstM .x 2) (Memref.whole cc0_scratch4) 2 rfl rfl (sent D .x (peer c 2) c)) $$ Hd2; iintro Hd2
    iapply (ldR c M10 (peer c 2) (k0_off2_eq c 2) _) $$ H10; iintro H10
    rw [pay2_eq]
    iapply (stR c M10 (peer c 2) (k0_off2_eq c 2) _) $$ H10; iintro H10
    ihave H10 := (Entails.of_eq (congrArg (fun X => own (F := F) c M10 fullShare X) hU)) $$ H10
    iapply (ldAll c M10 hz2 U) $$ H10; iintro H10
    iapply (ldAll c A3 hz2 (W 0)) $$ H3; iintro H3
    iapply (ldAll c A4 hz2 (V 0)) $$ H4; iintro H4
    iapply (ldAll c M11 hz2 A) $$ H11; iintro H11
    iapply (stAll c M11 hz2 A) $$ H11; iintro H11
    iapply (WP_ret c)
    iapply Hk
    isplitl [HO]; · iexact HO
    isplitl [Hz]; · iexact Hz
    isplitl [HT]; · iexact HT
    isplitl [HS0 HS1 HS2]; · iframe
    isplitl [Hz0 Hd0 Hz1 Hd1 Hz2 Hd2]; · unfold RD; iframe
    isplitl [H2]; · iexact H2
    isplitl [H10]; · iexact H10
    isplitr [H11]; · iframe
    iexact H11

end Cert.RingMlp
end
-- ==== Proof.State.lean ====
/-
What a device holds before each point of the grid.
-/
module

public import proofs.«01_k».proof.Proof.Finale
public import proofs.«01_k».proof.Proof.Begin
public import proofs.«01_k».proof.Proof.Turns

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (c : Dev nD)

/-! ## The state of an exchange before point `t` -/

/-- The blocks an exchange is sent from. -/
def srcs : Fam → sProp 𝕄
  | .x => any (F := F) c M13 fullShare
  | .a l => bigSep Finset.univ fun k => any (F := F) c (srcM (.a l) k) fullShare
  | .b l => bigSep Finset.univ fun k => any (F := F) c (srcM (.b l) k) fullShare
  | .g l => any (F := F) c (srcM (.g l) 0) fullShare

/-- The sending side: before the first point the landing slots are still missing; then the right to copy, with the sources; then the right
    to wait for the own copies; at the end the sources and the semaphores at zero. -/
def sndSt (t : ℕ) (φ : Fam) : sProp 𝕄 :=
  if t = 0 then iprop((bigSep Finset.univ fun k => TX0 (F := F) c φ k) ∗ srcs c φ)
  else if t ≤ sendAt φ then iprop((bigSep Finset.univ fun k => TX (F := F) c φ k) ∗ srcs c φ)
  else if t ≤ 95 then bigSep Finset.univ fun k => SX (F := F) c φ k
  else bigSep Finset.univ fun k => SD D c φ k
/-- The receiving side: the right to wait; then the slots and the semaphores at zero. -/
def rcvSt (t : ℕ) (φ : Fam) : sProp 𝕄 :=
  if t ≤ recvAt φ then bigSep Finset.univ fun j => RX (F := F) c φ j else bigSep Finset.univ fun j => RD D c φ j

/-- The barrier: before the first point all that goes into it; then its semaphore at zero. -/
def barSt (t : ℕ) : sProp 𝕄 :=
  if t = 0 then iprop((bigSep Finset.univ fun k : Fin 3 => dutyTok ER (barC (peer c k)) 0 (rev k))
    ∗ (bigSep Finset.univ fun k : Fin 3 => bigSep Finset.univ fun φ : Fam => any (F := F) c (dstM φ k) fullShare)
    ∗ atPos ER (barC c) 0 ∅ 0 ∗ cred (tallyAt (barC c) () 3))
  else semVal (barC c) 0
/-- The exit: up to the last point all that goes into it; then its semaphore at zero. -/
def extSt (t : ℕ) : sProp 𝕄 :=
  if t ≤ 95 then iprop((bigSep Finset.univ fun k : Fin 3 => dutyTok ER (exitC (peer c k)) 0 (rev k)) ∗ atPos ER (exitC c) 0 ∅ 0 ∗ cred (tallyAt (exitC c) () 3))
  else semVal (exitC c) 0

/-- What the three local buffers hold before point `t`: the gathered array, and the two accumulators. -/
def LocOK (t : ℕ) (X A B : FVec F S256x2048 .f32) : Prop :=
  if t % 32 = 0 then t ≠ 0 → t ≠ 96 → rows c X = redL D (lay (t / 32 - 1)) c
  else X = XL D (t / 32) c ∧ A = accL D (lay (t / 32)) c (min (t % 32 - 1) 15) ∧ (16 < t % 32 → B = accL D (lay (t / 32)) c (t % 32 - 1))
def locSt (t : ℕ) : sProp 𝕄 :=
  iprop(∃ X A B, ⌜LocOK D c t X A B⌝ ∗ own (F := F) c M10 fullShare X ∗ own (F := F) c M11 fullShare A ∗ own (F := F) c M12 fullShare B)

/-- The body's invariant before point `t`. -/
def PhiAt (t : ℕ) : sProp 𝕄 :=
  iprop((∃ K, recs D K) ∗ levAts L lv ∗ bigSep Finset.univ (sndSt D c t) ∗ bigSep Finset.univ (rcvSt D c t)
    ∗ barSt (F := F) c t ∗ extSt (F := F) c t ∗ locSt D c t)

/-! ## What a point leaves as it is -/

theorem snd_same {t : ℕ} {φ : Fam} (h0 : t ≠ 0) (h1 : t < 95) (h : sendAt φ ≠ t) : sndSt D c (t + 1) φ = sndSt D c t φ := by
  unfold sndSt
  rw [if_neg h0, if_neg (Nat.succ_ne_zero t)]
  by_cases h2 : t ≤ sendAt φ
  · rw [if_pos h2, if_pos (by omega)]
  · rw [if_neg h2, if_neg (by omega), if_pos (by omega), if_pos (by omega)]
theorem rcv_same {t : ℕ} {φ : Fam} (h : recvAt φ ≠ t) : rcvSt D c (t + 1) φ = rcvSt D c t φ := by
  unfold rcvSt
  by_cases h2 : t ≤ recvAt φ
  · rw [if_pos h2, if_pos (by omega)]
  · rw [if_neg h2, if_neg (by omega)]
theorem bar_same {t : ℕ} (h : t ≠ 0) : barSt (F := F) c (t + 1) = barSt c t := by
  unfold barSt; rw [if_neg h, if_neg (Nat.succ_ne_zero t)]
theorem ext_same {t : ℕ} (h : t < 95) : extSt (F := F) c (t + 1) = extSt c t := by
  unfold extSt; rw [if_pos (show t + 1 ≤ 95 by omega), if_pos h.le]

theorem snd_before {t : ℕ} {φ : Fam} (h0 : t ≠ 0) (h : sendAt φ = t) :
    sndSt D c t φ = iprop((bigSep Finset.univ fun k => TX (F := F) c φ k) ∗ srcs c φ) := by
  unfold sndSt; rw [if_neg h0, if_pos h.ge]
theorem snd_after {t : ℕ} {φ : Fam} (h1 : t < 95) (h : sendAt φ = t) : sndSt D c (t + 1) φ = bigSep Finset.univ fun k => SX (F := F) c φ k := by
  unfold sndSt; rw [if_neg (Nat.succ_ne_zero t), if_neg (by omega), if_pos (by omega)]
theorem rcv_before {t : ℕ} {φ : Fam} (h : recvAt φ = t) : rcvSt D c t φ = bigSep Finset.univ fun j => RX (F := F) c φ j := by
  unfold rcvSt; rw [if_pos h.ge]
theorem rcv_after {t : ℕ} {φ : Fam} (h : recvAt φ = t) : rcvSt D c (t + 1) φ = bigSep Finset.univ fun j => RD D c φ j := by
  unfold rcvSt; rw [if_neg (by omega)]

/-- Two of a product are taken out, changed, and put back. -/
theorem focus2 {I : Type} [Fintype I] [DecidableEq I] {f g : I → sProp 𝕄} (a b : I) (hab : a ≠ b) (h : ∀ j, j ≠ a → j ≠ b → g j = f j) :
    bigSep Finset.univ f ⊢ iprop(f a ∗ f b ∗ (g a ∗ g b -∗ bigSep Finset.univ g)) := by
  have hb : b ∈ Finset.univ.erase a := Finset.mem_erase.mpr ⟨hab.symm, Finset.mem_univ _⟩
  have hr : bigSep ((Finset.univ.erase a).erase b) g = bigSep ((Finset.univ.erase a).erase b) f :=
    bigSep_congr fun j hj => h j (Finset.ne_of_mem_erase (Finset.mem_of_mem_erase hj)) (Finset.ne_of_mem_erase hj)
  have ef : bigSep (Finset.univ.erase a) f = iprop(f b ∗ bigSep ((Finset.univ.erase a).erase b) f) := bigSep_erase hb
  have eg : bigSep (Finset.univ.erase a) g = iprop(g b ∗ bigSep ((Finset.univ.erase a).erase b) g) := bigSep_erase hb
  rw [bigSep_univ_at f a, bigSep_univ_at g a, ef, eg, hr]
  iintro ⟨Ha, Hb, H⟩
  isplitl [Ha]; · iexact Ha
  isplitl [Hb]; · iexact Hb
  iintro ⟨Ha, Hb⟩
  isplitl [Ha]; · iexact Ha
  isplitl [Hb]; · iexact Hb
  iexact H

/-! ## The times -/

theorem sendAt_lo : ∀ t : Fin 96, t.val % 32 ≠ 16 → t.val % 32 ≠ 31 → t.val ≠ 0 → ∀ φ, sendAt φ ≠ t.val := by decide +kernel
theorem recvAt_lo : ∀ t : Fin 96, t.val % 32 ≠ 31 → t.val % 32 ≠ 0 → ∀ φ, recvAt φ ≠ t.val := by decide +kernel
theorem sendAt_mid : ∀ l : Fin 3, ∀ φ, φ ≠ .a l → sendAt φ ≠ 32 * l.val + 16 := by decide +kernel
theorem recvAt_first : ∀ l : Fin 3, l ≠ 2 → ∀ φ, φ ≠ .g l → recvAt φ ≠ 32 * l.val + 32 := by decide +kernel
theorem sendAt_end : ∀ l : Fin 3, ∀ φ, φ ≠ .b l → φ ≠ .g l → sendAt φ ≠ 32 * l.val + 31 := by decide +kernel
theorem recvAt_end : ∀ l : Fin 3, l ≠ 2 → ∀ φ, φ ≠ .a l → φ ≠ .b l → recvAt φ ≠ 32 * l.val + 31 := by decide +kernel
theorem recvAt_open : ∀ φ, φ ≠ .x → recvAt φ ≠ 0 := by decide +kernel

theorem pend_same : ∀ t : Fin 96, t.val % 32 ≠ 16 → t.val % 32 ≠ 31 → t.val ≠ 0 → pending (t.val + 1) = pending t.val := by decide +kernel
theorem pend_mid : ∀ l : Fin 3, (((pending (32 * l.val + 16)).erase (.msg (.a l) 0)).erase (.msg (.a l) 1)).erase (.msg (.a l) 2) = pending (32 * l.val + 16 + 1) := by
  decide +kernel
theorem pend_first : ∀ p : Fin 3, ∀ x ∈ pending (32 * p.val + 32), lvFam (.g p) < lvDue x := by decide +kernel
theorem mem_mid : ∀ (l k : Fin 3), Due.msg (.a l) k ∈ pending (32 * l.val + 16) := by decide +kernel
theorem mem_b : ∀ (l k : Fin 3), Due.msg (.b l) k ∈ pending (32 * l.val + 31) := by decide +kernel
theorem mem_g : ∀ (l k : Fin 3), Due.msg (.g l) k ∈ pending (32 * l.val + 31) := by decide +kernel
theorem pend_end : ∀ l : Fin 3, l ≠ 2 → (((((((pending (32 * l.val + 31)).erase (.msg (.b l) 0)).erase (.msg (.b l) 1)).erase (.msg (.b l) 2))).erase (.msg (.g l) 0)).erase (.msg (.g l) 1)).erase (.msg (.g l) 2)
    = pending (32 * l.val + 31 + 1) := by decide +kernel
theorem lv_end : ∀ l : Fin 3, ∀ x ∈ (((pending (32 * l.val + 31)).erase (.msg (.b l) 0)).erase (.msg (.b l) 1)).erase (.msg (.b l) 2), lvFam (.b l) < lvDue x := by decide +kernel
/-- The dues left for the very end. -/
abbrev exits : Finset Due := {.exit 0, .exit 1, .exit 2}
theorem pend_last : ((((((pending 95).erase (.msg (.b 2) 0)).erase (.msg (.b 2) 1)).erase (.msg (.b 2) 2)).erase (.msg (.g 2) 0)).erase (.msg (.g 2) 1)).erase (.msg (.g 2) 2) = exits := by decide +kernel
theorem pend_exit : ((exits.erase (.exit 0)).erase (.exit 1)).erase (.exit 2) = pending 96 := by decide +kernel
theorem lv_exits : ∀ x ∈ exits, lvFam (.g 2) < lvDue x := by decide +kernel
theorem mem_exits : ∀ k, Due.exit k ∈ exits := by decide +kernel
theorem mem_bars : ∀ k, Due.bar k ∈ pending 0 := by decide +kernel
theorem pend_none : pending 96 = ∅ := by decide +kernel
/-- The dues once the devices have greeted each other. -/
abbrev greeted : Finset Due := (((pending 0).erase (.bar 0)).erase (.bar 1)).erase (.bar 2)
theorem pend_open : ((greeted.erase (.msg .x 0)).erase (.msg .x 1)).erase (.msg .x 2) = pending 1 := by decide +kernel
theorem mem_greeted : ∀ k, Due.msg .x k ∈ greeted := by decide +kernel
theorem lv_greeted : ∀ x ∈ greeted, 1 < lvDue x := by decide +kernel
theorem lv_one : ∀ x ∈ pending 1, 2 < lvDue x := by decide +kernel

end Cert.RingMlp
end
-- ==== Proof.Core.lean ====
/-
One point of the grid, between the states before it and after it.
-/
module

public import proofs.«01_k».proof.Proof.State
public import proofs.«01_k».proof.Proof.Turns

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (c : Dev nD)
theorem sndAll_same {t : ℕ} (h0 : t ≠ 0) (h1 : t < 95) (h : ∀ φ, sendAt φ ≠ t) : bigSep Finset.univ (sndSt D c (t + 1)) = bigSep Finset.univ (sndSt D c t) :=
  bigSep_congr fun φ _ => snd_same D c h0 h1 (h φ)
theorem rcvAll_same {t : ℕ} (h : ∀ φ, recvAt φ ≠ t) : bigSep Finset.univ (rcvSt D c (t + 1)) = bigSep Finset.univ (rcvSt D c t) :=
  bigSep_congr fun φ _ => rcv_same D c (h φ)

/-- What stands in the local buffers inside a layer. -/
theorem locOK_in {l : Fin 3} {r : ℕ} (h0 : 0 < r) (h1 : r < 32) (X A B : FVec F S256x2048 .f32) :
    LocOK D c (32 * l.val + r) X A B ↔ X = XL D l.val c ∧ A = accL D l c (min (r - 1) 15) ∧ (16 < r → B = accL D l c (r - 1)) := by
  unfold LocOK
  rw [if_neg (by omega), show (32 * l.val + r) / 32 = l.val by omega, show (32 * l.val + r) % 32 = r by omega, lay_val]
/-- What stands in them between two layers. -/
theorem locOK_out {l : Fin 3} {t : ℕ} (ht : t = 32 * l.val + 32) (X A B : FVec F S256x2048 .f32) :
    LocOK D c t X A B ↔ (t ≠ 96 → rows c X = redL D l c) := by
  subst ht
  unfold LocOK
  rw [if_pos (by omega), show (32 * l.val + 32) / 32 - 1 = l.val by omega, lay_val]
  exact ⟨fun h => h (by omega), fun h _ => h⟩

theorem acc_next (l : Fin 3) {r : ℕ} (h0 : 0 < r) (h : r ≠ 16) :
    accL D l c r = k0_pay6 (XL D l.val c) (D.wi l c r) (D.wo l c r) (accL D l c (r - 1)) := by
  obtain ⟨r, rfl⟩ : ∃ r', r = r' + 1 := ⟨r - 1, by omega⟩
  exact if_neg h
theorem acc_turn (l : Fin 3) {r : ℕ} (h : r + 1 = 16) : accL D l c (r + 1) = k0_pay5 (XL D l.val c) (D.wi l c (r + 1)) (D.wo l c (r + 1)) := if_pos h
theorem acc_half (l : Fin 3) : accL D l c 16 = k0_pay5 (XL D l.val c) (D.wi l c 16) (D.wo l c 16) := acc_turn D c l (r := 15) rfl
theorem recvAt_g : ∀ l : Fin 3, l ≠ 2 → recvAt (.g l) = 32 * l.val + 32 := by decide +kernel
theorem acc_first (l : Fin 3) : accL D l c 0 = k0_pay5 (XL D l.val c) (D.wi l c 0) (D.wo l c 0) := rfl

variable (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)

set_option maxHeartbeats 1000000 in
/-- A tile of the first half, the first one and the last one apart. -/
theorem coreLo {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : 0 < (i 1).val) (hr' : (i 1).val < 16) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  have h96 : t < 96 := by omega
  have hs : ∀ φ, sendAt φ ≠ t := sendAt_lo ⟨t, h96⟩ (by show t % 32 ≠ 16; omega) (by show t % 32 ≠ 31; omega) (by show t ≠ 0; omega)
  have hv : ∀ φ, recvAt φ ≠ t := recvAt_lo ⟨t, h96⟩ (by show t % 32 ≠ 31; omega) (by show t % 32 ≠ 0; omega)
  rw [show pending (t + 1) = pending t from pend_same ⟨t, h96⟩ (by show t % 32 ≠ 16; omega) (by show t % 32 ≠ 31; omega) (by show t ≠ 0; omega)]
  unfold PhiAt locSt
  iintro ⟨⟨⟨%K, #HR⟩, #HL, HS, HV, Hb, He, %X, %A, %B, %hok, H10, H11, H12⟩, HO, H2, HW, H9⟩ Hk
  rw [ht, locOK_in D c hr (by omega)] at hok
  obtain ⟨hX, hA, hB⟩ := hok
  rw [Nat.min_eq_left (by omega)] at hA
  iapply (stepLo c i A2 h2 A3 h3 A4 h4 A5 h5 A6 h6 A7 h7 A8 h8 A9 h9 hr hr' X W V hW hV A) $$ [H10 HW H11]
  · iframe
  iintro ⟨H10, HW, H11⟩
  iapply Hk
  isplitl [HS HV Hb He H10 H11 H12]
  · isplitr; · iexists K; iexact HR
    isplitr; · iexact HL
    isplitl [HS]; · rw [sndAll_same D c (by omega) (by omega) hs]; iexact HS
    isplitl [HV]; · rw [rcvAll_same D c hv]; iexact HV
    isplitl [Hb]; · rw [bar_same c (by omega)]; iexact Hb
    isplitl [He]; · rw [ext_same c (by omega)]; iexact He
    iexists X; iexists (k0_pay6 X (D.wi (lyr i) c (i 1).val) (D.wo (lyr i) c (i 1).val) A); iexists B
    isplitr
    · ipureintro
      exact by
        rw [ht, Nat.add_assoc, locOK_in D c (by omega) (by omega)]
        refine ⟨hX, ?_, fun h => absurd h (by omega)⟩
        rw [Nat.add_sub_cancel, Nat.min_eq_left (by omega), acc_next D c _ hr (by omega), hX, hA]
    isplitl [H10]; · iexact H10
    isplitl [H11] <;> iassumption
  iframe

set_option maxHeartbeats 1000000 in
/-- A tile of the second half, the first one and the last one apart. -/
theorem coreHi {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : 16 < (i 1).val) (hr' : (i 1).val < 31) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  have h96 : t < 96 := by omega
  have hs : ∀ φ, sendAt φ ≠ t := sendAt_lo ⟨t, h96⟩ (by show t % 32 ≠ 16; omega) (by show t % 32 ≠ 31; omega) (by show t ≠ 0; omega)
  have hv : ∀ φ, recvAt φ ≠ t := recvAt_lo ⟨t, h96⟩ (by show t % 32 ≠ 31; omega) (by show t % 32 ≠ 0; omega)
  rw [show pending (t + 1) = pending t from pend_same ⟨t, h96⟩ (by show t % 32 ≠ 16; omega) (by show t % 32 ≠ 31; omega) (by show t ≠ 0; omega)]
  unfold PhiAt locSt
  iintro ⟨⟨⟨%K, #HR⟩, #HL, HS, HV, Hb, He, %X, %A, %B, %hok, H10, H11, H12⟩, HO, H2, HW, H9⟩ Hk
  rw [ht, locOK_in D c (by omega) (by omega)] at hok
  obtain ⟨hX, hA, hB⟩ := hok
  iapply (stepHi c i A2 h2 A3 h3 A4 h4 A5 h5 A6 h6 A7 h7 A8 h8 A9 h9 hr hr' X W V hW hV B) $$ [H10 HW H12]
  · iframe
  iintro ⟨H10, HW, H12⟩
  iapply Hk
  isplitl [HS HV Hb He H10 H11 H12]
  · isplitr; · iexists K; iexact HR
    isplitr; · iexact HL
    isplitl [HS]; · rw [sndAll_same D c (by omega) (by omega) hs]; iexact HS
    isplitl [HV]; · rw [rcvAll_same D c hv]; iexact HV
    isplitl [Hb]; · rw [bar_same c (by omega)]; iexact Hb
    isplitl [He]; · rw [ext_same c (by omega)]; iexact He
    iexists X; iexists A; iexists (k0_pay6 X (D.wi (lyr i) c (i 1).val) (D.wo (lyr i) c (i 1).val) B)
    isplitr
    · ipureintro
      exact by
        rw [ht, Nat.add_assoc, locOK_in D c (by omega) (by omega)]
        refine ⟨hX, ?_, fun h => ?_⟩
        · rw [hA, Nat.min_eq_right (by omega), Nat.min_eq_right (by omega)]
        rw [Nat.add_sub_cancel, acc_next D c _ (by omega) (by omega), hX, hB hr]
    isplitl [H10]; · iexact H10
    isplitl [H11] <;> iassumption
  iframe

set_option maxHeartbeats 1000000 in
/-- The first tile of the second half. -/
theorem coreMid {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : (i 1).val = 16) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  rw [hr] at hW hV
  have ht : t = 32 * (lyr i).val + 16 := by omega
  have hv : ∀ φ, recvAt φ ≠ t := recvAt_lo ⟨t, by omega⟩ (by show t % 32 ≠ 31; omega) (by show t % 32 ≠ 0; omega)
  have hs : ∀ φ, φ ≠ .a (lyr i) → sendAt φ ≠ t := ht ▸ sendAt_mid (lyr i)
  have hsa : sendAt (.a (lyr i)) = t := ht.symm
  unfold PhiAt locSt
  iintro ⟨⟨⟨%K, #HR⟩, #HL, HS, HV, Hb, He, %X, %A, %B, %hok, H10, H11, H12⟩, HO, H2, HW, H9⟩ Hk
  rw [ht, locOK_in D c (by omega) (by omega)] at hok
  obtain ⟨hX, hA, hB⟩ := hok
  ihave HS := (bigSep_univ_update (Ψ := sndSt D c (t + 1)) (.a (lyr i)) fun φ hφ => snd_same D c (by omega) (by omega) (hs φ hφ)) $$ HS
  icases HS with ⟨HT, HS⟩
  ihave HT := (Entails.of_eq (snd_before D c (by omega) hsa)) $$ HT
  icases HT with ⟨HT, Hsrc⟩
  ihave HT := (Entails.of_eq (three _)) $$ HT
  unfold srcs
  ihave Hsrc := (Entails.of_eq (three _)) $$ Hsrc
  iapply (stepMid D K c i A2 h2 A3 h3 A4 h4 A5 h5 A6 h6 A7 h7 A8 h8 A9 h9 hr X W V hW hV (fun k => ht ▸ mem_mid (lyr i) k) A hA B) $$ [HO HT Hsrc H10 HW H11 H12]
  · iframe; iexact HR
  iintro ⟨HO, HT, H10, HW, H11, H12⟩
  ihave HT : sndSt D c (t + 1) (.a (lyr i)) $$ [HT]
  · rw [snd_after D c (by omega) hsa, three]; iexact HT
  ihave HS := HS $$ HT
  iapply Hk
  isplitl [HS HV Hb He H10 H11 H12]
  · isplitr; · iexists K; iexact HR
    isplitr; · iexact HL
    isplitl [HS]; · iexact HS
    isplitl [HV]; · rw [rcvAll_same D c hv]; iexact HV
    isplitl [Hb]; · rw [bar_same c (by omega)]; iexact Hb
    isplitl [He]; · rw [ext_same c (by omega)]; iexact He
    iexists X; iexists A; iexists (k0_pay5 X (D.wi (lyr i) c 16) (D.wo (lyr i) c 16))
    isplitr
    · ipureintro
      exact by
        rw [ht, Nat.add_assoc, locOK_in D c (by omega) (by omega)]
        refine ⟨hX, hA, fun _ => ?_⟩
        rw [show 16 + 1 - 1 = 16 from rfl, acc_half, hX]
    isplitl [H10]; · iexact H10
    isplitl [H11] <;> iassumption
  isplitl [HO]
  · rw [ht, ← pend_mid (lyr i)]; iexact HO
  iframe

set_option maxHeartbeats 1000000 in
/-- The first tile of a later layer. -/
theorem coreFirst {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : (i 1).val = 0) (hl : lyr i ≠ 0) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  have hl0 : (lyr i).val ≠ 0 := fun h => hl (Fin.ext h)
  rw [hr] at hW hV
  obtain ⟨p, hp⟩ : ∃ p : Fin 3, p.val = (lyr i).val - 1 := ⟨⟨(lyr i).val - 1, by omega⟩, rfl⟩
  have ht : t = 32 * p.val + 32 := by omega
  have hp2 : p ≠ 2 := fun h => by subst h; exact absurd hp (by show ¬ 2 = _; omega)
  have hs : ∀ φ, sendAt φ ≠ t := sendAt_lo ⟨t, by omega⟩ (by show t % 32 ≠ 16; omega) (by show t % 32 ≠ 31; omega) (by show t ≠ 0; omega)
  have hv : ∀ φ, φ ≠ .g p → recvAt φ ≠ t := ht ▸ recvAt_first p hp2
  have hvg : recvAt (.g p) = t := by rw [ht]; exact recvAt_g p hp2
  rw [show pending (t + 1) = pending t from pend_same ⟨t, by omega⟩ (by show t % 32 ≠ 16; omega) (by show t % 32 ≠ 31; omega) (by show t ≠ 0; omega)]
  unfold PhiAt locSt
  iintro ⟨⟨⟨%K, #HR⟩, #HL, HS, HV, Hb, He, %X, %A, %B, %hok, H10, H11, H12⟩, HO, H2, HW, H9⟩ Hk
  have hok := (locOK_out D c ht X A B).mp hok (by omega)
  ihave HV := (bigSep_univ_update (Ψ := rcvSt D c (t + 1)) (.g p) fun φ hφ => rcv_same D c (hv φ hφ)) $$ HV
  icases HV with ⟨HT, HV⟩
  ihave HT := (Entails.of_eq (rcv_before D c hvg)) $$ HT
  ihave HT := (Entails.of_eq (three _)) $$ HT
  iapply (stepFirst D K c i A2 h2 A3 h3 A4 h4 A5 h5 A6 h6 A7 h7 A8 h8 A9 h9 hr hl p hp X W V hW hV (fun x hx => pend_first p x (ht ▸ hx)) hok A) $$ [HO HT H10 HW H11]
  · iframe
    isplitr; · iexact HR
    iexact HL
  iintro ⟨HO, HT, H10, HW, H11⟩
  ihave HT : rcvSt D c (t + 1) (.g p) $$ [HT]
  · rw [rcv_after D c hvg, three]; iexact HT
  ihave HV := HV $$ HT
  iapply Hk
  isplitl [HS HV Hb He H10 H11 H12]
  · isplitr; · iexists K; iexact HR
    isplitr; · iexact HL
    isplitl [HS]; · rw [sndAll_same D c (by omega) (by omega) hs]; iexact HS
    isplitl [HV]; · iexact HV
    isplitl [Hb]; · rw [bar_same c (by omega)]; iexact Hb
    isplitl [He]; · rw [ext_same c (by omega)]; iexact He
    iexists (XL D (p.val + 1) c); iexists (k0_pay5 (XL D (p.val + 1) c) (D.wi (lyr i) c 0) (D.wo (lyr i) c 0)); iexists B
    isplitr
    · ipureintro
      exact by
        rw [show t + 1 = 32 * (lyr i).val + 1 by omega, locOK_in D c (by omega) (by omega), show p.val + 1 = (lyr i).val by omega]
        exact ⟨rfl, acc_first D c _, fun h => absurd h (by omega)⟩
    isplitl [H10]; · iexact H10
    isplitl [H11] <;> iassumption
  isplitl [HO]; · iexact HO
  iframe

set_option maxHeartbeats 1000000 in
/-- The last tile of a layer before the last one. -/
theorem coreLast {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : (i 1).val = 31) (hl : lyr i ≠ 2) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  have hl2 : (lyr i).val ≠ 2 := fun h => hl (Fin.ext h)
  rw [hr] at hW hV
  have ht : t = 32 * (lyr i).val + 31 := by omega
  have hs : ∀ φ, φ ≠ .b (lyr i) → φ ≠ .g (lyr i) → sendAt φ ≠ t := ht ▸ sendAt_end (lyr i)
  have hv : ∀ φ, φ ≠ .a (lyr i) → φ ≠ .b (lyr i) → recvAt φ ≠ t := ht ▸ recvAt_end (lyr i) hl
  have hsb : sendAt (.b (lyr i)) = t := ht.symm
  have hsg : sendAt (.g (lyr i)) = t := ht.symm
  have hva : recvAt (.a (lyr i)) = t := ht.symm
  have hvb : recvAt (.b (lyr i)) = t := ht.symm
  unfold PhiAt locSt
  iintro ⟨⟨⟨%K, #HR⟩, #HL, HS, HV, Hb, He, %X, %A, %B, %hok, H10, H11, H12⟩, HO, H2, HW, H9⟩ Hk
  rw [ht, locOK_in D c (by omega) (by omega)] at hok
  obtain ⟨hX, hA, hB⟩ := hok
  ihave HS := (focus2 (g := sndSt D c (t + 1)) (.b (lyr i)) (.g (lyr i)) (by intro h; cases h) fun φ h1 h2 => snd_same D c (by omega) (by omega) (hs φ h1 h2)) $$ HS
  icases HS with ⟨HTb, HTg, HS⟩
  ihave HTb := (Entails.of_eq (snd_before D c (by omega) hsb)) $$ HTb
  icases HTb with ⟨HTb, Hsb⟩
  ihave HTb := (Entails.of_eq (three _)) $$ HTb
  ihave HTg := (Entails.of_eq (snd_before D c (by omega) hsg)) $$ HTg
  icases HTg with ⟨HTg, Hsg⟩
  ihave HTg := (Entails.of_eq (three _)) $$ HTg
  unfold srcs
  ihave Hsb := (Entails.of_eq (three _)) $$ Hsb
  ihave HV := (focus2 (g := rcvSt D c (t + 1)) (.a (lyr i)) (.b (lyr i)) (by intro h; cases h) fun φ h1 h2 => rcv_same D c (hv φ h1 h2)) $$ HV
  icases HV with ⟨HVa, HVb, HV⟩
  ihave HVa := (Entails.of_eq (rcv_before D c hva)) $$ HVa
  ihave HVa := (Entails.of_eq (three _)) $$ HVa
  ihave HVb := (Entails.of_eq (rcv_before D c hvb)) $$ HVb
  ihave HVb := (Entails.of_eq (three _)) $$ HVb
  iapply (stepLast D K c i A2 h2 A3 h3 A4 h4 A5 h5 A6 h6 A7 h7 A8 h8 A9 h9 hr hl X W V hW hV rfl rfl (fun k => ht ▸ mem_b (lyr i) k) (fun k => ht ▸ mem_g (lyr i) k) (ht ▸ lv_end (lyr i)) A B Z hA
    (by rw [acc_next D c _ (by omega) (by omega), hX, hB (by omega)])) $$ [HO HTb Hsb HVa HVb HTg Hsg H10 HW H11 H12 H9]
  · iframe
    isplitr; · iexact HR
    iexact HL
  iintro ⟨HO, HVa, HVb, HTb, HTg, H10, HW, H11, H12, H9⟩
  ihave HTb : sndSt D c (t + 1) (.b (lyr i)) $$ [HTb]
  · rw [snd_after D c (by omega) hsb, three]; iexact HTb
  ihave HTg : sndSt D c (t + 1) (.g (lyr i)) $$ [HTg]
  · rw [snd_after D c (by omega) hsg, three]; iexact HTg
  ihave HVa : rcvSt D c (t + 1) (.a (lyr i)) $$ [HVa]
  · rw [rcv_after D c hva, three]; iexact HVa
  ihave HVb : rcvSt D c (t + 1) (.b (lyr i)) $$ [HVb]
  · rw [rcv_after D c hvb, three]; iexact HVb
  ihave HS := HS $$ [HTb HTg]
  · isplitl [HTb] <;> iassumption
  ihave HV := HV $$ [HVa HVb]
  · isplitl [HVa] <;> iassumption
  iapply Hk
  isplitl [HS HV Hb He H10 H11 H12]
  · isplitr; · iexists K; iexact HR
    isplitr; · iexact HL
    isplitl [HS]; · iexact HS
    isplitl [HV]; · iexact HV
    isplitl [Hb]; · rw [bar_same c (by omega)]; iexact Hb
    isplitl [He]; · rw [ext_same c (by omega)]; iexact He
    iexists (put c X (redL D (lyr i) c)); iexists A; iexists (k0_pay6 X (D.wi (lyr i) c 31) (D.wo (lyr i) c 31) B)
    isplitr
    · ipureintro
      exact (locOK_out D c (l := lyr i) (by omega) _ _ _).mpr fun _ => rows_put _ _ _
    isplitl [H10]; · iexact H10
    isplitl [H11] <;> iassumption
  isplitl [HO]
  · rw [ht, ← pend_end (lyr i) hl]; iexact HO
  isplitl [H2]; · iexact H2
  isplitl [HW]; · iexact HW
  iexact H9

end Cert.RingMlp
end
-- ==== Proof.Corners.lean ====
/-
The first point of the grid and the last one, between the states before and after.
-/
module

public import proofs.«01_k».proof.Proof.Core
public import proofs.«01_k».proof.Proof.Begin
public import proofs.«01_k».proof.Proof.Finale

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (c : Dev nD)
theorem regrouped (P Q R : sProp 𝕄) : iprop((P ∗ Q) ∗ R) = iprop(P ∗ Q ∗ R) := BI.equiv_iff.mp ⟨BI.sep_assoc, BI.sep_assoc'⟩
theorem one_more {φ : Fam} {s : Finset Fam} (h : φ ∉ s) {f : Fam → sProp 𝕄} : bigSep (insert φ s) f = iprop(f φ ∗ bigSep s f) := bigSep_insert h
/-- A product over the exchanges is ten. -/
theorem ten (f : Fam → sProp 𝕄) : bigSep Finset.univ f
    = iprop(f .x ∗ (f (.a 0) ∗ f (.a 1) ∗ f (.a 2)) ∗ (f (.b 0) ∗ f (.b 1) ∗ f (.b 2)) ∗ f (.g 0) ∗ f (.g 1) ∗ f (.g 2)) := by
  rw [show (Finset.univ : Finset Fam) = {.x, .a 0, .a 1, .a 2, .b 0, .b 1, .b 2, .g 0, .g 1, .g 2} from rfl,
    one_more (by decide), one_more (by decide), one_more (by decide), one_more (by decide), one_more (by decide),
    one_more (by decide), one_more (by decide), one_more (by decide), one_more (by decide), bigSep_singleton]
  simp only [regrouped]

theorem snd_zero : bigSep Finset.univ (sndSt D c 0)
    = iprop((bigSep Finset.univ fun φ : Fam => bigSep Finset.univ fun k => TX0 (F := F) c φ k) ∗ srcs c .x ∗ bigSep (Finset.univ.erase Fam.x) (srcs (F := F) c)) := by
  rw [show sndSt D c 0 = fun φ => iprop((bigSep Finset.univ fun k => TX0 (F := F) c φ k) ∗ srcs c φ) from funext fun φ => if_pos rfl, bigSep_sep', bigSep_univ_at (srcs (F := F) c) .x]
theorem bar_zero : barSt (F := F) c 0 = iprop((bigSep Finset.univ fun k : Fin 3 => dutyTok ER (barC (peer c k)) 0 (rev k))
    ∗ (bigSep Finset.univ fun k : Fin 3 => bigSep Finset.univ fun φ : Fam => any (F := F) c (dstM φ k) fullShare)
    ∗ atPos ER (barC c) 0 ∅ 0 ∗ cred (tallyAt (barC c) () 3)) := if_pos rfl
theorem ext_last : extSt (F := F) c 95 = iprop((bigSep Finset.univ fun k : Fin 3 => dutyTok ER (exitC (peer c k)) 0 (rev k)) ∗ atPos ER (exitC c) 0 ∅ 0
    ∗ cred (tallyAt (exitC c) () 3)) := if_pos (le_refl 95)
theorem src_x : srcs (F := F) c .x = iprop(∃ X, own (F := F) c M13 fullShare X) := rfl
theorem bar_one : barSt (F := F) c (0 + 1) = semVal (barC c) 0 := if_neg (by decide)
theorem ext_done : extSt (F := F) c (95 + 1) = semVal (exitC c) 0 := if_neg (by decide)
theorem sendAt_pos : ∀ φ, φ ≠ .x → 1 ≤ sendAt φ := by decide +kernel
theorem snd_one : bigSep Finset.univ (sndSt D c 1)
    = iprop((bigSep Finset.univ fun k => SX (F := F) c .x k) ∗ (bigSep (Finset.univ.erase Fam.x) fun φ : Fam => bigSep Finset.univ fun k => TX (F := F) c φ k)
      ∗ bigSep (Finset.univ.erase Fam.x) (srcs (F := F) c)) := by
  rw [bigSep_univ_at (sndSt D c 1) .x, ← bigSep_sep']
  refine congr (congrArg _ ?_) (bigSep_congr fun φ hφ => ?_)
  · exact snd_after D c (by decide) rfl
  · unfold sndSt; rw [if_neg (by decide), if_pos (sendAt_pos φ (Finset.ne_of_mem_erase hφ))]
theorem snd_late {t : ℕ} {φ : Fam} (h0 : t ≠ 0) (h1 : t ≤ 95) (h : sendAt φ < t) : sndSt D c t φ = bigSep Finset.univ fun k => SX (F := F) c φ k := by
  unfold sndSt; rw [if_neg h0, if_neg (by omega), if_pos h1]
theorem sendAt_le : ∀ φ, sendAt φ ≤ 95 := by decide +kernel
theorem recvAt_le : ∀ φ, recvAt φ ≤ 95 := by decide +kernel
theorem snd_done (φ : Fam) : sndSt D c 96 φ = bigSep Finset.univ fun k => SD D c φ k := by
  unfold sndSt; rw [if_neg (by decide), if_neg (by have := sendAt_le φ; omega), if_neg (by decide)]
theorem rcv_late {t : ℕ} {φ : Fam} (h : recvAt φ < t) : rcvSt D c t φ = bigSep Finset.univ fun j => RD D c φ j := by
  unfold rcvSt; rw [if_neg (by omega)]
/-- The last layer's receptions end the exchanges. -/
theorem rcv_close : iprop(rcvSt D c 95 .x ∗ (rcvSt D c 95 (.a 0) ∗ rcvSt D c 95 (.a 1) ∗ RD D c (.a 2) 0 ∗ RD D c (.a 2) 1 ∗ RD D c (.a 2) 2)
      ∗ (rcvSt D c 95 (.b 0) ∗ rcvSt D c 95 (.b 1) ∗ RD D c (.b 2) 0 ∗ RD D c (.b 2) 1 ∗ RD D c (.b 2) 2)
      ∗ rcvSt D c 95 (.g 0) ∗ rcvSt D c 95 (.g 1) ∗ RD D c (.g 2) 0 ∗ RD D c (.g 2) 1 ∗ RD D c (.g 2) 2)
    ⊢ bigSep Finset.univ (rcvSt D c 96) := by
  have h (φ : Fam) (hφ : recvAt φ < 95) : rcvSt D c 95 φ = rcvSt D c 96 φ := (rcv_late D c hφ).trans (rcv_late D c (by omega)).symm
  rw [ten, h .x (by decide), h (.a 0) (by decide), h (.a 1) (by decide), h (.b 0) (by decide), h (.b 1) (by decide), h (.g 0) (by decide), h (.g 1) (by decide),
    rcv_late D c (t := 96) (φ := .a 2) (by decide), rcv_late D c (t := 96) (φ := .b 2) (by decide), rcv_late D c (t := 96) (φ := .g 2) (by decide), three, three, three]

variable (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)

set_option maxHeartbeats 1000000 in
/-- The first point of the grid. -/
theorem coreOpen {t : ℕ} (ht : t = 32 * (lyr i).val + (i 1).val) (X0 : FVec F S64x2048 .f32) (hX0 : X0 = D.x c) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : (i 1).val = 0) (hl : lyr i = 0) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare Z) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  rw [hr] at hW hV
  have ht : t = 0 := by rw [ht, hl, hr]; rfl
  subst ht
  unfold PhiAt locSt
  iintro ⟨⟨⟨%K, #HR⟩, #HL, HS, HV, Hb, He, %X, %A, %B, %hok, H10, H11, H12⟩, HO, H2, HW, H9⟩ Hk
  ihave HS := (Entails.of_eq (snd_zero D c)) $$ HS
  icases HS with ⟨HT, Hs, HS⟩
  ihave Hs := (Entails.of_eq (src_x c)) $$ Hs
  icases Hs with ⟨%Y13, H13⟩
  ihave HV := (bigSep_univ_update (Ψ := rcvSt D c (0 + 1)) .x fun φ hφ => rcv_same D c (recvAt_open φ hφ)) $$ HV
  icases HV with ⟨HVx, HV⟩
  ihave HVx := (Entails.of_eq (rcv_before D c (t := 0) (φ := .x) rfl)) $$ HVx
  ihave HVx := (Entails.of_eq (three _)) $$ HVx
  ihave Hb := (Entails.of_eq (bar_zero c)) $$ Hb
  icases Hb with ⟨Hd, Hds, Hat, Hcr⟩
  ihave Hd := (Entails.of_eq (three _)) $$ Hd
  ihave Hds := (Entails.of_eq (three _)) $$ Hds
  iapply (stepOpen D K c i A2 h2 A3 h3 A4 h4 A5 h5 A6 h6 A7 h7 A8 h8 A9 h9 hr hl X0 hX0 X Y13 W V hW hV mem_bars rfl mem_greeted pend_open lv_greeted lv_one A) $$ [HO Hd Hds HT Hat Hcr HVx H2 H10 H13 HW H11]
  · isplitr; · iexact HR
    isplitr; · iexact HL
    isplitl [HO]; · iexact HO
    isplitl [Hd]; · iexact Hd
    isplitl [Hds]; · iexact Hds
    isplitl [HT]; · iexact HT
    isplitl [Hat]; · iexact Hat
    isplitl [Hcr]; · iexact Hcr
    isplitl [HVx]; · iexact HVx
    isplitl [H2]; · iexact H2
    isplitl [H10]; · iexact H10
    isplitl [H13]; · iexact H13
    isplitl [HW]; · iexact HW
    iexact H11
  iintro ⟨HO, Hb, HT, HSx, HVx, H2, H10, HW, H11⟩
  ihave HVx : rcvSt D c (0 + 1) .x $$ [HVx]
  · rw [rcv_after D c (t := 0) (φ := .x) rfl, three]; iexact HVx
  ihave HV := HV $$ HVx
  iapply Hk
  isplitl [HS HT HSx HV Hb He H10 H11 H12]
  · isplitr; · iexists K; iexact HR
    isplitr; · iexact HL
    isplitl [HS HT HSx]; · rw [snd_one, three]; unfold trip; iframe
    isplitl [HV]; · iexact HV
    isplitl [Hb]; · rw [bar_one]; iexact Hb
    isplitl [He]; · rw [ext_same c (by omega)]; iexact He
    iexists (XL D 0 c); iexists (k0_pay5 (XL D 0 c) (D.wi (lyr i) c 0) (D.wo (lyr i) c 0)); iexists B
    isplitr
    · ipureintro
      exact by
        rw [show 0 + 1 = 32 * (0 : Fin 3).val + 1 from rfl, locOK_in D c (by omega) (by omega), hl]
        exact ⟨rfl, acc_first D c 0, fun h => absurd h (by omega)⟩
    isplitl [H10]; · iexact H10
    isplitl [H11] <;> iassumption
  isplitl [HO]; · iexact HO
  iframe

set_option maxHeartbeats 1000000 in
/-- The last point of the grid. -/
theorem coreEnd {t : ℕ} (ht : t = 32 * (lyr i).val + (i 1).val) (X0 : FVec F S64x2048 .f32) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) (hr : (i 1).val = 31) (hl : lyr i = 2) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare (XL D 3 c)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  rw [hr] at hW hV
  have ht : t = 95 := by rw [ht, hl, hr]; rfl
  subst ht
  unfold PhiAt locSt
  iintro ⟨⟨⟨%K, #HR⟩, #HL, HS, HV, Hb, He, %X, %A, %B, %hok, H10, H11, H12⟩, HO, H2, HW, H9⟩ Hk
  rw [show 95 = 32 * (2 : Fin 3).val + 31 from rfl, locOK_in D c (by decide) (by decide)] at hok
  obtain ⟨hX, hA, hB⟩ := hok
  ihave HS := (Entails.of_eq (ten _)) $$ HS
  icases HS with ⟨HSx, ⟨HSa0, HSa1, HSa2⟩, ⟨HSb0, HSb1, HSb2⟩, HSg0, HSg1, HSg2⟩
  ihave HSx := (Entails.of_eq (snd_late D c (φ := .x) (by decide) (by decide) (by decide))) $$ HSx
  ihave HSx := (Entails.of_eq (three _)) $$ HSx
  ihave HSa0 := (Entails.of_eq (snd_late D c (φ := .a 0) (by decide) (by decide) (by decide))) $$ HSa0
  ihave HSa0 := (Entails.of_eq (three _)) $$ HSa0
  ihave HSa1 := (Entails.of_eq (snd_late D c (φ := .a 1) (by decide) (by decide) (by decide))) $$ HSa1
  ihave HSa1 := (Entails.of_eq (three _)) $$ HSa1
  ihave HSa2 := (Entails.of_eq (snd_late D c (φ := .a 2) (by decide) (by decide) (by decide))) $$ HSa2
  ihave HSa2 := (Entails.of_eq (three _)) $$ HSa2
  ihave HSb0 := (Entails.of_eq (snd_late D c (φ := .b 0) (by decide) (by decide) (by decide))) $$ HSb0
  ihave HSb0 := (Entails.of_eq (three _)) $$ HSb0
  ihave HSb1 := (Entails.of_eq (snd_late D c (φ := .b 1) (by decide) (by decide) (by decide))) $$ HSb1
  ihave HSb1 := (Entails.of_eq (three _)) $$ HSb1
  ihave HSg0 := (Entails.of_eq (snd_late D c (φ := .g 0) (by decide) (by decide) (by decide))) $$ HSg0
  ihave HSg0 := (Entails.of_eq (three _)) $$ HSg0
  ihave HSg1 := (Entails.of_eq (snd_late D c (φ := .g 1) (by decide) (by decide) (by decide))) $$ HSg1
  ihave HSg1 := (Entails.of_eq (three _)) $$ HSg1
  ihave HSb2 := (Entails.of_eq (snd_before D c (t := 95) (by decide) rfl)) $$ HSb2
  icases HSb2 with ⟨HTb, Hsb⟩
  ihave HTb := (Entails.of_eq (three _)) $$ HTb
  ihave HSg2 := (Entails.of_eq (snd_before D c (t := 95) (by decide) rfl)) $$ HSg2
  icases HSg2 with ⟨HTg, Hsg⟩
  ihave HTg := (Entails.of_eq (three _)) $$ HTg
  unfold srcs
  ihave Hsb := (Entails.of_eq (three _)) $$ Hsb
  ihave HV := (Entails.of_eq (ten _)) $$ HV
  icases HV with ⟨HVx, ⟨HVa0, HVa1, HVa2⟩, ⟨HVb0, HVb1, HVb2⟩, HVg0, HVg1, HVg2⟩
  ihave HVa2 := (Entails.of_eq (rcv_before D c (t := 95) rfl)) $$ HVa2
  ihave HVa2 := (Entails.of_eq (three _)) $$ HVa2
  ihave HVb2 := (Entails.of_eq (rcv_before D c (t := 95) rfl)) $$ HVb2
  ihave HVb2 := (Entails.of_eq (three _)) $$ HVb2
  ihave HVg2 := (Entails.of_eq (rcv_before D c (t := 95) rfl)) $$ HVg2
  ihave HVg2 := (Entails.of_eq (three _)) $$ HVg2
  ihave He := (Entails.of_eq (ext_last c)) $$ He
  icases He with ⟨Hd, Hat, Hcr⟩
  ihave Hd := (Entails.of_eq (three _)) $$ Hd
  have hBf : k0_pay6 X (D.wi 2 c 31) (D.wo 2 c 31) B = accL D 2 c 31 := by rw [acc_next D c 2 (r := 31) (by decide) (by decide), hX, hB (by decide)]
  obtain ⟨w, hw⟩ : ∃ w, w = D.wi (lyr i) c 31 := ⟨_, rfl⟩
  obtain ⟨v, hv⟩ : ∃ v, v = D.wo (lyr i) c 31 := ⟨_, rfl⟩
  iapply (stepEnd D K c i A2 h2 A3 h3 A4 h4 A5 h5 A6 h6 A7 h7 A8 h8 A9 h9 hr hl X W V (hW.trans hw.symm) (hV.trans hv.symm) (by rw [hl]) (by rw [hl]; exact pend_last) (by rw [hl]; exact mem_b 2) (by rw [hl]; exact mem_g 2) (by rw [hl]; exact lv_end 2)
    lv_exits mem_exits (by rw [pend_exit, pend_none]; exact fun x hx => absurd hx (Finset.notMem_empty x)) A B Z (by rw [hl]; exact hA) (by rw [hw, hv, hl]; exact hBf))
    $$ [HO HTb Hsb HVa2 HVb2 HTg Hsg HVg2 HSx HSa0 HSb0 HSg0 HSa1 HSb1 HSg1 HSa2 Hd Hat Hcr H10 HW H11 H12 H9]
  · rw [hl]; iframe
    isplitr; · iexact HR
    iexact HL
  rw [hl, pend_exit]
  iintro ⟨HO, HVa2, HVb2, HVg2, HSx, ⟨HSa0, HSb0, HSg0⟩, ⟨HSa1, HSb1, HSg1⟩, ⟨HSa2, HSb2, HSg2⟩, Hex, H10, HW, H11, H12, H9⟩
  iapply Hk
  isplitl [HSx HSa0 HSa1 HSa2 HSb0 HSb1 HSb2 HSg0 HSg1 HSg2 HVx HVa0 HVa1 HVa2 HVb0 HVb1 HVb2 HVg0 HVg1 HVg2 Hb Hex H10 H11 H12]
  · isplitr; · iexists K; iexact HR
    isplitr; · iexact HL
    isplitl [HSx HSa0 HSa1 HSa2 HSb0 HSb1 HSb2 HSg0 HSg1 HSg2]; · rw [ten, snd_done, snd_done, snd_done, snd_done, snd_done, snd_done, snd_done, snd_done, snd_done, snd_done]; simp only [three]; iframe
    isplitl [HVx HVa0 HVa1 HVa2 HVb0 HVb1 HVb2 HVg0 HVg1 HVg2]; · iapply (rcv_close D c); iframe
    isplitl [Hb]; · rw [bar_same c (t := 95) (by decide)]; iexact Hb
    isplitl [Hex]; · rw [ext_done]; iexact Hex
    iexists X; iexists A; iexists (k0_pay6 X w v B)
    isplitr
    · ipureintro
      exact by
        unfold LocOK; rw [if_pos (by decide)]; exact fun _ h => absurd rfl h
    isplitl [H10]; · iexact H10
    isplitl [H11] <;> iassumption
  isplitl [HO]; · iexact HO
  iframe

end Cert.RingMlp
end
-- ==== Proof.Store.lean ====
/-
The buffers of a device: the blocks they are cut into at the start, and put together from at the end.
-/
module

public import proofs.«01_k».proof.Proof.Corners

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

/-! ## A block, its parts, and the same blocks under another shape -/

theorem raw_any {s : Shape} {e : EltTy} (M : Memref sig .tc .vmem s e) (f : M.view.ty.Contents (Elt F)) :
    (M.view.loc (c : Thread nD τ) ↦[M.view.set]{fullShare} f : sProp 𝕄) ⊢ any c M fullShare := by
  unfold any
  iintro H; iexists _; iapply (owns_intro (c : Thread nD τ) M fullShare f); iexact H

theorem any_sq {s s' : Shape} {e : EltTy} (M : Memref sig .tc .vmem s e) (hq : s.Squeezes s') :
    any (F := F) c M fullShare ⊢ any c (M.squeeze s' hq) fullShare := by
  unfold any
  iintro ⟨%X, H⟩
  unfold own owns
  icases H with ⟨%f, %hf, H⟩
  iexists _; iexists f
  isplitr; · ipureintro; rfl
  rw [Memref.set_view_squeeze]; iexact H
theorem sq_any {s s' : Shape} {e : EltTy} (M : Memref sig .tc .vmem s e) (hq : s.Squeezes s') :
    any (F := F) c (M.squeeze s' hq) fullShare ⊢ any c M fullShare := by
  unfold any
  iintro ⟨%X, H⟩
  unfold own owns
  icases H with ⟨%f, %hf, H⟩
  iexists _; iexists f
  isplitr; · ipureintro; rfl
  rw [Memref.set_view_squeeze]; iexact H

section Parts

variable {sh : Shape} {e : EltTy} (M : Memref sig .tc .vmem sh e) {T : Type} [Fintype T] [DecidableEq T] (r : T → Rect sh) (hr : ∀ t a, (r t).stride a = 1)
  (hd : ∀ t t', t ≠ t' → Disjoint (r t).set (r t').set) (hcov : (Finset.univ : Finset T).biUnion (fun t => (r t).set) = Finset.univ)
include hd hcov

omit [DecidableEq T] in
theorem any_parts : any (F := F) c M fullShare ⊢ bigSep Finset.univ fun t => any c (M.slice (r t) (hr t)) fullShare := by
  unfold any
  iintro ⟨%X, H⟩
  ihave H := (show own (F := F) c M fullShare X ⊢ bigSep Finset.univ fun t => iprop(∃ X, own (F := F) c (M.slice (r t) (hr t)) fullShare X) from
    (owns_rects (c : Thread nD τ) M fullShare r hr hd hcov X).trans (bigSep_mono fun t _ => show own (F := F) c (M.slice (r t) (hr t)) fullShare (fun j => X ((r t).emb j)) ⊢ _ by iintro H; iexists _; iexact H)) $$ H
  iexact H

/-- Contents of all the parts are contents of the whole. -/
theorem glue (Xs : ∀ t, (r t).shape.Idx → Elt F e) : ∃ X : sh.Idx → Elt F e, ∀ t, (fun j => X ((r t).emb j)) = Xs t := by
  classical
  have hx (i : sh.Idx) : ∃ p : Σ t, (r t).shape.Idx, (r p.1).emb p.2 = i := by
    obtain ⟨t, -, hi⟩ := Finset.mem_biUnion.mp (hcov.symm ▸ Finset.mem_univ i)
    obtain ⟨j, hj⟩ := (r t).exists_idx_of_mem hi
    exact ⟨⟨t, j⟩, hj⟩
  refine ⟨fun i => Xs (hx i).choose.1 (hx i).choose.2, fun t => funext fun j => ?_⟩
  have h := (hx ((r t).emb j)).choose_spec
  show Xs (hx ((r t).emb j)).choose.1 (hx ((r t).emb j)).choose.2 = Xs t j
  generalize (hx ((r t).emb j)).choose = p at h
  obtain ⟨t', j'⟩ := p
  have ht : t' = t := by
    by_contra hne
    have h1 : (r t).emb j ∈ (r t').set := h ▸ (r t').idx_mem j'
    exact Finset.disjoint_left.mp (hd t' t hne) h1 ((r t).idx_mem j)
  subst ht
  rw [(r t').emb.injective h]

theorem parts_any : (bigSep Finset.univ fun t => any (F := F) c (M.slice (r t) (hr t)) fullShare) ⊢ any c M fullShare := by
  unfold any
  iintro H
  ihave H := (BI.bigSep_exists_pi Finset.univ fun t (X : (r t).shape.Idx → Elt F e) => own (F := F) c (M.slice (r t) (hr t)) fullShare X) $$ H
  icases H with ⟨%Xs, H⟩
  obtain ⟨X, hX⟩ := glue r hd hcov Xs
  iexists X
  iapply (owns_of_rects (c : Thread nD τ) M fullShare r hr hd hcov X)
  simp only [hX]
  iexact H

end Parts

/-! ## The stacks -/

theorem rect3_mem (j : Fin 3) (i : S3x64x2048.Idx) : i ∈ (rect3 j).set ↔ (i 0).val = j.val := by
  rw [Rect.mem_set_unit]
  constructor
  · intro h
    have h0 : j.val ≤ (i 0).val ∧ (i 0).val < j.val + 1 := h 0
    omega
  · intro h a
    have h1 : (i 1).val < 64 := (i 1).isLt
    have h2 : (i 2).val < 2048 := (i 2).isLt
    fin_cases a
    · show j.val ≤ (i 0).val ∧ (i 0).val < j.val + 1; omega
    · show 0 ≤ (i 1).val ∧ (i 1).val < 0 + 64; omega
    · show 0 ≤ (i 2).val ∧ (i 2).val < 0 + 2048; omega
theorem rect4_mem (l j : Fin 3) (i : S3x3x64x2048.Idx) : i ∈ (rect4 l j).set ↔ (i 0).val = l.val ∧ (i 1).val = j.val := by
  rw [Rect.mem_set_unit]
  constructor
  · intro h
    have h0 : l.val ≤ (i 0).val ∧ (i 0).val < l.val + 1 := h 0
    have h1 : j.val ≤ (i 1).val ∧ (i 1).val < j.val + 1 := h 1
    omega
  · intro h a
    have h2 : (i 2).val < 64 := (i 2).isLt
    have h3 : (i 3).val < 2048 := (i 3).isLt
    fin_cases a
    · show l.val ≤ (i 0).val ∧ (i 0).val < l.val + 1; omega
    · show j.val ≤ (i 1).val ∧ (i 1).val < j.val + 1; omega
    · show 0 ≤ (i 2).val ∧ (i 2).val < 0 + 64; omega
    · show 0 ≤ (i 3).val ∧ (i 3).val < 0 + 2048; omega

theorem disj3 (j k : Fin 3) (h : j ≠ k) : Disjoint (rect3 j).set (rect3 k).set :=
  Finset.disjoint_left.mpr fun i h1 h2 => h (Fin.ext (((rect3_mem j i).mp h1).symm.trans ((rect3_mem k i).mp h2)))
theorem cov3 : (Finset.univ : Finset (Fin 3)).biUnion (fun j => (rect3 j).set) = Finset.univ :=
  Finset.eq_univ_iff_forall.mpr fun i => Finset.mem_biUnion.mpr ⟨⟨(i 0).val, (i 0).isLt⟩, Finset.mem_univ _, (rect3_mem _ i).mpr rfl⟩
theorem disj4 (p q : Fin 3 × Fin 3) (h : p ≠ q) : Disjoint (rect4 p.1 p.2).set (rect4 q.1 q.2).set :=
  Finset.disjoint_left.mpr fun i h1 h2 => h (Prod.ext (Fin.ext (((rect4_mem _ _ i).mp h1).1.symm.trans ((rect4_mem _ _ i).mp h2).1))
    (Fin.ext (((rect4_mem _ _ i).mp h1).2.symm.trans ((rect4_mem _ _ i).mp h2).2)))
theorem cov4 : (Finset.univ : Finset (Fin 3 × Fin 3)).biUnion (fun p => (rect4 p.1 p.2).set) = Finset.univ :=
  Finset.eq_univ_iff_forall.mpr fun i => Finset.mem_biUnion.mpr ⟨(⟨(i 0).val, (i 0).isLt⟩, ⟨(i 1).val, (i 1).isLt⟩), Finset.mem_univ _, (rect4_mem _ _ i).mpr ⟨rfl, rfl⟩⟩

variable (M3 : Memref sig .tc .vmem S3x64x2048 .bf16) (M4 : Memref sig .tc .vmem S3x3x64x2048 .bf16)

theorem split3 : any (F := F) c M3 fullShare ⊢ bigSep Finset.univ fun j => any c (slot3 M3 j) fullShare :=
  (any_parts c M3 rect3 (fun _ _ => rfl) disj3 cov3).trans (bigSep_mono fun j _ => any_sq c _ _)
theorem join3 : (bigSep Finset.univ fun j => any (F := F) c (slot3 M3 j) fullShare) ⊢ any c M3 fullShare :=
  (bigSep_mono fun j _ => sq_any c _ squeezes_S1x64x2048_S64x2048).trans (parts_any c M3 rect3 (fun _ _ => rfl) disj3 cov3)
theorem split4 : any (F := F) c M4 fullShare ⊢ bigSep Finset.univ fun l => bigSep Finset.univ fun j => any c (slot4 M4 l j) fullShare := by
  rw [← bigSep_univ_prod (fun p : Fin 3 × Fin 3 => any (F := F) c (slot4 M4 p.1 p.2) fullShare)]
  exact (any_parts c M4 (fun p : Fin 3 × Fin 3 => rect4 p.1 p.2) (fun _ _ => rfl) disj4 cov4).trans (bigSep_mono fun p _ => any_sq c _ _)
theorem join4 : (bigSep Finset.univ fun l => bigSep Finset.univ fun j => any (F := F) c (slot4 M4 l j) fullShare) ⊢ any c M4 fullShare := by
  rw [← bigSep_univ_prod (fun p : Fin 3 × Fin 3 => any (F := F) c (slot4 M4 p.1 p.2) fullShare)]
  exact (bigSep_mono fun p _ => sq_any c _ squeezes_S1x1x64x2048_S64x2048).trans (parts_any c M4 (fun p : Fin 3 × Fin 3 => rect4 p.1 p.2) (fun _ _ => rfl) disj4 cov4)

theorem own_any {s : Shape} {e : EltTy} (M : Memref sig .tc .vmem s e) (X : s.Idx → Elt F e) : own (F := F) c M fullShare X ⊢ any c M fullShare := by
  unfold any; iintro H; iexists X; iexact H

/-! ## The buffers at the start and at the end -/

theorem buf0 : iprop(∃ f : Buf (Elt F) ((c : Thread nD τ).loc cc0_scratch0), ((c : Thread nD τ).loc cc0_scratch0) ↦{fullShare} f) = any (F := F) c (Memref.whole cc0_scratch0) fullShare := by
  unfold any own; simp only [owns_whole]
theorem buf1 : iprop(∃ f : Buf (Elt F) ((c : Thread nD τ).loc cc0_scratch1), ((c : Thread nD τ).loc cc0_scratch1) ↦{fullShare} f) = any (F := F) c (Memref.whole cc0_scratch1) fullShare := by
  unfold any own; simp only [owns_whole]
theorem buf2 : iprop(∃ f : Buf (Elt F) ((c : Thread nD τ).loc cc0_scratch2), ((c : Thread nD τ).loc cc0_scratch2) ↦{fullShare} f) = any (F := F) c (Memref.whole cc0_scratch2) fullShare := by
  unfold any own; simp only [owns_whole]
theorem buf3 : iprop(∃ f : Buf (Elt F) ((c : Thread nD τ).loc cc0_scratch3), ((c : Thread nD τ).loc cc0_scratch3) ↦{fullShare} f) = any (F := F) c (Memref.whole cc0_scratch3) fullShare := by
  unfold any own; simp only [owns_whole]
theorem buf4 : iprop(∃ f : Buf (Elt F) ((c : Thread nD τ).loc cc0_scratch4), ((c : Thread nD τ).loc cc0_scratch4) ↦{fullShare} f) = any (F := F) c (Memref.whole cc0_scratch4) fullShare := by
  unfold any own; simp only [owns_whole]
theorem buf5 : iprop(∃ f : Buf (Elt F) ((c : Thread nD τ).loc cc0_scratch5), ((c : Thread nD τ).loc cc0_scratch5) ↦{fullShare} f) = any (F := F) c (Memref.whole cc0_scratch5) fullShare := by
  unfold any own; simp only [owns_whole]
theorem buf6 : iprop(∃ f : Buf (Elt F) ((c : Thread nD τ).loc cc0_scratch6), ((c : Thread nD τ).loc cc0_scratch6) ↦{fullShare} f) = any (F := F) c (Memref.whole cc0_scratch6) fullShare := by
  unfold any own; simp only [owns_whole]
theorem buf7 : iprop(∃ f : Buf (Elt F) ((c : Thread nD τ).loc cc0_scratch7), ((c : Thread nD τ).loc cc0_scratch7) ↦{fullShare} f) = any (F := F) c (Memref.whole cc0_scratch7) fullShare := by
  unfold any own; simp only [owns_whole]
theorem buf8 : iprop(∃ f : Buf (Elt F) ((c : Thread nD τ).loc cc0_scratch8), ((c : Thread nD τ).loc cc0_scratch8) ↦{fullShare} f) = any (F := F) c (Memref.whole cc0_scratch8) fullShare := by
  unfold any own; simp only [owns_whole]
theorem buf9 : iprop(∃ f : Buf (Elt F) ((c : Thread nD τ).loc cc0_scratch9), ((c : Thread nD τ).loc cc0_scratch9) ↦{fullShare} f) = any (F := F) c (Memref.whole cc0_scratch9) fullShare := by
  unfold any own; simp only [owns_whole]
theorem buf10 : iprop(∃ f : Buf (Elt F) ((c : Thread nD τ).loc cc0_scratch10), ((c : Thread nD τ).loc cc0_scratch10) ↦{fullShare} f) = any (F := F) c (Memref.whole cc0_scratch10) fullShare := by
  unfold any own; simp only [owns_whole]

/-- The blocks a device starts with: the local buffers, the sources, and its own landing slots. -/
theorem stores : (Pipeline.scopedRest (Ix := Unit) (Name := ℕ) (U := UU) (Lvl := ℕ) (Val := Elt F) spec0 c : sProp 𝕄)
    ⊢ iprop(any c M10 fullShare ∗ any c M11 fullShare ∗ any c M12 fullShare ∗ bigSep Finset.univ (srcs (F := F) c)
      ∗ bigSep Finset.univ fun k : Fin 3 => bigSep Finset.univ fun φ : Fam => any (F := F) c (dstM φ k) fullShare) := by
  rw [scopedRest0_eq, buf0, buf1, buf2, buf3, buf4, buf5, buf6, buf7, buf8, buf9, buf10, bigSep_univ_comm, ten, ten]
  dsimp only [srcs, srcM, dstM]
  iintro ⟨H0, H1, H2, H3, H4, H5, H6, H7, H8, H9, H10⟩
  isplitl [H0]; · iexact H0
  isplitl [H1]; · iexact H1
  isplitl [H2]; · iexact H2
  ihave H4 := (split3 c _) $$ H4
  ihave H5 := ((split4 c _).trans (Entails.of_eq (three _))) $$ H5
  ihave H6 := ((split4 c _).trans (Entails.of_eq (three _))) $$ H6
  ihave H7 := ((split3 c _).trans (Entails.of_eq (three _))) $$ H7
  ihave H8 := ((split4 c _).trans (Entails.of_eq (three _))) $$ H8
  ihave H9 := ((split4 c _).trans (Entails.of_eq (three _))) $$ H9
  ihave H10 := ((split4 c _).trans (Entails.of_eq (three _))) $$ H10
  isplitl [H3 H5 H6 H7]
  · isplitl [H3]; · iexact H3
    isplitl [H5]; · iexact H5
    isplitl [H6]; · iexact H6
    iexact H7
  isplitl [H4]; · iexact H4
  isplitl [H8]; · iexact H8
  isplitl [H9]; · iexact H9
  iexact H10

variable (D : Inp F)

/-- What an exchange leaves on the sending side: its semaphores at zero and its sources. -/
theorem snd_out (φ : Fam) : (bigSep Finset.univ fun k => SD D c φ k) ⊢ iprop((bigSep Finset.univ fun k => semVal (sndC c φ k) 0) ∗ srcs (F := F) c φ) := by
  have h3 (M : Memref sig .tc .vmem S64x2048 .bf16) (X : FVec F S64x2048 .bf16) :
      iprop(own c M fullShare.left X ∗ own c M fullShare.right.left X ∗ own c M fullShare.right.right X) ⊢ any (F := F) c M fullShare :=
    (shares c M X).2.trans (own_any c M X)
  unfold SD
  rw [bigSep_sep']
  refine sep_mono_right ?_
  cases φ with
  | x => rw [three]; exact h3 _ (tr (D.x c))
  | g l => rw [three]; exact h3 _ (tr (redL D l c))
  | a l => exact bigSep_mono fun k _ => own_any c _ _
  | b l => exact bigSep_mono fun k _ => own_any c _ _
/-- And on the receiving side. -/
theorem rcv_out (φ : Fam) : (bigSep Finset.univ fun j => RD D c φ j)
    ⊢ iprop((bigSep Finset.univ fun j => semVal (rcvC c φ j) 0) ∗ bigSep Finset.univ fun j => any (F := F) c (dstM φ j) fullShare) := by
  unfold RD
  rw [bigSep_sep']
  exact sep_mono_right (bigSep_mono fun j _ => own_any c _ _)

/-- The blocks given back at the end are the buffers. -/
theorem restored : iprop(any c M10 fullShare ∗ any c M11 fullShare ∗ any c M12 fullShare ∗ bigSep Finset.univ (srcs (F := F) c)
      ∗ bigSep Finset.univ fun φ : Fam => bigSep Finset.univ fun k : Fin 3 => any (F := F) c (dstM φ k) fullShare)
    ⊢ (Pipeline.scopedRest (Ix := Unit) (Name := ℕ) (U := UU) (Lvl := ℕ) (Val := Elt F) spec0 c : sProp 𝕄) := by
  rw [scopedRest0_eq, buf0, buf1, buf2, buf3, buf4, buf5, buf6, buf7, buf8, buf9, buf10, ten, ten]
  dsimp only [srcs, srcM, dstM]
  iintro ⟨H0, H1, H2, ⟨H3, H5, H6, H7⟩, H4, H8, H9, H10⟩
  isplitl [H0]; · iexact H0
  isplitl [H1]; · iexact H1
  isplitl [H2]; · iexact H2
  isplitl [H3]; · iexact H3
  isplitl [H4]; · iapply (join3 c _); iexact H4
  isplitl [H5]; · iapply ((Entails.of_eq (three _).symm).trans (join4 c _)); iexact H5
  isplitl [H6]; · iapply ((Entails.of_eq (three _).symm).trans (join4 c _)); iexact H6
  isplitl [H7]; · iapply ((Entails.of_eq (three _).symm).trans (join3 c _)); iexact H7
  isplitl [H8]; · iapply ((Entails.of_eq (three _).symm).trans (join4 c _)); iexact H8
  isplitl [H9]; · iapply ((Entails.of_eq (three _).symm).trans (join4 c _)); iexact H9
  iapply ((Entails.of_eq (three _).symm).trans (join4 c _)); iexact H10

end Cert.RingMlp
end
-- ==== Proof.Deal.lean ====
/-
The launch: what is minted, and how it is dealt to the devices.
-/
module

public import proofs.«01_k».proof.Proof.Store

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (D : Inp F) (c : Dev nD)

/-! ## All the semaphores, listed -/

/-- The kernel's own semaphores: the exit's, the sending ones, the receiving ones. -/
def ownList : OCell ≃ Unit ⊕ (Fam × Fin 3) ⊕ (Fam × Fin 3) where
  toFun | .exit => .inl () | .snd φ k => .inr (.inl (φ, k)) | .rcv φ j => .inr (.inr (φ, j))
  invFun | .inl _ => .exit | .inr (.inl p) => .snd p.1 p.2 | .inr (.inr p) => .rcv p.1 p.2
  left_inv o := by cases o <;> rfl
  right_inv o := by rcases o with _ | _ | _ <;> rfl
/-- With the barrier's. -/
def cellList : Cell ≃ Unit ⊕ OCell where
  toFun | none => .inl () | some o => .inr o
  invFun | .inl _ => none | .inr o => some o
  left_inv o := by cases o <;> rfl
  right_inv o := by rcases o with _ | _ <;> rfl

theorem overOwn (f : OCell → sProp 𝕄) : bigSep Finset.univ f
    = iprop(f .exit ∗ (bigSep Finset.univ fun φ => bigSep Finset.univ fun k => f (.snd φ k)) ∗ (bigSep Finset.univ fun φ => bigSep Finset.univ fun j => f (.rcv φ j))) := by
  rw [bigSep_univ_equiv ownList.symm f, bigSep_univ_sum, bigSep_univ_sum, bigSep_univ_prod, bigSep_univ_prod, Finset.univ_unique, bigSep_singleton]
  rfl
theorem overAll (f : Cell → sProp 𝕄) : bigSep Finset.univ f
    = iprop(f none ∗ f (some .exit) ∗ (bigSep Finset.univ fun φ => bigSep Finset.univ fun k => f (some (.snd φ k)))
      ∗ (bigSep Finset.univ fun φ => bigSep Finset.univ fun j => f (some (.rcv φ j)))) := by
  rw [bigSep_univ_equiv cellList.symm f, bigSep_univ_sum, Finset.univ_unique, bigSep_singleton, overOwn]
  rfl

/-! ## What the launch mints -/

abbrev kcell (p : Dev nD × Cell) : GSem nD τ sig := cell p.1 p.2
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- A token for each of three duties of each semaphore. -/
abbrev tokOf (p : (Dev nD × Cell) × Fin 3) : GSem nD τ sig × ℕ × Fin 3 := (kcell p.1, 0, p.2)
theorem tokOf_inj : Function.Injective tokOf := by
  rintro ⟨p, d⟩ ⟨p', d'⟩ h
  have h1 : p = p' := kcell_inj (congrArg (fun x : GSem nD τ sig × ℕ × Fin 3 => x.1) h)
  have h2 : d = d' := congrArg (fun x : GSem nD τ sig × ℕ × Fin 3 => x.2.2) h
  rw [h1, h2]
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens of device `c`'s semaphores. -/
def toks : sProp 𝕄 := bigSep Finset.univ fun k : Cell => bigSep Finset.univ fun d : Fin 3 => dutyTok ER (cell c k) 0 d
def places : sProp 𝕄 := bigSep Finset.univ fun k : Cell => iprop(atPos ER (cell c k) 0 ∅ 0 ∗ reached ER (cell c k) 0)

/-- What the launch deals device `c`. -/
def G : sProp 𝕄 :=
  iprop((bigSep Finset.univ fun k : Cell => roundState ER (Rd D) (cell c k) 0) ∗ places (F := F) c ∗ toks (F := F) c)

theorem fund : BI.own (ER (initOf allCells allToks)) ⊢ (|==> bigSep Finset.univ (G D) : sProp 𝕄) := by
  have hX (Φ : GSem nD τ sig → sProp 𝕄) : bigSep allCells Φ = bigSep Finset.univ fun c : Dev nD => bigSep Finset.univ fun k : Cell => Φ (cell c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod, bigSep_univ_prod]; rfl
  iintro HX
  imod (Rounds.fund ER (Rd D) allCells allToks) $$ HX with ⟨Hst, Hr, Hat, Htok⟩
  imodintro
  ihave Hst := (Entails.of_eq (hX fun g => roundState ER (Rd D) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

/-! ## The counters -/

theorem unscoped_eq : (unscopedSems0 c : sProp 𝕄) = semVal (barC c) 0 := by
  unfold unscopedSems0; rw [bigSep_eq_bigSepL_of_eq [SemLoc.reg barS] (by decide +kernel) (by decide)]; rfl
theorem own_eq : (Pipeline.ownSems0 (Ix := Unit) (Name := ℕ) (U := UU) (Lvl := ℕ) (Val := Elt F) (τ := τ) osem c : sProp 𝕄)
    = bigSep Finset.univ fun o : OCell => semVal (cell c (some o)) 0 := rfl
theorem sems_eq : iprop(Pipeline.ownSems0 (Ix := Unit) (Name := ℕ) (U := UU) (Lvl := ℕ) (Val := Elt F) (τ := τ) osem c ∗ unscopedSems0 c)
    ⊢ (bigSep Finset.univ fun k : Cell => semVal (cell c k) 0 : sProp 𝕄) := by
  rw [unscoped_eq, own_eq, overAll, overOwn]
  iintro ⟨H, HB⟩
  isplitl [HB] <;> iassumption

theorem allocated : iprop(Pipeline.ownSems0 (Ix := Unit) (Name := ℕ) (U := UU) (Lvl := ℕ) (Val := Elt F) (τ := τ) osem c ∗ unscopedSems0 c ∗ G D c)
    ⊢ |={Set.univ}=> iprop((bigSep Finset.univ fun k : Cell => iprop(∃ κ : ℕ, cellInv ER (Rd D) κ (cell c k))) ∗ places (F := F) c ∗ toks (F := F) c) := by
  unfold G
  iintro ⟨Hos, Hus, Hst, Hat, Htok⟩
  ihave Hv := (sems_eq (F := F) c) $$ [Hos Hus]
  · isplitl [Hos] <;> iassumption
  imod (show iprop((bigSep Finset.univ fun k : Cell => semVal (cell c k) 0) ∗ bigSep Finset.univ fun k : Cell => roundState ER (Rd D) (cell c k) 0)
      ⊢ (|={Set.univ}=> bigSep Finset.univ fun k : Cell => iprop(∃ κ : ℕ, cellInv ER (Rd D) κ (cell c k)) : sProp 𝕄) from by
        rw [← bigSep_sep']
        exact (bigSep_mono fun k _ => (Rounds.body_intro ER (Rd D) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay -/

/-- The tokens device `c` pays with. -/
def payToks : sProp 𝕄 :=
  iprop((bigSep Finset.univ fun k : Fin 3 => dutyTok ER (barC (peer c k)) 0 (rev k)) ∗ (bigSep Finset.univ fun k : Fin 3 => dutyTok ER (exitC (peer c k)) 0 (rev k))
    ∗ (bigSep Finset.univ fun φ : Fam => bigSep Finset.univ fun k : Fin 3 => dutyTok ER (sndC c φ k) 0 0)
    ∗ (bigSep Finset.univ fun φ : Fam => bigSep Finset.univ fun k : Fin 3 => dutyTok ER (rcvC (peer c k) φ (rev k)) 0 0))

/-- From a device and a direction to the peer there and the direction back. -/
def across : Dev nD × Fin 3 ≃ Dev nD × Fin 3 where
  toFun p := (peer p.1 p.2, rev p.2)
  invFun p := (peer p.1 p.2, rev p.2)
  left_inv p := Prod.ext (peer_rev p.1 p.2) (rev_rev p.2)
  right_inv p := Prod.ext (peer_rev p.1 p.2) (rev_rev p.2)

theorem swapped (f : Dev nD → Fin 3 → sProp 𝕄) : (bigSep Finset.univ fun c => bigSep Finset.univ fun k => f c k)
    = bigSep Finset.univ fun c => bigSep Finset.univ fun k => f (peer c k) (rev k) := by
  rw [← bigSep_univ_prod (fun p : Dev nD × Fin 3 => f p.1 p.2), bigSep_univ_equiv across, bigSep_univ_prod]; rfl

theorem toks_eq : toks (F := F) c ⊢ iprop((bigSep Finset.univ fun d : Fin 3 => dutyTok ER (barC c) 0 d) ∗ (bigSep Finset.univ fun d : Fin 3 => dutyTok ER (exitC c) 0 d)
    ∗ (bigSep Finset.univ fun φ : Fam => bigSep Finset.univ fun k : Fin 3 => dutyTok ER (sndC c φ k) 0 0)
    ∗ (bigSep Finset.univ fun φ : Fam => bigSep Finset.univ fun k : Fin 3 => dutyTok ER (rcvC c φ k) 0 0)) := by
  unfold toks
  rw [overAll]
  exact sep_mono_right (sep_mono_right (BI.sep_mono (bigSep_mono fun φ _ => bigSep_mono fun k _ => bigSep_elim (Finset.mem_univ 0))
    (bigSep_mono fun φ _ => bigSep_mono fun k _ => bigSep_elim (Finset.mem_univ 0))))

theorem toks_across : (bigSep Finset.univ fun c : Dev nD => toks (F := F) c) ⊢ bigSep Finset.univ fun c : Dev nD => payToks (F := F) c := by
  refine (show _ ⊢ _ from bigSep_mono fun c _ => toks_eq (F := F) c).trans (show _ ⊢ _ from Entails.of_eq ?_)
  unfold payToks
  rw [bigSep_sep', bigSep_sep', bigSep_sep', bigSep_sep', bigSep_sep', bigSep_sep', swapped (fun c d => dutyTok ER (barC c) 0 d),
    swapped (fun c d => dutyTok ER (exitC c) 0 d),
    bigSep_univ_comm (fun (c : Dev nD) (φ : Fam) => bigSep Finset.univ fun k : Fin 3 => (dutyTok ER (rcvC c φ k) 0 0 : sProp 𝕄)),
    bigSep_univ_comm (fun (c : Dev nD) (φ : Fam) => bigSep Finset.univ fun k : Fin 3 => (dutyTok ER (rcvC (peer c k) φ (rev k)) 0 0 : sProp 𝕄)),
    bigSep_congr (s := Finset.univ) (fun (φ : Fam) _ => swapped (F := F) (fun c k => dutyTok ER (rcvC c φ k) 0 0))]

/-- What stays with device `c`: its places, and the tokens it pays with. -/
def linear : sProp 𝕄 := iprop((bigSep Finset.univ fun k : Cell => atPos ER (cell c k) 0 ∅ 0) ∗ payToks (F := F) c)
def G' : sProp 𝕄 := iprop((∃ K, recs D K) ∗ linear (F := F) c)

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop((bigSep Finset.univ fun k : Cell => iprop(∃ κ : ℕ, cellInv ER (Rd D) κ (cell c k))) ∗ places (F := F) c ∗ toks (F := F) c) : sProp 𝕄)
    ⊢ bigSep Finset.univ (G' D) := by
  unfold places
  rw [bigSep_sep', bigSep_sep', ← bigSep_univ_prod (fun p : Dev nD × Cell => iprop(∃ κ : ℕ, cellInv ER (Rd D) κ (cell p.1 p.2))),
    bigSep_congr (s := Finset.univ) (fun (c : Dev nD) _ => bigSep_sep' Finset.univ (fun k : Cell => (atPos ER (cell c k) 0 ∅ 0 : sProp 𝕄)) (fun k => reached ER (cell c k) 0)),
    bigSep_sep', ← bigSep_univ_prod (fun p : Dev nD × Cell => (reached ER (cell p.1 p.2) 0 : sProp 𝕄))]
  iintro ⟨HI, ⟨Hat, #HR⟩, Htok⟩
  ihave HK := (BI.bigSep_exists_pi Finset.univ (fun (p : Dev nD × Cell) (κ : ℕ) => (cellInv ER (Rd D) κ (cell p.1 p.2) : sProp 𝕄))) $$ HI
  icases HK with ⟨%K, #HI⟩
  ihave Htk := (toks_across (F := F)) $$ Htok
  iapply (with_all (R := recs D K) (Φ := fun c => linear (F := F) c) (Ψ := G' D) fun c _ => by
    unfold G'
    iintro ⟨#H, Hl⟩
    isplitr; · iexists K; iexact H
    iexact Hl)
  isplitr
  · unfold recs; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => allocated D c).trans (bigSep_fupd _ _)).trans (BI.fupd_mono (regroup D))

/-! ## What all the devices owe a semaphore -/

def dueKey : Due → Cell
  | .bar _ => none | .exit _ => some .exit | .msg φ k => some (.rcv φ (rev k))
def dueDir : Due → Fin 3
  | .bar k | .exit k | .msg _ k => k
theorem dueCell_eq (d : Dev nD) (x : Due) : dueCell d x = kcell (peer d (dueDir x), dueKey x) := by cases x <;> rfl

/-- Everything owed at the start. -/
def O₀ (c : Dev nD) : CellTallies nD τ sig Unit := owing c (pending 0)

theorem owed_at (k : Cell) : ∑ d : Dev nD, O₀ d (cell c k) () = ∑ d : Dev nD, ∑ x : Due, if peer d (dueDir x) = c ∧ dueKey x = k then dueAmt x else 0 := by
  refine Finset.sum_congr rfl fun d _ => ?_
  unfold O₀ owing
  rw [show pending 0 = Finset.univ from Finset.filter_true_of_mem fun _ _ => Nat.zero_le _, Finset.sum_apply, Finsupp.finset_sum_apply]
  refine Finset.sum_congr rfl fun x _ => ?_
  rw [tallyAt_apply, dueCell_eq]
  by_cases h : peer d (dueDir x) = c ∧ dueKey x = k
  · rw [if_pos h, if_pos ⟨by rw [h.1, h.2], rfl⟩]
  · rw [if_neg h, if_neg fun h' => h (by
      have e := kcell_inj (a₁ := (c, k)) h'.1
      exact ⟨(congrArg Prod.fst e).symm, (congrArg Prod.snd e).symm⟩)]

theorem sum_bar : ∀ c : Dev nD, (∑ d : Dev nD, ∑ x : Due, if peer d (dueDir x) = c ∧ dueKey x = none then dueAmt x else 0) = 3 := by decide +kernel
theorem sum_exit : ∀ c : Dev nD, (∑ d : Dev nD, ∑ x : Due, if peer d (dueDir x) = c ∧ dueKey x = some .exit then dueAmt x else 0) = 3 := by decide +kernel
theorem due_rcv : ∀ (c : Dev nD) (φ : Fam) (j : Fin 3), (Finset.univ.filter fun p : Dev nD × Due => peer p.1 (dueDir p.2) = c ∧ dueKey p.2 = some (.rcv φ j))
    = {(peer c j, .msg φ (rev j))} := by decide +kernel
theorem sum_rcv (φ : Fam) (j : Fin 3) : (∑ d : Dev nD, ∑ x : Due, if peer d (dueDir x) = c ∧ dueKey x = some (.rcv φ j) then dueAmt x else 0) = N := by
  rw [← Fintype.sum_prod_type' (fun (d : Dev nD) (x : Due) => if peer d (dueDir x) = c ∧ dueKey x = some (.rcv φ j) then dueAmt x else 0),
    ← Finset.sum_filter, due_rcv, Finset.sum_singleton]
  rfl

theorem launched (k : Cell) {n : ℕ} (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

def csemEmb : Cell ↪ SemLoc sig := ⟨csem, csem_inj⟩
theorem creds : (Pipeline.launchCred O₀ c : sProp 𝕄) ⊢ iprop(cred (tallyAt (barC c) () 3) ∗ cred (tallyAt (exitC c) () 3)
    ∗ bigSep Finset.univ fun φ : Fam => bigSep Finset.univ fun j : Fin 3 => cred (tallyAt (rcvC c φ j) () N)) := by
  unfold Pipeline.launchCred
  refine (show _ ⊢ _ from bigSep_subset (t := Finset.univ.map csemEmb) (Finset.subset_univ _)).trans ?_
  rw [bigSep_map, overAll]
  show iprop(_) ⊢ iprop(_)
  iintro ⟨H1, H2, -, H4⟩
  isplitl [H1]
  · iapply (Entails.of_eq (congrArg (fun t => cred t) (launched c none ((owed_at c none).trans (sum_bar c))))); iexact H1
  isplitl [H2]
  · iapply (Entails.of_eq (congrArg (fun t => cred t) (launched c (some .exit) ((owed_at c _).trans (sum_exit c))))); iexact H2
  iapply (Entails.of_eq (bigSep_congr (s := Finset.univ) fun (φ : Fam) _ => bigSep_congr (s := Finset.univ) fun (j : Fin 3) _ =>
    congrArg (fun t => cred t) (launched c (some (.rcv φ j)) ((owed_at c _).trans (sum_rcv c φ j)))))
  iexact H4

end Cert.RingMlp
end
-- ==== Proof.Body.lean ====
/-
The kernel's body at every point of the grid.
-/
module

public import proofs.«01_k».proof.Proof.Corners
public import proofs.«01_k».proof.Proof.Gen.KernelIdeal.Frame

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

section

variable (D : Inp F) (i : grid0.Coords)
variable (A2 : Memref sig .tc .vmem S64x2048 .f32) (h2 : A2.IsWhole)
  (A3 : Memref sig .tc .vmem S2048x128 .f32) (h3 : A3.IsWhole) (A4 : Memref sig .tc .vmem S128x2048 .f32) (h4 : A4.IsWhole)
  (A5 : Memref sig .tc .vmem S2048x128 .f32) (h5 : A5.IsWhole) (A6 : Memref sig .tc .vmem S128x2048 .f32) (h6 : A6.IsWhole)
  (A7 : Memref sig .tc .vmem S2048x128 .f32) (h7 : A7.IsWhole) (A8 : Memref sig .tc .vmem S128x2048 .f32) (h8 : A8.IsWhole)
  (A9 : Memref sig .tc .vmem S256x2048 .f32) (h9 : A9.IsWhole)

set_option maxHeartbeats 1000000 in
/-- Any point of the grid. -/
theorem point {t : ℕ} (ht : t = 32 * (lyr i).val + (i 1).val) (X0 : FVec F S64x2048 .f32) (hX0 : X0 = D.x c) (W : Fin 3 → FVec F S2048x128 .f32) (V : Fin 3 → FVec F S128x2048 .f32) (Z : FVec F S256x2048 .f32)
    (hW : W (lyr i) = D.wi (lyr i) c (i 1).val) (hV : V (lyr i) = D.wo (lyr i) c (i 1).val) {Q : PUnit → sProp 𝕄} :
    iprop(PhiAt D c t ∗ owe (F := F) c (pending t) ∗ own c A2 fullShare X0 ∗ Wins c A3 A4 A5 A6 A7 A8 W V ∗ own c A9 fullShare Z)
    ⊢ iprop(((PhiAt D c (t + 1) ∗ owe (F := F) c (pending (t + 1)) ∗ own c A2 fullShare X0 ∗ Wins c A3 A4 A5 A6 A7 A8 W V ∗ own c A9 fullShare (if t = 95 then XL D 3 c else Z)) -∗ Q ⟨⟩)
      -∗ WP c (cc0_body_skel i A2 h2 A3 h3 A4 h4 A5 h5 A6 h6 A7 h7 A8 h8 A9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scoped0) Q) := by
  have hlt := (lyr i).isLt
  have hrt : (i 1).val < 32 := (i 1).isLt
  by_cases h95 : t = 95
  · rw [if_pos h95]
    have hl : lyr i = 2 := Fin.ext (by show (lyr i).val = 2; omega)
    exact coreEnd D c i A2 h2 A3 h3 A4 h4 A5 h5 A6 h6 A7 h7 A8 h8 A9 h9 ht X0 W V Z hW hV (by omega) hl
  rw [if_neg h95]
  by_cases h0 : (i 1).val = 0
  · by_cases hl : lyr i = 0
    · exact coreOpen D c i A2 h2 A3 h3 A4 h4 A5 h5 A6 h6 A7 h7 A8 h8 A9 h9 ht X0 hX0 W V Z hW hV h0 hl
    · exact coreFirst D c i A2 h2 A3 h3 A4 h4 A5 h5 A6 h6 A7 h7 A8 h8 A9 h9 ht X0 W V Z hW hV h0 hl
  by_cases h16 : (i 1).val = 16
  · exact coreMid D c i A2 h2 A3 h3 A4 h4 A5 h5 A6 h6 A7 h7 A8 h8 A9 h9 ht X0 W V Z hW hV h16
  by_cases h31 : (i 1).val = 31
  · have hl : lyr i ≠ 2 := fun h => h95 (by rw [ht, h, h31]; rfl)
    exact coreLast D c i A2 h2 A3 h3 A4 h4 A5 h5 A6 h6 A7 h7 A8 h8 A9 h9 ht X0 W V Z hW hV h31 hl
  by_cases hlo : (i 1).val < 16
  · exact coreLo D c i A2 h2 A3 h3 A4 h4 A5 h5 A6 h6 A7 h7 A8 h8 A9 h9 ht X0 W V Z hW hV (by omega) hlo
  · exact coreHi D c i A2 h2 A3 h3 A4 h4 A5 h5 A6 h6 A7 h7 A8 h8 A9 h9 ht X0 W V Z hW hV (by omega) (by omega)

end

variable (m : (ℓ : Loc nD τ sig) → Buf (Elt F) ℓ) (ρ : Dev nD → PrngReg)

/-- The point a layer's tile is at. -/
def pt (l : Fin 3) (r : ℕ) : Fin 96 := ⟨(32 * l.val + r) % 96, Nat.mod_lt _ (by decide)⟩
/-- The blocks of the two weights of a layer that are staged at a point. -/
def wIn (t : Fin 96) : Fin 3 → FVec F S2048x128 .f32 := fun | 0 => iblk m c 1 t | 1 => iblk m c 3 t | 2 => iblk m c 5 t
def wOut (t : Fin 96) : Fin 3 → FVec F S128x2048 .f32 := fun | 0 => iblk m c 2 t | 1 => iblk m c 4 t | 2 => iblk m c 6 t
/-- What the devices are given, as the grid reads it. -/
def given : Inp F where
  x c := iblk m c 0 ⟨0, by decide⟩
  wi l c r := wIn c m (pt l r) l
  wo l c r := wOut c m (pt l r) l

theorem x_const (t : Fin 96) : iblk m c 0 t = (given m).x c := rfl

/-- The launch's proof data: each input's block stays; the result's window holds the array leaving the last layer. -/
def dats (_ : Fin 1) (c : Dev nD) : Dat τ (Elt F) Unit ℕ UU ℕ cfg0 c where
  A w := V m c (Pipeline.arrRef spec0 w)
  after := fun
    | 0 => fun t => iblk m c 0 t | 1 => fun t => iblk m c 1 t | 2 => fun t => iblk m c 2 t | 3 => fun t => iblk m c 3 t
    | 4 => fun t => iblk m c 4 t | 5 => fun t => iblk m c 5 t | 6 => fun t => iblk m c 6 t | 7 => fun _ => XL (given m) 3 c
  Φ t := PhiAt (given m) c t.val
  q _ := fullShare
  owed t := owing c (pending t.val)

theorem before_0 (t : Fin cfg0.N) (d) : (dats m 0 c).before 0 t d = iblk m c 0 t :=
  ((dats m 0 c).before_in_eq_fetched 0 rfl (fun _ => rfl) (fun _ _ _ => rfl) (fun _ => rfl) t d).trans rfl
theorem before_1 (t : Fin cfg0.N) (d) : (dats m 0 c).before 1 t d = iblk m c 1 t :=
  ((dats m 0 c).before_in_eq_fetched 1 rfl (fun _ => rfl) (fun _ _ _ => rfl) (fun _ => rfl) t d).trans rfl
theorem before_2 (t : Fin cfg0.N) (d) : (dats m 0 c).before 2 t d = iblk m c 2 t :=
  ((dats m 0 c).before_in_eq_fetched 2 rfl (fun _ => rfl) (fun _ _ _ => rfl) (fun _ => rfl) t d).trans rfl
theorem before_3 (t : Fin cfg0.N) (d) : (dats m 0 c).before 3 t d = iblk m c 3 t :=
  ((dats m 0 c).before_in_eq_fetched 3 rfl (fun _ => rfl) (fun _ _ _ => rfl) (fun _ => rfl) t d).trans rfl
theorem before_4 (t : Fin cfg0.N) (d) : (dats m 0 c).before 4 t d = iblk m c 4 t :=
  ((dats m 0 c).before_in_eq_fetched 4 rfl (fun _ => rfl) (fun _ _ _ => rfl) (fun _ => rfl) t d).trans rfl
theorem before_5 (t : Fin cfg0.N) (d) : (dats m 0 c).before 5 t d = iblk m c 5 t :=
  ((dats m 0 c).before_in_eq_fetched 5 rfl (fun _ => rfl) (fun _ _ _ => rfl) (fun _ => rfl) t d).trans rfl
theorem before_6 (t : Fin cfg0.N) (d) : (dats m 0 c).before 6 t d = iblk m c 6 t :=
  ((dats m 0 c).before_in_eq_fetched 6 rfl (fun _ => rfl) (fun _ _ _ => rfl) (fun _ => rfl) t d).trans rfl

theorem last_idle : ∀ t : Fin 96, t.val ≠ 95 → cfg0.idle 7 (grid0.coords t) = true := by decide +kernel
theorem last_busy : ∀ t : Fin 96, t.val = 95 → cfg0.idle 7 (grid0.coords t) = false := by decide +kernel
theorem no_flush (t : Fin cfg0.N) (h : t.val ≠ 95) : (cfg0.win 7).flush t = false := by
  have h96 : t.val < 96 := t.isLt
  cases hf : (cfg0.win 7).flush t
  · rfl
  · exact absurd ((flush0_7 t).mp hf) (by omega)

theorem phi_before (t : Fin cfg0.N) : (dats m 0 c).Φ t.castSucc = PhiAt (given m) c t.val := rfl
theorem phi_after (t : Fin cfg0.N) : PhiAt (given m) c (t.val + 1) = (dats m 0 c).Φ t.succ := rfl
theorem t_at (t : Fin 96) : t.val = 32 * (lyr (grid0.coords t)).val + ((grid0.coords t) 1).val := by
  show t.val = 32 * ((grid0.coords t) 0).val + ((grid0.coords t) 1).val
  rw [coords0, coords1]; omega
theorem pt_at (t : Fin 96) : pt (lyr (grid0.coords t)) ((grid0.coords t) 1).val = t :=
  Fin.ext (by show (32 * (lyr (grid0.coords t)).val + ((grid0.coords t) 1).val) % 96 = t.val; rw [← t_at]; exact Nat.mod_eq_of_lt t.isLt)
theorem wIn_at (t : Fin 96) : wIn c m t (lyr (grid0.coords t)) = (given m).wi (lyr (grid0.coords t)) c ((grid0.coords t) 1).val := by
  show _ = wIn c m (pt _ _) _
  rw [pt_at]
theorem wOut_at (t : Fin 96) : wOut c m t (lyr (grid0.coords t)) = (given m).wo (lyr (grid0.coords t)) c ((grid0.coords t) 1).val := by
  show _ = wOut c m (pt _ _) _
  rw [pt_at]

/-- The result's window: stored at the last point, untouched before. -/
theorem leave_last (t : Fin cfg0.N) (d) :
    owns (c : Thread nD τ) (st0_7 t) fullShare (if t.val = 95 then XL (given m) 3 c else (dats m 0 c).before 7 t d)
    ⊢ (match cfg0.idle 7 (grid0.coords t) with
      | true => (match (cfg0.win 7).flush t with
        | false => iprop(∃ d, owns (c : Thread nD τ) (st0_7 t) fullShare ((dats m 0 c).before 7 t d))
        | true => owns (c : Thread nD τ) (st0_7 t) fullShare ((dats m 0 c).after 7 t))
      | false => owns (c : Thread nD τ) (st0_7 t) fullShare ((dats m 0 c).after 7 t) : sProp 𝕄) := by
  by_cases h : t.val = 95
  · rw [last_busy t h, if_pos h]; exact Entails.refl _
  · rw [last_idle t h, no_flush t h, if_neg h]
    iintro H; iexists d; iexact H

set_option maxHeartbeats 1000000 in
/-- The body on device `c`, at every point of the grid. -/
theorem body_obligation : BodyObligation (dats (F := F) m 0 c) (defs₀ (F := F)) 𝒱₀ () Set.univ := fun t => by
  have h96 : t.val < 96 := t.isLt
  rw [bigSep_W0, bigSep_W0]
  show _ ⊢ WP c (bodyAt0 t) _
  unfold bodyAt0
  rw [cc0_body_eq_skeleton]
  iintro ⟨HP, HO, ⟨%d0, H2⟩, ⟨%d1, H3⟩, ⟨%d2, H4⟩, ⟨%d3, H5⟩, ⟨%d4, H6⟩, ⟨%d5, H7⟩, ⟨%d6, H8⟩, ⟨%d7, H9⟩⟩
  ihave H2 := (Entails.of_eq (congrArg (fun X => owns (c : Thread nD τ) (st0_0 t) fullShare X) (before_0 c m t d0))) $$ H2
  ihave H3 := (Entails.of_eq (congrArg (fun X => owns (c : Thread nD τ) (st0_1 t) fullShare X) (before_1 c m t d1))) $$ H3
  ihave H4 := (Entails.of_eq (congrArg (fun X => owns (c : Thread nD τ) (st0_2 t) fullShare X) (before_2 c m t d2))) $$ H4
  ihave H5 := (Entails.of_eq (congrArg (fun X => owns (c : Thread nD τ) (st0_3 t) fullShare X) (before_3 c m t d3))) $$ H5
  ihave H6 := (Entails.of_eq (congrArg (fun X => owns (c : Thread nD τ) (st0_4 t) fullShare X) (before_4 c m t d4))) $$ H6
  ihave H7 := (Entails.of_eq (congrArg (fun X => owns (c : Thread nD τ) (st0_5 t) fullShare X) (before_5 c m t d5))) $$ H7
  ihave H8 := (Entails.of_eq (congrArg (fun X => owns (c : Thread nD τ) (st0_6 t) fullShare X) (before_6 c m t d6))) $$ H8
  unfold Dat.owesAt Pipeline.owesWithin
  icases HO with ⟨%U, %hU, HO⟩
  iapply (point c (given m) (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7)) (t_at t) (iblk m c 0 t) (x_const c m t) (wIn c m t) (wOut c m t)
    ((dats m 0 c).before 7 t d7) (wIn_at c m t) (wOut_at c m t)) $$ [HP HO H2 H3 H4 H5 H6 H7 H8 H9]
  · isplitl [HP]; · iapply (Entails.of_eq (phi_before c m t)); iexact HP
    isplitl [HO]; · unfold owe; iexists U; iexact HO
    isplitl [H2]; · iexact H2
    isplitr [H9]
    · unfold Wins
      isplitl [H3]; · iexact H3
      isplitl [H4]; · iexact H4
      isplitl [H5]; · iexact H5
      isplitl [H6]; · iexact H6
      isplitl [H7]; · iexact H7
      iexact H8
    iexact H9
  unfold owe Wins
  iintro ⟨HP, ⟨%U', HO⟩, H2, ⟨H3, H4, H5, H6, H7, H8⟩, H9⟩
  isplitl [HP]; · iapply (Entails.of_eq (phi_after c m t)); iexact HP
  isplitl [HO]
  · iexists U'; isplitr; · ipureintro; exact fun _ _ => Or.inl trivial
    iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leave_last c m t d7); iexact H9

end Cert.RingMlp
end
-- ==== Proof.Run.lean ====
/-
The run of the four devices, for any float values.
-/
module

public import proofs.«01_k».proof.Proof.Deal
public import proofs.«01_k».proof.Proof.Body
public import Idealize.ShloMosaic.Lib.Pipeline.CollectiveSegs

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- What device `c` enters the region with, the blocks of memory left out. -/
def start : sProp 𝕄 := iprop(G' (given m) c ∗ levAts L lv ∗ cred (tallyAt (barC c) () 3) ∗ cred (tallyAt (exitC c) () 3)
    ∗ bigSep Finset.univ fun φ : Fam => bigSep Finset.univ fun j : Fin 3 => cred (tallyAt (rcvC c φ j) () N))

theorem ownSemFacts : Pipeline.OwnSemFacts cfg0.spec osem := by decide +kernel

theorem share_eq (w : Fin cfg0.W) : (dats m 0 c).share w = fullShare := by unfold Dat.share; split <;> rfl

theorem start_intro : iprop(Pipeline.unscopedRestP Pipeline.Prefetch.none cfg0.spec c (fun b => m ((c : Thread nD τ).loc b)) ∗ levAts L lv
        ∗ Pipeline.launchCred O₀ c ∗ prngReg c (ρ c) ∗ G' (given m) c)
      ⊢ |={Set.univ}=> iprop(start m c ∗ emp) := by
  iintro ⟨-, Hlev, Hcr, -, HG⟩
  ihave Hc := (creds (F := F) c) $$ Hcr
  icases Hc with ⟨H1, H2, H3⟩
  imodintro
  unfold start
  isplitl
  · isplitl [HG]; · iexact HG
    isplitl [Hlev]; · iexact Hlev
    isplitl [H1]; · iexact H1
    isplitl [H2]; · iexact H2
    iexact H3
  · iempintro

theorem first_snd : iprop((bigSep Finset.univ fun φ : Fam => bigSep Finset.univ fun k : Fin 3 => atPos ER (sndC c φ k) 0 ∅ 0)
      ∗ (bigSep Finset.univ fun φ : Fam => bigSep Finset.univ fun k : Fin 3 => dutyTok ER (sndC c φ k) 0 0)
      ∗ (bigSep Finset.univ fun φ : Fam => bigSep Finset.univ fun k : Fin 3 => dutyTok ER (rcvC (peer c k) φ (rev k)) 0 0)
      ∗ bigSep Finset.univ (srcs (F := F) c)) = bigSep Finset.univ (sndSt (given m) c 0) := by
  rw [show sndSt (given m) c 0 = fun φ => iprop((bigSep Finset.univ fun k => TX0 (F := F) c φ k) ∗ srcs (F := F) c φ) from funext fun φ => if_pos rfl, bigSep_sep']
  unfold TX0
  simp only [bigSep_sep', regrouped]
theorem first_rcv : iprop((bigSep Finset.univ fun φ : Fam => bigSep Finset.univ fun j : Fin 3 => atPos ER (rcvC c φ j) 0 ∅ 0)
      ∗ bigSep Finset.univ fun φ : Fam => bigSep Finset.univ fun j : Fin 3 => cred (tallyAt (rcvC c φ j) () N)) = bigSep Finset.univ (rcvSt (given m) c 0) := by
  rw [show rcvSt (given m) c 0 = fun φ => bigSep Finset.univ fun j => RX (F := F) c φ j from funext fun φ => if_pos (Nat.zero_le _)]
  unfold RX
  simp only [bigSep_sep']

theorem first_loc : iprop(any (F := F) c M10 fullShare ∗ any (F := F) c M11 fullShare ∗ any (F := F) c M12 fullShare) ⊢ locSt (given m) c 0 := by
  unfold any locSt
  iintro ⟨⟨%X, H0⟩, ⟨%A, H1⟩, ⟨%B, H2⟩⟩
  iexists X; iexists A; iexists B
  isplitr
  · ipureintro; unfold LocOK; rw [if_pos rfl]; intro h; exact absurd rfl h
  isplitl [H0]; · iexact H0
  isplitl [H1]; · iexact H1
  iexact H2

theorem enter : iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = PhiAt (given m) c 0 from rfl]
  unfold start G' linear payToks PhiAt
  rw [overAll, ← first_snd, ← first_rcv, show extSt (F := F) c 0 = _ from if_pos (by decide), bar_zero]
  iintro ⟨⟨⟨HK, ⟨HaB, HaE, HaS, HaR⟩, HtB, HtE, HtS, HtR⟩, Hlev, HcB, HcE, HcR⟩, -, Hm⟩
  ihave Hm := (stores (F := F) c) $$ Hm
  icases Hm with ⟨H10, H11, H12, Hsrc, Hdst⟩
  isplitl [HK]; · iexact HK
  isplitl [Hlev]; · iexact Hlev
  isplitl [HaS HtS HtR Hsrc]
  · isplitl [HaS]; · iexact HaS
    isplitl [HtS]; · iexact HtS
    isplitl [HtR]; · iexact HtR
    iexact Hsrc
  isplitl [HaR HcR]
  · isplitl [HaR]; · iexact HaR
    iexact HcR
  isplitl [HtB Hdst HaB HcB]
  · isplitl [HtB]; · iexact HtB
    isplitl [Hdst]; · iexact Hdst
    isplitl [HaB]; · iexact HaB
    iexact HcB
  isplitl [HtE HaE HcE]
  · isplitl [HtE]; · iexact HtE
    isplitl [HaE]; · iexact HaE
    iexact HcE
  iapply (first_loc m c)
  isplitl [H10]; · iexact H10
  isplitl [H11]; · iexact H11
  iexact H12

theorem last_loc : locSt (given m) c 96 ⊢ iprop(any (F := F) c M10 fullShare ∗ any (F := F) c M11 fullShare ∗ any (F := F) c M12 fullShare) := by
  unfold any locSt
  iintro ⟨%X, %A, %B, -, H0, H1, H2⟩
  isplitl [H0]; · iexists X; iexact H0
  isplitl [H1]; · iexists A; iexact H1
  iexists B; iexact H2

theorem last_snd : bigSep Finset.univ (sndSt (given m) c 96)
    ⊢ iprop((bigSep Finset.univ fun φ : Fam => bigSep Finset.univ fun k : Fin 3 => semVal (sndC c φ k) 0) ∗ bigSep Finset.univ (srcs (F := F) c)) := by
  rw [← bigSep_sep']
  exact bigSep_mono fun φ _ => (Entails.of_eq (snd_done (given m) c φ)).trans (snd_out c (given m) φ)
theorem last_rcv : bigSep Finset.univ (rcvSt (given m) c 96)
    ⊢ iprop((bigSep Finset.univ fun φ : Fam => bigSep Finset.univ fun j : Fin 3 => semVal (rcvC c φ j) 0)
      ∗ bigSep Finset.univ fun φ : Fam => bigSep Finset.univ fun j : Fin 3 => any (F := F) c (dstM φ j) fullShare) := by
  rw [← bigSep_sep']
  exact bigSep_mono fun φ _ => (Entails.of_eq (rcv_late (given m) c (Nat.lt_succ_of_le (recvAt_le φ)))).trans (rcv_out c (given m) φ)

theorem leave : (dats m 0 c).Φ (Fin.last cfg0.N) ⊢ iprop(unscopedSems0 c ∗ Pipeline.ownSems0 osem c ∗ Pipeline.scopedRest cfg0.spec c) := by
  rw [show (dats m 0 c).Φ (Fin.last cfg0.N) = PhiAt (given m) c 96 from rfl, unscoped_eq, own_eq, overOwn]
  unfold PhiAt
  iintro ⟨-, -, Hs, Hr, HB, HE, Hl⟩
  ihave Hs := (last_snd m c) $$ Hs
  ihave Hr := (last_rcv m c) $$ Hr
  ihave Hl := (last_loc m c) $$ Hl
  icases Hs with ⟨HsS, Hsrc⟩
  icases Hr with ⟨HsR, Hdst⟩
  icases Hl with ⟨H10, H11, H12⟩
  isplitl [HB]; · iapply (Entails.of_eq (show barSt (F := F) c 96 = semVal (barC c) 0 from if_neg (by decide))); iexact HB
  isplitl [HE HsS HsR]
  · isplitl [HE]; · iapply (Entails.of_eq (show extSt (F := F) c 96 = semVal (exitC c) 0 from if_neg (by decide))); iexact HE
    isplitl [HsS]; · iexact HsS
    iexact HsR
  iapply (restored (F := F) c)
  isplitl [H10]; · iexact H10
  isplitl [H11]; · iexact H11
  isplitl [H12]; · iexact H12
  isplitl [Hsrc]; · iexact Hsrc
  iexact Hdst

theorem lv_stage : ∀ n : Fin 74, n.val < 14 → ∀ k : Cell, csem k ≠ .dma (n : DmaSem sig) := by
  intro n hn k h
  match k with
  | none => cases h
  | some .exit => cases h
  | some (.snd φ k) =>
    have h' : sndBase φ + k.val = n.val := congrArg Fin.val (SemLoc.dma.inj h)
    cases φ <;> simp only [sndBase] at h' <;> omega
  | some (.rcv φ k) =>
    have h' : rcvBase φ + k.val = n.val := congrArg Fin.val (SemLoc.dma.inj h)
    cases φ <;> simp only [rcvBase] at h' <;> omega
theorem lv_zero (n : Fin 74) (hn : n.val < 14) : lv ((c : Thread nD τ), .dma (n : DmaSem sig)) () = 0 := by
  show (match decode (.dma n) with | some k => lvCell k | none => 0) = 0
  have h : decode (.dma (n : DmaSem sig)) = none := by
    unfold decode
    exact dif_neg fun ⟨k, hk⟩ => lv_stage n hn k hk
  rw [h]
theorem lvDue_pos : ∀ x : Due, 0 < lvDue x := by decide +kernel

theorem waits : (levAts L lv : sProp 𝕄) ⊢ Pipeline.cellsWaits cfgs (dats m) () 0 c :=
  Pipeline.cellsWaits_intro cfgs (dats m) () 0 c fun w s t =>
    mayWait c _ 0 (by fin_cases w <;> fin_cases s <;> exact lv_zero c ⟨_, by decide⟩ (by decide)) _ fun x _ => lvDue_pos x

/-! ## The run -/

def s₀ : MemSt nD τ sig (Elt F) := ⟨m, fun _ => 0, ρ⟩

def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- For any float values, from any memory with counters at zero: every fair execution of the four devices ends, with each device's
    result at the computed contents, the arguments unchanged, and the counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation c m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => by
      show owing c (pending 96) = 0
      rw [pend_none]; rfl)
    (L := L) (lv := lv) (hL := L_of_ne) (hwaits := waits m)
    (G := G (given m)) (G' := G' (given m)) (u₀ := u₀)
    (hu₀ := by
      unfold u₀
      iintro Hu
      ihave H := (ownU_pair _ _) $$ Hu
      icases H with ⟨HP, HX⟩
      imod (fund (given m)) $$ HX with HG
      imodintro
      isplitl [HP] <;> iassumption)
    (hglob := glob (given m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingMlp
end
-- ==== Proof.Kept.lean ====
/-
After the run the arguments hold what they held.
-/
module

public import proofs.«01_k».proof.Proof.Run

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- After the run every argument holds what it held. -/
theorem kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have k (w : Fin cfg0.W) (hw : (cfg0.win w).isOut = false) := (h c w).trans ((dats (F := F) m 0 c).arrAt_in w hw _)
  ⟨k 0 rfl, k 1 rfl, k 3 rfl, k 5 rfl, k 2 rfl, k 4 rfl, k 6 rfl⟩

end Cert.RingMlp
end
-- ==== Proof.Same.lean ====
/-
The program printed for machine floats and the one printed for exact arithmetic have the same text.
-/
module

public import proofs.«01_k».proof.Defs
public import proofs.«01_k».proof.Proof.Gen.Kernel
public import proofs.«01_k».proof.Proof.Gen.KernelIdeal

@[expose] public section

noncomputable section

namespace Cert.RingMlp

open Idealize.ShloMosaic Idealize.ShloMosaic.TcCoe

set_option maxRecDepth 100000

theorem body_same : @Cert.Kernel.cc0_body Bits _ Cert.Kernel.Gen.facts = @Cert.KernelIdeal.cc0_body Bits _ Cert.KernelIdeal.Gen.facts := rfl

theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl

theorem defs_same : Cert.Kernel.defs (F := Bits) = Cert.KernelIdeal.defs (F := Bits) :=
  congrArg (fun d => Pipeline.defs (Cert.KernelIdeal.pcfgs (F := Bits)) d) defs₀_same

end Cert.RingMlp

end
-- ==== Proof.Algebra.lean ====
/-
One layer in exact arithmetic: the devices' tiles add up to the whole product.
-/
module

public import proofs.«01_k».proof.Proof.Contents
public import Idealize.ShloMosaic.Lib.MatmulPlain
public import Idealize.ShloMosaic.Lib.KernelVsHost

@[expose] public section

set_option maxRecDepth 16384

noncomputable section

namespace Cert.RingMlp

open Cert.KernelIdeal Cert.KernelIdeal.Gen
open Idealize.ShloMosaic Idealize.ShloMosaic.TcCoe
/-! ## Sums cut into tiles -/

/-- A sum over `m * n` numbers as `m` sums over `n`. -/
theorem sum_cut (m n : ℕ) (g : ℕ → EReal) : ∑ k : Fin (m * n), g k.val = ∑ a : Fin m, ∑ b : Fin n, g (n * a.val + b.val) := by
  rw [← Fintype.sum_prod_type', ← Equiv.sum_comp finProdFinEquiv]
  exact Finset.sum_congr rfl fun x _ => congrArg g (Nat.add_comm _ _)

/-- A sum over the devices, counted from any one of them. -/
theorem sum_ring (f : Dev nD → EReal) : ∀ c : Dev nD, f c + f (peer c 0) + f (peer c 1) + f (peer c 2) = ∑ d, f d := by
  have hs : ∑ d, f d = f 0 + f 1 + f 2 + f 3 := Fin.sum_univ_four f
  have hp : ∀ c : Dev nD, (c, peer c 0, peer c 1, peer c 2) ∈ [((0 : Dev nD), (1 : Dev nD), (2 : Dev nD), (3 : Dev nD)), (1, 2, 3, 0), (2, 3, 0, 1), (3, 0, 1, 2)] := by decide
  intro c
  have h := hp c
  simp only [List.mem_cons, Prod.mk.injEq, List.not_mem_nil, or_false] at h
  rw [hs]
  rcases h with ⟨h0, h1, h2, h3⟩ | ⟨h0, h1, h2, h3⟩ | ⟨h0, h1, h2, h3⟩ | ⟨h0, h1, h2, h3⟩ <;> rw [h1, h2, h3, h0] <;> abel

/-! ## Products at an index -/

/-- A product of matrices into zero, at an index. -/
theorem prod_at {M K N : ℕ} (A : FVec Ideal ⟨2, ![M, K]⟩ .f32) (B : FVec Ideal ⟨2, ![K, N]⟩ .f32) (i : Fin M) (j : Fin N) :
    matmul (DotDims.plain M K N) none A B (constant ⟨2, ![M, N]⟩ .f32 0x00000000#32) (ValueIdx.ix2 i j)
      = ∑ k : Fin K, A (ValueIdx.ix2 i k) * B (ValueIdx.ix2 k j) := by
  refine (Ideal.matmul_plain_apply none A B _ i j).trans ?_
  show Ideal.ofBits .f32 0x00000000#32 + _ = _
  rw [Ideal.ofBits_zero_f32, zero_add]

/-- The host's product, at an index. -/
theorem host_prod_at {M K N : ℕ} (A : FVec Ideal ⟨2, ![M, K]⟩ .f32) (B : FVec Ideal ⟨2, ![K, N]⟩ .f32) (i : Fin M) (j : Fin N) :
    Host.dotGeneral (DotDims.plain M K N) none A B (ValueIdx.ix2 i j) = ∑ k : Fin K, A (ValueIdx.ix2 i k) * B (ValueIdx.ix2 k j) :=
  (congrFun (matmul_zero_eq_dotGeneral (DotDims.plain M K N) none A B).symm (ValueIdx.ix2 i j)).trans (prod_at A B i j)

/-! ## One tile -/

/-- What one tile of the hidden axis adds at an index. -/
theorem tile_at (X : FVec Ideal S256x2048 .f32) (W : FVec Ideal S2048x128 .f32) (V : FVec Ideal S128x2048 .f32) (i : Fin 256) (j : Fin 2048) :
    k0_pay4 X W V (ValueIdx.ix2 i j) = ∑ n : Fin 128, max (∑ p : Fin 2048, X (ValueIdx.ix2 i p) * W (ValueIdx.ix2 p n)) 0 * V (ValueIdx.ix2 n j) := by
  have h : k0_pay4 X W V = matmul (DotDims.plain 256 128 2048) none
      (maximumf (matmul (DotDims.plain 256 2048 128) none X W (constant S256x128 .f32 0x00000000#32)) (broadcast S256x128 (Scalar.ofBits .f32 0x00000000#32)))
      V (constant S256x2048 .f32 0x00000000#32) := by
    show matmul _ none (maximumf (matmul _ none X (shapeCast S2048x128 W shapeCasts_S2048x128_S2048x128) _) _)
      (shapeCast S128x2048 V shapeCasts_S128x2048_S128x2048) _ = _
    rw [cast_self, cast_self]; rfl
  rw [h]
  refine (prod_at _ V i j).trans (Finset.sum_congr rfl fun n _ => congrArg (· * V (ValueIdx.ix2 n j)) ?_)
  show max _ (Ideal.ofBits .f32 0x00000000#32) = _
  rw [Ideal.ofBits_zero_f32]
  exact congrArg (max · 0) (prod_at X W i n)

theorem pay5_at (X : FVec Ideal S256x2048 .f32) (W : FVec Ideal S2048x128 .f32) (V : FVec Ideal S128x2048 .f32) (y : S256x2048.Idx) :
    k0_pay5 (F := Ideal) X W V y = k0_pay4 (F := Ideal) X W V y :=
  congrFun (cast_self (k0_pay4 (F := Ideal) X W V) shapeCasts_S256x2048_S256x2048) y
theorem pay6_at (X : FVec Ideal S256x2048 .f32) (W : FVec Ideal S2048x128 .f32) (V : FVec Ideal S128x2048 .f32) (A : FVec Ideal S256x2048 .f32) (y : S256x2048.Idx) :
    k0_pay6 (F := Ideal) X W V A y = A y + k0_pay4 (F := Ideal) X W V y :=
  congrFun (cast_self (addf A (k0_pay4 (F := Ideal) X W V)) shapeCasts_S256x2048_S256x2048) y

/-- The first accumulator after tile `r`. -/
theorem acc_low (X : FVec Ideal S256x2048 .f32) (W : ℕ → FVec Ideal S2048x128 .f32) (V : ℕ → FVec Ideal S128x2048 .f32) (y : S256x2048.Idx) :
    ∀ r, r < 16 → acc X W V r y = ∑ s ∈ Finset.range (r + 1), k0_pay4 X (W s) (V s) y
  | 0, _ => by rw [Finset.sum_range_one]; exact pay5_at _ _ _ y
  | r + 1, h => by
    rw [Finset.sum_range_succ, ← acc_low X W V y r (by omega)]
    show (if r + 1 = 16 then _ else _ : FVec Ideal S256x2048 .f32) y = _
    rw [if_neg (by omega)]
    exact pay6_at _ _ _ _ y

/-- The second after tile `16 + r`. -/
theorem acc_high (X : FVec Ideal S256x2048 .f32) (W : ℕ → FVec Ideal S2048x128 .f32) (V : ℕ → FVec Ideal S128x2048 .f32) (y : S256x2048.Idx) :
    ∀ r, r < 16 → acc X W V (16 + r) y = ∑ s ∈ Finset.range (r + 1), k0_pay4 X (W (16 + s)) (V (16 + s)) y
  | 0, _ => by
    rw [Finset.sum_range_one]
    show (if 15 + 1 = 16 then _ else _ : FVec Ideal S256x2048 .f32) y = _
    rw [if_pos rfl]
    exact pay5_at _ _ _ y
  | r + 1, h => by
    rw [Finset.sum_range_succ, ← acc_high X W V y r (by omega)]
    show (if 16 + r + 1 = 16 then _ else _ : FVec Ideal S256x2048 .f32) y = _
    rw [if_neg (by omega)]
    exact pay6_at _ _ _ _ y

/-- Two sums over sixteen make one over thirty-two. -/
theorem two_halves {a b : EReal} (T : ℕ → EReal) (ha : a = ∑ s ∈ Finset.range 16, T s) (hb : b = ∑ s ∈ Finset.range 16, T (16 + s)) :
    a + b = ∑ s : Fin 32, T s.val := by
  rw [ha, hb, Fin.sum_univ_eq_sum_range T 32]
  exact (Finset.sum_range_add T 16 16).symm

/-- The two accumulators of a device together hold all its tiles. -/
theorem acc_both (X : FVec Ideal S256x2048 .f32) (W : ℕ → FVec Ideal S2048x128 .f32) (V : ℕ → FVec Ideal S128x2048 .f32) (y : S256x2048.Idx) :
    acc X W V 15 y + acc X W V 31 y = ∑ s : Fin 32, k0_pay4 X (W s.val) (V s.val) y := by
  exact two_halves (fun s => k0_pay4 (F := Ideal) X (W s) (V s) y) (acc_low X W V y 15 (by omega)) (acc_high X W V y 15 (by omega))

/-! ## One layer -/

/-- The finished rows are the sum of both halves of all devices. -/
theorem sumUp_at (a b : FVec Ideal S64x2048 .f32) (s t : Fin 3 → FVec Ideal S64x2048 .f32) (y : S64x2048.Idx) :
    sumUp a b (fun k => tr (s k)) (fun k => tr (t k)) y
      = (a y + b y) + (s 0 y + t 0 y) + (s 1 y + t 1 y) + (s 2 y + t 2 y) := by
  have h : sumUp a b (fun k => tr (s k)) (fun k => tr (t k)) y
      = ((a y + b y) + ((s 0 y + s 1 y) + s 2 y)) + ((t 0 y + t 1 y) + t 2 y) := by
    unfold sumUp k0_pay37 k0_pay34 k0_pay35 k0_pay36
    simp only [cast_up4]
    rfl
  rw [h]; abel

variable (D : Inp Ideal)

/-- One layer's rows on a device, when every device starts from the same array. -/
theorem redOf_at (X : FVec Ideal S256x2048 .f32) (l : Fin 3) (c : Dev nD) (y : S64x2048.Idx) :
    redOf D (fun _ => X) l c y
      = ∑ d : Dev nD, ∑ r : Fin 32, k0_pay4 X (D.wi l d r.val) (D.wo l d r.val) ((rowR c).emb y) := by
  refine (sumUp_at _ _ (fun k => rows c (accOf D (fun _ => X) l (peer c k) 15)) (fun k => rows c (accOf D (fun _ => X) l (peer c k) 31)) y).trans ?_
  refine (sum_ring (fun d => accOf D (fun _ => X) l d 15 ((rowR c).emb y) + accOf D (fun _ => X) l d 31 ((rowR c).emb y)) c).trans ?_
  exact Finset.sum_congr rfl fun d _ => acc_both X (D.wi l d) (D.wo l d) _

/-- In exact arithmetic the narrow format loses nothing, so every device gathers the same array. -/
theorem gather_eq (f : Dev nD → FVec Ideal S64x2048 .f32) (c : Dev nD) : gather f c = asm f := by
  funext i
  show (if devOf i = c then f (devOf i) else ex (tr (f (devOf i)))) (inBlk i) = _
  split <;> rfl

/-- The array leaving a layer, at an index: the sum over the devices and their tiles. -/
theorem layer_at (X : FVec Ideal S256x2048 .f32) (l : Fin 3) (c : Dev nD) (i : Fin 256) (j : Fin 2048) :
    gather (redOf D (fun _ => X) l) c (ValueIdx.ix2 i j)
      = ∑ d : Dev nD, ∑ r : Fin 32, k0_pay4 X (D.wi l d r.val) (D.wo l d r.val) (ValueIdx.ix2 i j) := by
  rw [gather_eq]
  show redOf D (fun _ => X) l (devOf (ValueIdx.ix2 i j)) (inBlk (ValueIdx.ix2 i j)) = _
  rw [redOf_at, emb_devOf]

/-- The two weights of a layer laid out over the devices and their tiles. -/
structure Laid (l : Fin 3) (Wi : FVec Ideal ⟨2, ![2048, 16384]⟩ .f32) (Wo : FVec Ideal ⟨2, ![16384, 2048]⟩ .f32) : Prop where
  inn : ∀ (d : Dev nD) (r : Fin 32) (n : Fin 128) (p : Fin 2048) (h : 128 * (32 * d.val + r.val) + n.val < 16384),
    D.wi l d r.val (ValueIdx.ix2 p n) = Wi (ValueIdx.ix2 p ⟨128 * (32 * d.val + r.val) + n.val, h⟩)
  out : ∀ (d : Dev nD) (r : Fin 32) (n : Fin 128) (q : Fin 2048) (h : 128 * (32 * d.val + r.val) + n.val < 16384),
    D.wo l d r.val (ValueIdx.ix2 n q) = Wo (ValueIdx.ix2 ⟨128 * (32 * d.val + r.val) + n.val, h⟩ q)

/-- One layer as the whole arrays give it. -/
def whole (X : FVec Ideal ⟨2, ![256, 2048]⟩ .f32) (Wi : FVec Ideal ⟨2, ![2048, 16384]⟩ .f32) (Wo : FVec Ideal ⟨2, ![16384, 2048]⟩ .f32) (i : Fin 256) (j : Fin 2048) : EReal :=
  ∑ k : Fin 16384, max (∑ p : Fin 2048, X (ValueIdx.ix2 i p) * Wi (ValueIdx.ix2 p k)) 0 * Wo (ValueIdx.ix2 k j)

/-- The devices' tiles make up the hidden axis. -/
theorem layer_whole {l : Fin 3} {Wi : FVec Ideal ⟨2, ![2048, 16384]⟩ .f32} {Wo : FVec Ideal ⟨2, ![16384, 2048]⟩ .f32} (hL : Laid D l Wi Wo)
    (X : FVec Ideal S256x2048 .f32) (c : Dev nD) (i : Fin 256) (j : Fin 2048) :
    gather (redOf D (fun _ => X) l) c (ValueIdx.ix2 i j) = whole X Wi Wo i j := by
  rw [layer_at]
  let f : Fin 16384 → EReal := fun k => max (∑ p : Fin 2048, X (ValueIdx.ix2 i p) * Wi (ValueIdx.ix2 p k)) 0 * Wo (ValueIdx.ix2 k j)
  let g : ℕ → EReal := fun k => if h : k < 16384 then f ⟨k, h⟩ else 0
  have hg (k : ℕ) (h : k < 16384) : g k = f ⟨k, h⟩ := dif_pos h
  have e1 : whole X Wi Wo i j = ∑ k : Fin (128 * 128), g k.val := Finset.sum_congr rfl fun k _ => (hg k.val k.isLt).symm
  rw [e1, sum_cut 128 128 g]
  refine Eq.trans ?_ (sum_cut 4 32 (fun a => ∑ b : Fin 128, g (128 * a + b.val))).symm
  refine Finset.sum_congr rfl fun d _ => Finset.sum_congr rfl fun r _ => ?_
  rw [tile_at]
  refine Finset.sum_congr rfl fun n _ => ?_
  have hd : d.val < 4 := d.isLt
  have h : 128 * (32 * d.val + r.val) + n.val < 16384 := by have := r.isLt; have := n.isLt; omega
  rw [hg _ h, hL.out d r n j h]
  exact congrArg (fun z => max z 0 * _) (Finset.sum_congr rfl fun p _ => congrArg (X (ValueIdx.ix2 i p) * ·) (hL.inn d r n p h))

end Cert.RingMlp
end
-- ==== Proof.Blocks.lean ====
/-
Which part of the arguments each tile reads.
-/
module

public import proofs.«01_k».proof.Proof.Algebra
public import proofs.«01_k».proof.Proof.Kept
public import Idealize.ShloMosaic.Lib.Pipeline.ValueKit

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the blocks lie -/

theorem at_x : ∀ t : Fin cfg0.N, win0_0.index t = ![0, 0] := (by decide +kernel : ∀ t : Fin grid0.N, _)
theorem at_in0 : ∀ r : Fin 32, win0_1.index (pt 0 r.val) = ![0, r.val] := by decide +kernel
theorem at_in1 : ∀ r : Fin 32, win0_3.index (pt 1 r.val) = ![0, r.val] := by decide +kernel
theorem at_in2 : ∀ r : Fin 32, win0_5.index (pt 2 r.val) = ![0, r.val] := by decide +kernel
theorem at_out0 : ∀ r : Fin 32, win0_2.index (pt 0 r.val) = ![r.val, 0] := by decide +kernel
theorem at_out1 : ∀ r : Fin 32, win0_4.index (pt 1 r.val) = ![r.val, 0] := by decide +kernel
theorem at_out2 : ∀ r : Fin 32, win0_6.index (pt 2 r.val) = ![r.val, 0] := by decide +kernel

/-! ## What they read -/

/-- A device's share of a layer's first weight. -/
def shareIn (c : Dev nD) : Fin 3 → FVec F S2048x4096 .f32
  | 0 => m ((c : Thread nD τ).loc main_arg1) | 1 => m ((c : Thread nD τ).loc main_arg2) | 2 => m ((c : Thread nD τ).loc main_arg3)
/-- And of its second. -/
def shareOut (c : Dev nD) : Fin 3 → FVec F S4096x2048 .f32
  | 0 => m ((c : Thread nD τ).loc main_arg4) | 1 => m ((c : Thread nD τ).loc main_arg5) | 2 => m ((c : Thread nD τ).loc main_arg6)

/-- The device's rows of `x`, at any point. -/
theorem block_x (c : Dev nD) (t : Fin cfg0.N) (y : S64x2048.Idx) : iblk m c 0 t y = m ((c : Thread nD τ).loc main_arg0) y := by
  blk_ext [iblk, at_x t]
theorem given_x (c : Dev nD) (y : S64x2048.Idx) : (given m).x c y = m ((c : Thread nD τ).loc main_arg0) y := by
  show iblk m c 0 ⟨0, by decide⟩ y = _
  exact block_x m c _ y

/-- A tile of the first weight is a run of its columns. -/
theorem given_in (c : Dev nD) (r : Fin 32) (n : Fin 128) (p : Fin 2048) (h : 128 * r.val + n.val < 4096) :
    ∀ l : Fin 3, (given m).wi l c r.val (ValueIdx.ix2 p n) = shareIn m c l (ValueIdx.ix2 p ⟨128 * r.val + n.val, h⟩)
  | 0 => by
    show iblk m c 1 (pt 0 r.val) (ValueIdx.ix2 p n) = m ((c : Thread nD τ).loc main_arg1) _
    blk_ext [iblk, at_in0 r]; show r.val * 128 + n.val = _; omega
  | 1 => by
    show iblk m c 3 (pt 1 r.val) (ValueIdx.ix2 p n) = m ((c : Thread nD τ).loc main_arg2) _
    blk_ext [iblk, at_in1 r]; show r.val * 128 + n.val = _; omega
  | 2 => by
    show iblk m c 5 (pt 2 r.val) (ValueIdx.ix2 p n) = m ((c : Thread nD τ).loc main_arg3) _
    blk_ext [iblk, at_in2 r]; show r.val * 128 + n.val = _; omega

/-- A tile of the second is a run of its rows. -/
theorem given_out (c : Dev nD) (r : Fin 32) (n : Fin 128) (q : Fin 2048) (h : 128 * r.val + n.val < 4096) :
    ∀ l : Fin 3, (given m).wo l c r.val (ValueIdx.ix2 n q) = shareOut m c l (ValueIdx.ix2 ⟨128 * r.val + n.val, h⟩ q)
  | 0 => by
    show iblk m c 2 (pt 0 r.val) (ValueIdx.ix2 n q) = m ((c : Thread nD τ).loc main_arg4) _
    blk_ext [iblk, at_out0 r]; show r.val * 128 + n.val = _; omega
  | 1 => by
    show iblk m c 4 (pt 1 r.val) (ValueIdx.ix2 n q) = m ((c : Thread nD τ).loc main_arg5) _
    blk_ext [iblk, at_out1 r]; show r.val * 128 + n.val = _; omega
  | 2 => by
    show iblk m c 6 (pt 2 r.val) (ValueIdx.ix2 n q) = m ((c : Thread nD τ).loc main_arg6) _
    blk_ext [iblk, at_out2 r]; show r.val * 128 + n.val = _; omega

/-! ## What is written back -/

/-- The result's window is written back once, whole: the result array is the array leaving the last layer. -/
theorem result (c : Dev nD) : finalA m c 7 = XL (given m) 3 c := by
  refine (dats m 0 c).arrAt_eq_of_after_last 7 ⟨95, by decide⟩ (by decide +kernel) _ fun j => ?_
  rfl

end Cert.RingMlp
end
-- ==== Proof.Values.lean ====
/-
The result is the reference's, on every device.
-/
module

public import proofs.«01_k».proof.Proof.Blocks
public import proofs.«01_k».proof.Proof.Gen.ReferenceIdeal.Run

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The reference, one layer -/

/-- One layer as the host computes it. -/
def hostLayer (X : FVec Ideal ⟨2, ![256, 2048]⟩ .f32) (Wi : FVec Ideal ⟨2, ![2048, 16384]⟩ .f32) (Wo : FVec Ideal ⟨2, ![16384, 2048]⟩ .f32) :
    FVec Ideal ⟨2, ![256, 2048]⟩ .f32 :=
  Host.dotGeneral Cert.ReferenceIdeal.dot_S256x16384_S16384x2048_S256x2048_1_0_0_1_n_n none
    (maximumf (Host.dotGeneral Cert.ReferenceIdeal.dot_S256x2048_S2048x16384_S256x16384_1_0_0_1_n_n none X Wi)
      (broadcastInDim Cert.ReferenceIdeal.S256x16384 ![] Cert.ReferenceIdeal.Facts₀.bcast_S_S256x16384 (constant Cert.ReferenceIdeal.S_ .f32 0x00000000#32))) Wo

theorem hostLayer_at (X : FVec Ideal ⟨2, ![256, 2048]⟩ .f32) (Wi : FVec Ideal ⟨2, ![2048, 16384]⟩ .f32) (Wo : FVec Ideal ⟨2, ![16384, 2048]⟩ .f32)
    (i : Fin 256) (j : Fin 2048) : hostLayer X Wi Wo (ValueIdx.ix2 i j) = whole X Wi Wo i j := by
  refine (host_prod_at _ Wo i j).trans (Finset.sum_congr rfl fun k _ => congrArg (· * Wo (ValueIdx.ix2 k j)) ?_)
  show max _ (Ideal.ofBits .f32 0x00000000#32) = _
  rw [Ideal.ofBits_zero_f32]
  exact congrArg (max · 0) (host_prod_at X Wi i k)

/-! ## The kernel's layers are the reference's -/

variable (m : (ℓ : Loc nD τ sig) → Buf (Elt Ideal) ℓ)

/-- How the whole arrays are dealt out: `x` by rows, the first weights by columns, the second by rows. -/
structure Dealt (X : FVec Ideal ⟨2, ![256, 2048]⟩ .f32) (Wi : Fin 3 → FVec Ideal ⟨2, ![2048, 16384]⟩ .f32) (Wo : Fin 3 → FVec Ideal ⟨2, ![16384, 2048]⟩ .f32) : Prop where
  x : ∀ c : Dev nD, m ((c : Thread nD τ).loc main_arg0) = Layout.block ⟨2, ![64, 2048]⟩ ⟨2, ![256, 2048]⟩ 0 4 c X
  inn : ∀ (c : Dev nD) l, shareIn m c l = Layout.block ⟨2, ![2048, 4096]⟩ ⟨2, ![2048, 16384]⟩ 1 4 c (Wi l)
  out : ∀ (c : Dev nD) l, shareOut m c l = Layout.block ⟨2, ![4096, 2048]⟩ ⟨2, ![16384, 2048]⟩ 0 4 c (Wo l)

variable {m} {X : FVec Ideal ⟨2, ![256, 2048]⟩ .f32} {Wi : Fin 3 → FVec Ideal ⟨2, ![2048, 16384]⟩ .f32} {Wo : Fin 3 → FVec Ideal ⟨2, ![16384, 2048]⟩ .f32}
variable (H : Dealt m X Wi Wo)
include H

/-- The array every device gathers first is `x`. -/
theorem first_whole (c : Dev nD) : XL (given m) 0 c = X := by
  refine (gather_eq (given m).x c).trans (funext fun i => ?_)
  show (given m).x (devOf i) (inBlk i) = X i
  rw [given_x, H.x, Layout.block_apply]
  refine congrArg X (funext fun a => Fin.ext ?_)
  match a with
  | ⟨0, _⟩ => show (i 0).val / 64 * 64 + (i 0).val % 64 = (i 0).val; omega
  | ⟨1, _⟩ => rfl

/-- The tiles of a layer lie where the whole weights say. -/
theorem laid (l : Fin 3) : Laid (given m) l (Wi l) (Wo l) where
  inn d r n p h := by
    have hr := r.isLt
    have hn := n.isLt
    rw [given_in m d r n p (by omega) l, H.inn, Layout.block_apply]
    refine congrArg (Wi l) (funext fun a => Fin.ext ?_)
    match a with
    | ⟨0, _⟩ => rfl
    | ⟨1, _⟩ => show d.val * 4096 + (128 * r.val + n.val) = 128 * (32 * d.val + r.val) + n.val; omega
  out d r n q h := by
    have hr := r.isLt
    have hn := n.isLt
    rw [given_out m d r n q (by omega) l, H.out, Layout.block_apply]
    refine congrArg (Wo l) (funext fun a => Fin.ext ?_)
    match a with
    | ⟨0, _⟩ => show d.val * 4096 + (128 * r.val + n.val) = 128 * (32 * d.val + r.val) + n.val; omega
    | ⟨1, _⟩ => rfl

/-- One layer: what was the same whole array on every device is so again. -/
theorem next_whole (l : Fin 3) {Y : FVec Ideal ⟨2, ![256, 2048]⟩ .f32} (hY : ∀ c, XL (given m) l.val c = Y) (c : Dev nD) :
    XL (given m) (l.val + 1) c = hostLayer Y (Wi l) (Wo l) := by
  have h : XL (given m) l.val = fun _ => Y := funext hY
  show gather (redOf (given m) (XL (given m) l.val) (lay l.val)) c = _
  rw [lay_val, h]
  funext i
  rw [ValueIdx.eq_ix2 i]
  exact (layer_whole (given m) (laid H l) Y c (i 0) (i 1)).trans (hostLayer_at Y (Wi l) (Wo l) (i 0) (i 1)).symm

/-- The array leaving the last layer, on every device. -/
theorem last_whole (c : Dev nD) :
    XL (given m) 3 c = hostLayer (hostLayer (hostLayer X (Wi 0) (Wo 0)) (Wi 1) (Wo 1)) (Wi 2) (Wo 2) :=
  next_whole H 2 (next_whole H 1 (next_whole H 0 (first_whole H))) c

end Cert.RingMlp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kept
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- The kernel's frame: its run (Proof/Run.lean, for any float values) at machine floats, the two programs' texts being the same. -/
theorem frame_kernel : Cert.quiescent_Kernel := fun m ρ _ =>
  Eq.mpr (congrArg (fun d => θ_run d (onTc (τ := Cert.KernelIdeal.τ) (Cert.KernelIdeal.main (F := Bits))) ⟨m, fun _ => 0, ρ⟩ _) Cert.RingMlp.defs_same)
    ((θ_run (Cert.KernelIdeal.defs (F := Bits)) (onTc (τ := Cert.KernelIdeal.τ) (Cert.KernelIdeal.main (F := Bits))) (Cert.RingMlp.s₀ m ρ)).mono
      (fun _ h => ⟨fun c => Cert.RingMlp.kept m h.1 c, h.2⟩) (Cert.RingMlp.run_main (F := Bits) m ρ))

/-- The same run in exact arithmetic. -/
theorem frame_kernelIdeal : Cert.quiescent_KernelIdeal := fun m ρ _ =>
  (θ_run Cert.KernelIdeal.defs _ _).mono (fun _ h => ⟨fun c => Cert.RingMlp.kept m h.1 c, h.2⟩) (Cert.RingMlp.run_main (F := Ideal) m ρ)

/-- The reference is a straight-line host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized program is the kernel as printed: nothing is rewritten. -/
theorem preserves : Cert.preserves_Kernel_KernelIdeal := trivial

/-- In exact arithmetic every device's result is the reference's whole result. -/
theorem algebraic : Cert.algebraic_KernelIdeal_ReferenceIdeal := by
  intro m g m' g' _ hb
  have H : Cert.RingMlp.Dealt m (m' (((0 : Dev Cert.ReferenceIdeal.nD).tc : Thread Cert.ReferenceIdeal.nD Cert.ReferenceIdeal.τ).loc Cert.ReferenceIdeal.main_arg0))
      (fun | 0 => m' (((0 : Dev Cert.ReferenceIdeal.nD).tc : Thread Cert.ReferenceIdeal.nD Cert.ReferenceIdeal.τ).loc Cert.ReferenceIdeal.main_arg1)
           | 1 => m' (((0 : Dev Cert.ReferenceIdeal.nD).tc : Thread Cert.ReferenceIdeal.nD Cert.ReferenceIdeal.τ).loc Cert.ReferenceIdeal.main_arg2)
           | 2 => m' (((0 : Dev Cert.ReferenceIdeal.nD).tc : Thread Cert.ReferenceIdeal.nD Cert.ReferenceIdeal.τ).loc Cert.ReferenceIdeal.main_arg3))
      (fun | 0 => m' (((0 : Dev Cert.ReferenceIdeal.nD).tc : Thread Cert.ReferenceIdeal.nD Cert.ReferenceIdeal.τ).loc Cert.ReferenceIdeal.main_arg4)
           | 1 => m' (((0 : Dev Cert.ReferenceIdeal.nD).tc : Thread Cert.ReferenceIdeal.nD Cert.ReferenceIdeal.τ).loc Cert.ReferenceIdeal.main_arg5)
           | 2 => m' (((0 : Dev Cert.ReferenceIdeal.nD).tc : Thread Cert.ReferenceIdeal.nD Cert.ReferenceIdeal.τ).loc Cert.ReferenceIdeal.main_arg6)) :=
    { x := fun c => (hb c).1
      inn := fun c l => match l with
        | 0 => (hb c).2.1 | 1 => (hb c).2.2.1 | 2 => (hb c).2.2.2.1
      out := fun c l => match l with
        | 0 => (hb c).2.2.2.2.1 | 1 => (hb c).2.2.2.2.2.1 | 2 => (hb c).2.2.2.2.2.2 }
  exact ⟨_, (θ_run Cert.KernelIdeal.defs _ _).mono
      (fun _ h c => ⟨(h.1 c 7).trans ((Cert.RingMlp.result m c).trans (Cert.RingMlp.last_whole H c)), Cert.RingMlp.kept m h.1 c⟩)
      (Cert.RingMlp.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_kernelIdeal, frame_reference, preserves, algebraic⟩

end Cert.Proof

end
